-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup_range [hPre_setup_range : Cert.Pre_setup_range.Facts] (m : (ℓ : Loc Cert.KernelIdeal.nD Cert.KernelIdeal.τ Cert.KernelIdeal.sig) → Buf (Elt Ideal) ℓ) : Prop :=
  ∀ c : Dev Cert.KernelIdeal.nD,
    (Cert.Pre_setup_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup_range [hPre_setup_range : Cert.Pre_setup_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_setup_range [hKernelIdeal : Cert.KernelIdeal.Facts] [hPre_setup_range : Cert.Pre_setup_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_setup_range [hReferenceIdeal : Cert.ReferenceIdeal.Facts] [hPre_setup_range : Cert.Pre_setup_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_setup_range [hKernelIdeal : Cert.KernelIdeal.Facts] [hReferenceIdeal : Cert.ReferenceIdeal.Facts] [hPre_setup_range : Cert.Pre_setup_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_setup_range : Cert.Pre_setup_range.Facts),
    quiescent_Kernel (hKernel := hKernel)
    ∧ quiescent_KernelIdeal (hKernelIdeal := hKernelIdeal)
    ∧ quiescent_KernelIdeal_pre_setup_range (hKernelIdeal := hKernelIdeal) (hPre_setup_range := hPre_setup_range)
    ∧ quiescent_ReferenceIdeal (hReferenceIdeal := hReferenceIdeal)
    ∧ quiescent_ReferenceIdeal_pre_setup_range (hReferenceIdeal := hReferenceIdeal) (hPre_setup_range := hPre_setup_range)
    ∧ preserves_Kernel_KernelIdeal
    ∧ algebraic_KernelIdeal_ReferenceIdeal_pre_setup_range (hKernelIdeal := hKernelIdeal) (hReferenceIdeal := hReferenceIdeal) (hPre_setup_range := hPre_setup_range)
-- ==== Pre_setup_range.lean ====
abbrev S4x20x1024 : Shape := ⟨3, ![4, 20, 1024]⟩
abbrev S4x20 : Shape := ⟨2, ![4, 20]⟩
abbrev S1024x128 : Shape := ⟨2, ![1024, 128]⟩
abbrev S1024x1024 : Shape := ⟨2, ![1024, 1024]⟩
abbrev S128x1024 : Shape := ⟨2, ![128, 1024]⟩
abbrev S_ : Shape := ⟨0, ![]⟩
abbrev S4x1x1024 : Shape := ⟨3, ![4, 1, 1024]⟩
abbrev S4x1024 : Shape := ⟨2, ![4, 1024]⟩
abbrev S4x6 : Shape := ⟨2, ![4, 6]⟩
abbrev S4x5 : Shape := ⟨2, ![4, 5]⟩
abbrev S4x5x1 : Shape := ⟨3, ![4, 5, 1]⟩
abbrev S4x5x1024 : Shape := ⟨3, ![4, 5, 1024]⟩
abbrev S1x1024x1024 : Shape := ⟨3, ![1, 1024, 1024]⟩
abbrev S4x1024x1024 : Shape := ⟨3, ![4, 1024, 1024]⟩
abbrev S4x1024x1 : Shape := ⟨3, ![4, 1024, 1]⟩

class Facts : Prop where
  transposes_S1024x128_S128x1024_1_0 : S1024x128.Transposes [1, 0] S128x1024
  bcast_S_S1024x1024 : S_.BroadcastsInDim S1024x1024 (![] : Fin 0 → Fin S1024x1024.rank)
  slices_S4x20x1024_S4x1x1024_0_0_0 : S4x20x1024.Slices ![0, 0, 0] S4x1x1024
  shapeCasts_S4x1x1024_S4x1024 : S4x1x1024.ShapeCasts S4x1024
  sliceFits_S4x1024_S4x6 : S4x1024.Slices (fun _ => 0) S4x6
  slices_S4x6_S4x5_0_1 : S4x6.Slices ![0, 1] S4x5
  slices_S4x6_S4x5_0_0 : S4x6.Slices ![0, 0] S4x5
  reducesTo_S4x5_S_d0_1 : S4x5.ReducesTo [0, 1] S_
  h_S_ : 0 < S_.numel
  slices_S4x20x1024_S4x1x1024_0_1_0 : S4x20x1024.Slices ![0, 1, 0] S4x1x1024
  sliceFits_S4x1024_S4x5 : S4x1024.Slices (fun _ => 0) S4x5
  bcast_S_S4x5 : S_.BroadcastsInDim S4x5 (![] : Fin 0 → Fin S4x5.rank)
  bcast_S4x5_S4x5x1_0_1 : S4x5.BroadcastsInDim S4x5x1 (![0, 1] : Fin 2 → Fin S4x5x1.rank)
  reducesTo_S4x5x1024_S4x1024_d1 : S4x5x1024.ReducesTo [1] S4x1024
  bcast_S_S4x1024 : S_.BroadcastsInDim S4x1024 (![] : Fin 0 → Fin S4x1024.rank)
  bcast_S4x1024_S4x1x1024_0_2 : S4x1024.BroadcastsInDim S4x1x1024 (![0, 2] : Fin 2 → Fin S4x1x1024.rank)
  bcast_S1024x1024_S1x1024x1024_1_2 : S1024x1024.BroadcastsInDim S1x1024x1024 (![1, 2] : Fin 2 → Fin S1x1024x1024.rank)
  bcast_S4x1x1024_S4x1024x1024_0_1_2 : S4x1x1024.BroadcastsInDim S4x1024x1024 (![0, 1, 2] : Fin 3 → Fin S4x1024x1024.rank)
  bcast_S1x1024x1024_S4x1024x1024_0_1_2 : S1x1024x1024.BroadcastsInDim S4x1024x1024 (![0, 1, 2] : Fin 3 → Fin S4x1024x1024.rank)
  bcast_S4x1024_S4x1024x1_0_1 : S4x1024.BroadcastsInDim S4x1024x1 (![0, 1] : Fin 2 → Fin S4x1024x1.rank)
  bcast_S4x1024x1_S4x1024x1024_0_1_2 : S4x1024x1.BroadcastsInDim S4x1024x1024 (![0, 1, 2] : Fin 3 → Fin S4x1024x1024.rank)
  reducesTo_S4x1024x1024_S4x1024_d2 : S4x1024x1024.ReducesTo [2] S4x1024
  bcast_S_S4x1024x1 : S_.BroadcastsInDim S4x1024x1 (![] : Fin 0 → Fin S4x1024x1.rank)
  shapeCasts_S4x1024x1_S4x1024 : S4x1024x1.ShapeCasts S4x1024
  slices_S4x20x1024_S4x1x1024_0_2_0 : S4x20x1024.Slices ![0, 2, 0] S4x1x1024
  slices_S4x20x1024_S4x1x1024_0_3_0 : S4x20x1024.Slices ![0, 3, 0] S4x1x1024
  slices_S4x20x1024_S4x1x1024_0_4_0 : S4x20x1024.Slices ![0, 4, 0] S4x1x1024
  slices_S4x20x1024_S4x1x1024_0_5_0 : S4x20x1024.Slices ![0, 5, 0] S4x1x1024
  slices_S4x20x1024_S4x1x1024_0_6_0 : S4x20x1024.Slices ![0, 6, 0] S4x1x1024
  slices_S4x20x1024_S4x1x1024_0_7_0 : S4x20x1024.Slices ![0, 7, 0] S4x1x1024
  slices_S4x20x1024_S4x1x1024_0_8_0 : S4x20x1024.Slices ![0, 8, 0] S4x1x1024
  slices_S4x20x1024_S4x1x1024_0_9_0 : S4x20x1024.Slices ![0, 9, 0] S4x1x1024
  slices_S4x20x1024_S4x1x1024_0_10_0 : S4x20x1024.Slices ![0, 10, 0] S4x1x1024
  slices_S4x20x1024_S4x1x1024_0_11_0 : S4x20x1024.Slices ![0, 11, 0] S4x1x1024
  slices_S4x20x1024_S4x1x1024_0_12_0 : S4x20x1024.Slices ![0, 12, 0] S4x1x1024
  slices_S4x20x1024_S4x1x1024_0_13_0 : S4x20x1024.Slices ![0, 13, 0] S4x1x1024
  slices_S4x20x1024_S4x1x1024_0_14_0 : S4x20x1024.Slices ![0, 14, 0] S4x1x1024
  slices_S4x20x1024_S4x1x1024_0_15_0 : S4x20x1024.Slices ![0, 15, 0] S4x1x1024
  slices_S4x20x1024_S4x1x1024_0_16_0 : S4x20x1024.Slices ![0, 16, 0] S4x1x1024
  slices_S4x20x1024_S4x1x1024_0_17_0 : S4x20x1024.Slices ![0, 17, 0] S4x1x1024
  slices_S4x20x1024_S4x1x1024_0_18_0 : S4x20x1024.Slices ![0, 18, 0] S4x1x1024
  slices_S4x20x1024_S4x1x1024_0_19_0 : S4x20x1024.Slices ![0, 19, 0] S4x1x1024
  bcast_S_S4x20x1024 : S_.BroadcastsInDim S4x20x1024 (![] : Fin 0 → Fin S4x20x1024.rank)
  reducesTo_S4x20x1024_S_d0_1_2 : S4x20x1024.ReducesTo [0, 1, 2] S_
  bcast_S_S1024x128 : S_.BroadcastsInDim S1024x128 (![] : Fin 0 → Fin S1024x128.rank)
  reducesTo_S1024x128_S_d0_1 : S1024x128.ReducesTo [0, 1] S_
  reducesTo_S1024x1024_S_d0_1 : S1024x1024.ReducesTo [0, 1] S_
  bcast_S_S4x20 : S_.BroadcastsInDim S4x20 (![] : Fin 0 → Fin S4x20.rank)
  reducesTo_S4x20_S_d0_1 : S4x20.ReducesTo [0, 1] S_
  dot_S1024x128_S128x1024_S1024x1024_1_0_0_1_n_n_wf : DotDims.WF S1024x128 S128x1024 S1024x1024 [1] [0] [0] [1] [] []
  gather_S1024x1024_S4x5x1_S4x5x1024_2_0_n_n_0_2_11024_wf : GatherDims.WF S1024x1024 S4x5x1 S4x5x1024 [2] [0] [] [0] [] 2 ![1, 1024]

variable [Facts]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def gather_S1024x1024_S4x5x1_S4x5x1024_2_0_n_n_0_2_11024 : GatherDims S1024x1024 S4x5x1 S4x5x1024 where
  offsetDims := [2]
  collapsedSliceDims := [0]
  operandBatchingDims := []
  startIndicesBatchingDims := []
  startIndexMap := [0]
  indexVectorDim := 2
  sliceSizes := ![1, 1024]
  wf := gather_S1024x1024_S4x5x1_S4x5x1024_2_0_n_n_0_2_11024_wf
def fn_relu {F : FTy → Type} [FloatOps F] (arg0 : FVec F S1024x1024 .f32) : FVec F S1024x1024 .f32 :=
  let cst : FVec F S_ .f32 := constant S_ .f32 0x00000000#32
  let v0 : FVec F S1024x1024 .f32 := broadcastInDim S1024x1024 ![] bcast_S_S1024x1024 cst
  let v1 : FVec F S1024x1024 .f32 := maximumf arg0 v0
  v1

def fn_where {F : FTy → Type} [FloatOps F] (arg0 : IVec S4x1024x1 1) (arg1 : FVec F S4x1024x1 .f32) (arg2 : FVec F S_ .f32) : FVec F S4x1024x1 .f32 :=
  let v0 : FVec F S_ .f32 := id arg2
  let v1 : FVec F S4x1024x1 .f32 := broadcastInDim S4x1024x1 ![] bcast_S_S4x1024x1 v0
  let v2 : FVec F S4x1024x1 .f32 := select arg0 arg1 v1
  v2

def fn_where_0 {F : FTy → Type} [FloatOps F] (arg0 : IVec S4x1024 1) (arg1 : FVec F S4x1024 .f32) (arg2 : FVec F S_ .f32) : FVec F S4x1024 .f32 :=
  let v0 : FVec F S_ .f32 := id arg2
  let v1 : FVec F S4x1024 .f32 := broadcastInDim S4x1024 ![] bcast_S_S4x1024 v0
  let v2 : FVec F S4x1024 .f32 := select arg0 arg1 v1
  v2

def fn_part44 {F : FTy → Type} [FloatOps F] (main_v774 : IVec S_ 1) (main_v775 : IVec S_ 1) : IVec S_ 1 :=
  let main_v776 : IVec S_ 1 := andi main_v775 main_v774
  main_v776

def fn_part43 {F : FTy → Type} [FloatOps F] (main_arg1 : IVec S4x20 32) (main_arg3 : FVec F S1024x1024 .f32) (main_arg4 : IVec S4x20 1) (main_v750 : IVec S_ 1) (main_v754 : IVec S_ 1) (main_v758 : IVec S_ 1) : IVec S_ 1 :=
  let main_v759 : IVec S_ 1 := andi main_v754 main_v758
  let main_cst_269 : FVec F S_ .f32 := constant S_ .f32 0x00000000#32
  let main_v760 : FVec F S1024x1024 .f32 := broadcastInDim S1024x1024 ![] bcast_S_S1024x1024 main_cst_269
  let main_v761 : IVec S1024x1024 1 := cmpf .oge main_arg3 main_v760
  let main_cst_270 : FVec F S_ .f32 := constant S_ .f32 0x7F800000#32
  let main_v762 : FVec F S1024x1024 .f32 := broadcastInDim S1024x1024 ![] bcast_S_S1024x1024 main_cst_270
  let main_v763 : IVec S1024x1024 1 := cmpf .olt main_arg3 main_v762
  let main_v764 : IVec S1024x1024 1 := andi main_v761 main_v763
  let main_c_271 : IVec S_ 1 := constantI S_ 1 1#1
  let main_v765 : IVec S_ 1 := (fun x v => Host.reduce IntOp.andi x v reducesTo_S1024x1024_S_d0_1 h_S_) main_v764 main_c_271
  let main_c_272 : IVec S_ 32 := constantI S_ 32 0#32
  let main_v766 : IVec S4x20 32 := broadcastInDim S4x20 ![] bcast_S_S4x20 main_c_272
  let main_v767 : IVec S4x20 1 := cmpi .sge main_arg1 main_v766
  let main_c_273 : IVec S_ 32 := constantI S_ 32 1024#32
  let main_v768 : IVec S4x20 32 := broadcastInDim S4x20 ![] bcast_S_S4x20 main_c_273
  let main_v769 : IVec S4x20 1 := cmpi .slt main_arg1 main_v768
  let main_v770 : IVec S4x20 1 := andi main_v767 main_v769
  let main_c_274 : IVec S_ 1 := constantI S_ 1 1#1
  let main_v771 : IVec S_ 1 := (fun x v => Host.reduce IntOp.andi x v reducesTo_S4x20_S_d0_1 h_S_) main_v770 main_c_274
  let main_v772 : IVec S_ 1 := andi main_v765 main_v771
  let main_c_275 : IVec S_ 1 := constantI S_ 1 1#1
  let main_v773 : IVec S_ 1 := (fun x v => Host.reduce IntOp.andi x v reducesTo_S4x20_S_d0_1 h_S_) main_arg4 main_c_275
  let main_v774 : IVec S_ 1 := andi main_v772 main_v773
  let main_v775 : IVec S_ 1 := andi main_v750 main_v759
  fn_part44 (F := F) main_v774 main_v775

def fn_part42 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v711 : IVec S_ 1) (main_v723 : IVec S4x1024 1) (main_v737 : FVec F S4x1024x1 .f32) (main_v742 : FVec F S4x1024 .f32) : IVec S_ 1 :=
  let main_v743 : FVec F S4x1024 .f32 := shapeCast S4x1024 main_v737 shapeCasts_S4x1024x1_S4x1024
  let main_v744 : FVec F S4x1024 .f32 := addf main_v742 main_v743
  let main_cst_261 : FVec F S_ .f32 := constant S_ .f32 0xFF800000#32
  let main_v745 : FVec F S4x1024 .f32 := fn_where_0 (F := F) main_v723 main_v744 main_cst_261
  let main_values_262 : FVec F S4x6 .f32 := (fun x => (Host.topK S4x6 1 (FloatOps.cmpfTotal .gt) x sliceFits_S4x1024_S4x6).1) main_v745
  let main_indices_263 : IVec S4x6 32 := (fun x => (Host.topK S4x6 1 (FloatOps.cmpfTotal .gt) x sliceFits_S4x1024_S4x6).2) main_v745
  let main_v746 : FVec F S4x5 .f32 := (extractStridedSlice S4x5 ![0, 1] · slices_S4x6_S4x5_0_1) main_values_262
  let main_v747 : FVec F S4x5 .f32 := (extractStridedSlice S4x5 ![0, 0] · slices_S4x6_S4x5_0_0) main_values_262
  let main_v748 : IVec S4x5 1 := cmpf .olt main_v746 main_v747
  let main_c_264 : IVec S_ 1 := constantI S_ 1 1#1
  let main_v749 : IVec S_ 1 := (fun x v => Host.reduce IntOp.andi x v reducesTo_S4x5_S_d0_1 h_S_) main_v748 main_c_264
  let main_v750 : IVec S_ 1 := andi main_v711 main_v749
  let main_v751 : FVec F S4x20x1024 .f32 := Host.absf main_arg0
  let main_cst_265 : FVec F S_ .f32 := constant S_ .f32 0x7F800000#32
  let main_v752 : FVec F S4x20x1024 .f32 := broadcastInDim S4x20x1024 ![] bcast_S_S4x20x1024 main_cst_265
  let main_v753 : IVec S4x20x1024 1 := cmpf .olt main_v751 main_v752
  let main_c_266 : IVec S_ 1 := constantI S_ 1 1#1
  let main_v754 : IVec S_ 1 := (fun x v => Host.reduce IntOp.andi x v reducesTo_S4x20x1024_S_d0_1_2 h_S_) main_v753 main_c_266
  let main_v755 : FVec F S1024x128 .f32 := Host.absf main_arg2
  let main_cst_267 : FVec F S_ .f32 := constant S_ .f32 0x7F800000#32
  let main_v756 : FVec F S1024x128 .f32 := broadcastInDim S1024x128 ![] bcast_S_S1024x128 main_cst_267
  let main_v757 : IVec S1024x128 1 := cmpf .olt main_v755 main_v756
  let main_c_268 : IVec S_ 1 := constantI S_ 1 1#1
  let main_v758 : IVec S_ 1 := (fun x v => Host.reduce IntOp.andi x v reducesTo_S1024x128_S_d0_1 h_S_) main_v757 main_c_268
  fn_part43 (F := F) main_arg1 main_arg3 main_arg4 main_v750 main_v754 main_v758

def fn_part41 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v706 : FVec F S4x1024 .f32) (main_v711 : IVec S_ 1) (main_v713 : FVec F S4x1024 .f32) (main_v721 : FVec F S4x1024 .f32) (main_v722 : FVec F S4x1024 .f32) : IVec S_ 1 :=
  let main_v723 : IVec S4x1024 1 := cmpf .une main_v721 main_v722
  let main_v724 : FVec F S4x1x1024 .f32 := broadcastInDim S4x1x1024 ![0, 2] bcast_S4x1024_S4x1x1024_0_2 main_v706
  let main_v725 : FVec F S1x1024x1024 .f32 := broadcastInDim S1x1024x1024 ![1, 2] bcast_S1024x1024_S1x1024x1024_1_2 main_v3
  let main_v726 : FVec F S4x1024x1024 .f32 := broadcastInDim S4x1024x1024 ![0, 1, 2] bcast_S4x1x1024_S4x1024x1024_0_1_2 main_v724
  let main_v727 : FVec F S4x1024x1024 .f32 := broadcastInDim S4x1024x1024 ![0, 1, 2] bcast_S1x1024x1024_S4x1024x1024_0_1_2 main_v725
  let main_v728 : FVec F S4x1024x1024 .f32 := addf main_v726 main_v727
  let main_v729 : FVec F S4x1024x1 .f32 := broadcastInDim S4x1024x1 ![0, 1] bcast_S4x1024_S4x1024x1_0_1 main_v713
  let main_v730 : FVec F S4x1024x1024 .f32 := broadcastInDim S4x1024x1024 ![0, 1, 2] bcast_S4x1024x1_S4x1024x1024_0_1_2 main_v729
  let main_v731 : FVec F S4x1024x1024 .f32 := addf main_v728 main_v730
  let main_cst_257 : FVec F S_ .f32 := constant S_ .f32 0xFF800000#32
  let main_v732 : FVec F S4x1024 .f32 := (fun x v => Host.reduce FloatOps.maximumf x v reducesTo_S4x1024x1024_S4x1024_d2 h_S_) main_v731 main_cst_257
  let main_v733 : FVec F S4x1024x1 .f32 := broadcastInDim S4x1024x1 ![0, 1] bcast_S4x1024_S4x1024x1_0_1 main_v732
  let main_v734 : FVec F S4x1024x1 .f32 := Host.absf main_v733
  let main_cst_258 : FVec F S_ .f32 := constant S_ .f32 0x7F800000#32
  let main_v735 : FVec F S4x1024x1 .f32 := broadcastInDim S4x1024x1 ![] bcast_S_S4x1024x1 main_cst_258
  let main_v736 : IVec S4x1024x1 1 := cmpf .olt main_v734 main_v735
  let main_cst_259 : FVec F S_ .f32 := constant S_ .f32 0x00000000#32
  let main_v737 : FVec F S4x1024x1 .f32 := fn_where (F := F) main_v736 main_v733 main_cst_259
  let main_v738 : FVec F S4x1024x1024 .f32 := broadcastInDim S4x1024x1024 ![0, 1, 2] bcast_S4x1024x1_S4x1024x1024_0_1_2 main_v737
  let main_v739 : FVec F S4x1024x1024 .f32 := subf main_v731 main_v738
  let main_v740 : FVec F S4x1024x1024 .f32 := Host.exp main_v739
  let main_cst_260 : FVec F S_ .f32 := constant S_ .f32 0x00000000#32
  let main_v741 : FVec F S4x1024 .f32 := (fun x v => Host.reduceAdd x v reducesTo_S4x1024x1024_S4x1024_d2 h_S_) main_v740 main_cst_260
  let main_v742 : FVec F S4x1024 .f32 := Host.log main_v741
  fn_part42 (F := F) main_arg0 main_arg1 main_arg2 main_arg3 main_arg4 main_v711 main_v723 main_v737 main_v742

def fn_part40 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v672 : IVec S_ 1) (main_v706 : FVec F S4x1024 .f32) (main_values_248 : FVec F S4x6 .f32) : IVec S_ 1 :=
  let main_indices_249 : IVec S4x6 32 := (fun x => (Host.topK S4x6 1 (FloatOps.cmpfTotal .gt) x sliceFits_S4x1024_S4x6).2) main_v706
  let main_v707 : FVec F S4x5 .f32 := (extractStridedSlice S4x5 ![0, 1] · slices_S4x6_S4x5_0_1) main_values_248
  let main_v708 : FVec F S4x5 .f32 := (extractStridedSlice S4x5 ![0, 0] · slices_S4x6_S4x5_0_0) main_values_248
  let main_v709 : IVec S4x5 1 := cmpf .olt main_v707 main_v708
  let main_c_250 : IVec S_ 1 := constantI S_ 1 1#1
  let main_v710 : IVec S_ 1 := (fun x v => Host.reduce IntOp.andi x v reducesTo_S4x5_S_d0_1 h_S_) main_v709 main_c_250
  let main_v711 : IVec S_ 1 := andi main_v672 main_v710
  let main_v712 : FVec F S4x1x1024 .f32 := (extractStridedSlice S4x1x1024 ![0, 19, 0] · slices_S4x20x1024_S4x1x1024_0_19_0) main_arg0
  let main_v713 : FVec F S4x1024 .f32 := shapeCast S4x1024 main_v712 shapeCasts_S4x1x1024_S4x1024
  let main_values_251 : FVec F S4x5 .f32 := (fun x => (Host.topK S4x5 1 (FloatOps.cmpfTotal .gt) x sliceFits_S4x1024_S4x5).1) main_v706
  let main_indices_252 : IVec S4x5 32 := (fun x => (Host.topK S4x5 1 (FloatOps.cmpfTotal .gt) x sliceFits_S4x1024_S4x5).2) main_v706
  let main_c_253 : IVec S_ 32 := constantI S_ 32 0#32
  let main_v714 : IVec S4x5 32 := broadcastInDim S4x5 ![] bcast_S_S4x5 main_c_253
  let main_v715 : IVec S4x5 1 := cmpi .slt main_indices_252 main_v714
  let main_c_254 : IVec S_ 32 := constantI S_ 32 1024#32
  let main_v716 : IVec S4x5 32 := broadcastInDim S4x5 ![] bcast_S_S4x5 main_c_254
  let main_v717 : IVec S4x5 32 := addi main_indices_252 main_v716
  let main_v718 : IVec S4x5 32 := select main_v715 main_v717 main_indices_252
  let main_v719 : IVec S4x5x1 32 := broadcastInDim S4x5x1 ![0, 1] bcast_S4x5_S4x5x1_0_1 main_v718
  let main_v720 : FVec F S4x5x1024 .f32 := (fun x i => Host.gather gather_S1024x1024_S4x5x1_S4x5x1024_2_0_n_n_0_2_11024 x i) main_arg3 main_v719
  let main_cst_255 : FVec F S_ .f32 := constant S_ .f32 0x00000000#32
  let main_v721 : FVec F S4x1024 .f32 := (fun x v => Host.reduceAdd x v reducesTo_S4x5x1024_S4x1024_d1 h_S_) main_v720 main_cst_255
  let main_cst_256 : FVec F S_ .f32 := constant S_ .f32 0x00000000#32
  let main_v722 : FVec F S4x1024 .f32 := broadcastInDim S4x1024 ![] bcast_S_S4x1024 main_cst_256
  fn_part41 (F := F) main_arg0 main_arg1 main_arg2 main_arg3 main_arg4 main_v3 main_v706 main_v711 main_v713 main_v721 main_v722

def fn_part39 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v672 : IVec S_ 1) (main_v674 : FVec F S4x1024 .f32) (main_v684 : IVec S4x1024 1) (main_v687 : FVec F S4x1024x1024 .f32) (main_v688 : FVec F S4x1024x1024 .f32) : IVec S_ 1 :=
  let main_v689 : FVec F S4x1024x1024 .f32 := addf main_v687 main_v688
  let main_v690 : FVec F S4x1024x1 .f32 := broadcastInDim S4x1024x1 ![0, 1] bcast_S4x1024_S4x1024x1_0_1 main_v674
  let main_v691 : FVec F S4x1024x1024 .f32 := broadcastInDim S4x1024x1024 ![0, 1, 2] bcast_S4x1024x1_S4x1024x1024_0_1_2 main_v690
  let main_v692 : FVec F S4x1024x1024 .f32 := addf main_v689 main_v691
  let main_cst_243 : FVec F S_ .f32 := constant S_ .f32 0xFF800000#32
  let main_v693 : FVec F S4x1024 .f32 := (fun x v => Host.reduce FloatOps.maximumf x v reducesTo_S4x1024x1024_S4x1024_d2 h_S_) main_v692 main_cst_243
  let main_v694 : FVec F S4x1024x1 .f32 := broadcastInDim S4x1024x1 ![0, 1] bcast_S4x1024_S4x1024x1_0_1 main_v693
  let main_v695 : FVec F S4x1024x1 .f32 := Host.absf main_v694
  let main_cst_244 : FVec F S_ .f32 := constant S_ .f32 0x7F800000#32
  let main_v696 : FVec F S4x1024x1 .f32 := broadcastInDim S4x1024x1 ![] bcast_S_S4x1024x1 main_cst_244
  let main_v697 : IVec S4x1024x1 1 := cmpf .olt main_v695 main_v696
  let main_cst_245 : FVec F S_ .f32 := constant S_ .f32 0x00000000#32
  let main_v698 : FVec F S4x1024x1 .f32 := fn_where (F := F) main_v697 main_v694 main_cst_245
  let main_v699 : FVec F S4x1024x1024 .f32 := broadcastInDim S4x1024x1024 ![0, 1, 2] bcast_S4x1024x1_S4x1024x1024_0_1_2 main_v698
  let main_v700 : FVec F S4x1024x1024 .f32 := subf main_v692 main_v699
  let main_v701 : FVec F S4x1024x1024 .f32 := Host.exp main_v700
  let main_cst_246 : FVec F S_ .f32 := constant S_ .f32 0x00000000#32
  let main_v702 : FVec F S4x1024 .f32 := (fun x v => Host.reduceAdd x v reducesTo_S4x1024x1024_S4x1024_d2 h_S_) main_v701 main_cst_246
  let main_v703 : FVec F S4x1024 .f32 := Host.log main_v702
  let main_v704 : FVec F S4x1024 .f32 := shapeCast S4x1024 main_v698 shapeCasts_S4x1024x1_S4x1024
  let main_v705 : FVec F S4x1024 .f32 := addf main_v703 main_v704
  let main_cst_247 : FVec F S_ .f32 := constant S_ .f32 0xFF800000#32
  let main_v706 : FVec F S4x1024 .f32 := fn_where_0 (F := F) main_v684 main_v705 main_cst_247
  let main_values_248 : FVec F S4x6 .f32 := (fun x => (Host.topK S4x6 1 (FloatOps.cmpfTotal .gt) x sliceFits_S4x1024_S4x6).1) main_v706
  fn_part40 (F := F) main_arg0 main_arg1 main_arg2 main_arg3 main_arg4 main_v3 main_v672 main_v706 main_values_248

def fn_part38 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v633 : IVec S_ 1) (main_v667 : FVec F S4x1024 .f32) (main_v670 : IVec S4x5 1) (main_c_236 : IVec S_ 1) : IVec S_ 1 :=
  let main_v671 : IVec S_ 1 := (fun x v => Host.reduce IntOp.andi x v reducesTo_S4x5_S_d0_1 h_S_) main_v670 main_c_236
  let main_v672 : IVec S_ 1 := andi main_v633 main_v671
  let main_v673 : FVec F S4x1x1024 .f32 := (extractStridedSlice S4x1x1024 ![0, 18, 0] · slices_S4x20x1024_S4x1x1024_0_18_0) main_arg0
  let main_v674 : FVec F S4x1024 .f32 := shapeCast S4x1024 main_v673 shapeCasts_S4x1x1024_S4x1024
  let main_values_237 : FVec F S4x5 .f32 := (fun x => (Host.topK S4x5 1 (FloatOps.cmpfTotal .gt) x sliceFits_S4x1024_S4x5).1) main_v667
  let main_indices_238 : IVec S4x5 32 := (fun x => (Host.topK S4x5 1 (FloatOps.cmpfTotal .gt) x sliceFits_S4x1024_S4x5).2) main_v667
  let main_c_239 : IVec S_ 32 := constantI S_ 32 0#32
  let main_v675 : IVec S4x5 32 := broadcastInDim S4x5 ![] bcast_S_S4x5 main_c_239
  let main_v676 : IVec S4x5 1 := cmpi .slt main_indices_238 main_v675
  let main_c_240 : IVec S_ 32 := constantI S_ 32 1024#32
  let main_v677 : IVec S4x5 32 := broadcastInDim S4x5 ![] bcast_S_S4x5 main_c_240
  let main_v678 : IVec S4x5 32 := addi main_indices_238 main_v677
  let main_v679 : IVec S4x5 32 := select main_v676 main_v678 main_indices_238
  let main_v680 : IVec S4x5x1 32 := broadcastInDim S4x5x1 ![0, 1] bcast_S4x5_S4x5x1_0_1 main_v679
  let main_v681 : FVec F S4x5x1024 .f32 := (fun x i => Host.gather gather_S1024x1024_S4x5x1_S4x5x1024_2_0_n_n_0_2_11024 x i) main_arg3 main_v680
  let main_cst_241 : FVec F S_ .f32 := constant S_ .f32 0x00000000#32
  let main_v682 : FVec F S4x1024 .f32 := (fun x v => Host.reduceAdd x v reducesTo_S4x5x1024_S4x1024_d1 h_S_) main_v681 main_cst_241
  let main_cst_242 : FVec F S_ .f32 := constant S_ .f32 0x00000000#32
  let main_v683 : FVec F S4x1024 .f32 := broadcastInDim S4x1024 ![] bcast_S_S4x1024 main_cst_242
  let main_v684 : IVec S4x1024 1 := cmpf .une main_v682 main_v683
  let main_v685 : FVec F S4x1x1024 .f32 := broadcastInDim S4x1x1024 ![0, 2] bcast_S4x1024_S4x1x1024_0_2 main_v667
  let main_v686 : FVec F S1x1024x1024 .f32 := broadcastInDim S1x1024x1024 ![1, 2] bcast_S1024x1024_S1x1024x1024_1_2 main_v3
  let main_v687 : FVec F S4x1024x1024 .f32 := broadcastInDim S4x1024x1024 ![0, 1, 2] bcast_S4x1x1024_S4x1024x1024_0_1_2 main_v685
  let main_v688 : FVec F S4x1024x1024 .f32 := broadcastInDim S4x1024x1024 ![0, 1, 2] bcast_S1x1024x1024_S4x1024x1024_0_1_2 main_v686
  fn_part39 (F := F) main_arg0 main_arg1 main_arg2 main_arg3 main_arg4 main_v3 main_v672 main_v674 main_v684 main_v687 main_v688

def fn_part37 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v633 : IVec S_ 1) (main_v645 : IVec S4x1024 1) (main_v653 : FVec F S4x1024x1024 .f32) (main_cst_229 : FVec F S_ .f32) : IVec S_ 1 :=
  let main_v654 : FVec F S4x1024 .f32 := (fun x v => Host.reduce FloatOps.maximumf x v reducesTo_S4x1024x1024_S4x1024_d2 h_S_) main_v653 main_cst_229
  let main_v655 : FVec F S4x1024x1 .f32 := broadcastInDim S4x1024x1 ![0, 1] bcast_S4x1024_S4x1024x1_0_1 main_v654
  let main_v656 : FVec F S4x1024x1 .f32 := Host.absf main_v655
  let main_cst_230 : FVec F S_ .f32 := constant S_ .f32 0x7F800000#32
  let main_v657 : FVec F S4x1024x1 .f32 := broadcastInDim S4x1024x1 ![] bcast_S_S4x1024x1 main_cst_230
  let main_v658 : IVec S4x1024x1 1 := cmpf .olt main_v656 main_v657
  let main_cst_231 : FVec F S_ .f32 := constant S_ .f32 0x00000000#32
  let main_v659 : FVec F S4x1024x1 .f32 := fn_where (F := F) main_v658 main_v655 main_cst_231
  let main_v660 : FVec F S4x1024x1024 .f32 := broadcastInDim S4x1024x1024 ![0, 1, 2] bcast_S4x1024x1_S4x1024x1024_0_1_2 main_v659
  let main_v661 : FVec F S4x1024x1024 .f32 := subf main_v653 main_v660
  let main_v662 : FVec F S4x1024x1024 .f32 := Host.exp main_v661
  let main_cst_232 : FVec F S_ .f32 := constant S_ .f32 0x00000000#32
  let main_v663 : FVec F S4x1024 .f32 := (fun x v => Host.reduceAdd x v reducesTo_S4x1024x1024_S4x1024_d2 h_S_) main_v662 main_cst_232
  let main_v664 : FVec F S4x1024 .f32 := Host.log main_v663
  let main_v665 : FVec F S4x1024 .f32 := shapeCast S4x1024 main_v659 shapeCasts_S4x1024x1_S4x1024
  let main_v666 : FVec F S4x1024 .f32 := addf main_v664 main_v665
  let main_cst_233 : FVec F S_ .f32 := constant S_ .f32 0xFF800000#32
  let main_v667 : FVec F S4x1024 .f32 := fn_where_0 (F := F) main_v645 main_v666 main_cst_233
  let main_values_234 : FVec F S4x6 .f32 := (fun x => (Host.topK S4x6 1 (FloatOps.cmpfTotal .gt) x sliceFits_S4x1024_S4x6).1) main_v667
  let main_indices_235 : IVec S4x6 32 := (fun x => (Host.topK S4x6 1 (FloatOps.cmpfTotal .gt) x sliceFits_S4x1024_S4x6).2) main_v667
  let main_v668 : FVec F S4x5 .f32 := (extractStridedSlice S4x5 ![0, 1] · slices_S4x6_S4x5_0_1) main_values_234
  let main_v669 : FVec F S4x5 .f32 := (extractStridedSlice S4x5 ![0, 0] · slices_S4x6_S4x5_0_0) main_values_234
  let main_v670 : IVec S4x5 1 := cmpf .olt main_v668 main_v669
  let main_c_236 : IVec S_ 1 := constantI S_ 1 1#1
  fn_part38 (F := F) main_arg0 main_arg1 main_arg2 main_arg3 main_arg4 main_v3 main_v633 main_v667 main_v670 main_c_236

def fn_part36 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v628 : FVec F S4x1024 .f32) (main_v633 : IVec S_ 1) (main_v635 : FVec F S4x1024 .f32) : IVec S_ 1 :=
  let main_indices_224 : IVec S4x5 32 := (fun x => (Host.topK S4x5 1 (FloatOps.cmpfTotal .gt) x sliceFits_S4x1024_S4x5).2) main_v628
  let main_c_225 : IVec S_ 32 := constantI S_ 32 0#32
  let main_v636 : IVec S4x5 32 := broadcastInDim S4x5 ![] bcast_S_S4x5 main_c_225
  let main_v637 : IVec S4x5 1 := cmpi .slt main_indices_224 main_v636
  let main_c_226 : IVec S_ 32 := constantI S_ 32 1024#32
  let main_v638 : IVec S4x5 32 := broadcastInDim S4x5 ![] bcast_S_S4x5 main_c_226
  let main_v639 : IVec S4x5 32 := addi main_indices_224 main_v638
  let main_v640 : IVec S4x5 32 := select main_v637 main_v639 main_indices_224
  let main_v641 : IVec S4x5x1 32 := broadcastInDim S4x5x1 ![0, 1] bcast_S4x5_S4x5x1_0_1 main_v640
  let main_v642 : FVec F S4x5x1024 .f32 := (fun x i => Host.gather gather_S1024x1024_S4x5x1_S4x5x1024_2_0_n_n_0_2_11024 x i) main_arg3 main_v641
  let main_cst_227 : FVec F S_ .f32 := constant S_ .f32 0x00000000#32
  let main_v643 : FVec F S4x1024 .f32 := (fun x v => Host.reduceAdd x v reducesTo_S4x5x1024_S4x1024_d1 h_S_) main_v642 main_cst_227
  let main_cst_228 : FVec F S_ .f32 := constant S_ .f32 0x00000000#32
  let main_v644 : FVec F S4x1024 .f32 := broadcastInDim S4x1024 ![] bcast_S_S4x1024 main_cst_228
  let main_v645 : IVec S4x1024 1 := cmpf .une main_v643 main_v644
  let main_v646 : FVec F S4x1x1024 .f32 := broadcastInDim S4x1x1024 ![0, 2] bcast_S4x1024_S4x1x1024_0_2 main_v628
  let main_v647 : FVec F S1x1024x1024 .f32 := broadcastInDim S1x1024x1024 ![1, 2] bcast_S1024x1024_S1x1024x1024_1_2 main_v3
  let main_v648 : FVec F S4x1024x1024 .f32 := broadcastInDim S4x1024x1024 ![0, 1, 2] bcast_S4x1x1024_S4x1024x1024_0_1_2 main_v646
  let main_v649 : FVec F S4x1024x1024 .f32 := broadcastInDim S4x1024x1024 ![0, 1, 2] bcast_S1x1024x1024_S4x1024x1024_0_1_2 main_v647
  let main_v650 : FVec F S4x1024x1024 .f32 := addf main_v648 main_v649
  let main_v651 : FVec F S4x1024x1 .f32 := broadcastInDim S4x1024x1 ![0, 1] bcast_S4x1024_S4x1024x1_0_1 main_v635
  let main_v652 : FVec F S4x1024x1024 .f32 := broadcastInDim S4x1024x1024 ![0, 1, 2] bcast_S4x1024x1_S4x1024x1024_0_1_2 main_v651
  let main_v653 : FVec F S4x1024x1024 .f32 := addf main_v650 main_v652
  let main_cst_229 : FVec F S_ .f32 := constant S_ .f32 0xFF800000#32
  fn_part37 (F := F) main_arg0 main_arg1 main_arg2 main_arg3 main_arg4 main_v3 main_v633 main_v645 main_v653 main_cst_229

def fn_part35 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v594 : IVec S_ 1) (main_v606 : IVec S4x1024 1) (main_v614 : FVec F S4x1024x1024 .f32) (main_v616 : FVec F S4x1024x1 .f32) (main_v617 : FVec F S4x1024x1 .f32) (main_v618 : FVec F S4x1024x1 .f32) : IVec S_ 1 :=
  let main_v619 : IVec S4x1024x1 1 := cmpf .olt main_v617 main_v618
  let main_cst_217 : FVec F S_ .f32 := constant S_ .f32 0x00000000#32
  let main_v620 : FVec F S4x1024x1 .f32 := fn_where (F := F) main_v619 main_v616 main_cst_217
  let main_v621 : FVec F S4x1024x1024 .f32 := broadcastInDim S4x1024x1024 ![0, 1, 2] bcast_S4x1024x1_S4x1024x1024_0_1_2 main_v620
  let main_v622 : FVec F S4x1024x1024 .f32 := subf main_v614 main_v621
  let main_v623 : FVec F S4x1024x1024 .f32 := Host.exp main_v622
  let main_cst_218 : FVec F S_ .f32 := constant S_ .f32 0x00000000#32
  let main_v624 : FVec F S4x1024 .f32 := (fun x v => Host.reduceAdd x v reducesTo_S4x1024x1024_S4x1024_d2 h_S_) main_v623 main_cst_218
  let main_v625 : FVec F S4x1024 .f32 := Host.log main_v624
  let main_v626 : FVec F S4x1024 .f32 := shapeCast S4x1024 main_v620 shapeCasts_S4x1024x1_S4x1024
  let main_v627 : FVec F S4x1024 .f32 := addf main_v625 main_v626
  let main_cst_219 : FVec F S_ .f32 := constant S_ .f32 0xFF800000#32
  let main_v628 : FVec F S4x1024 .f32 := fn_where_0 (F := F) main_v606 main_v627 main_cst_219
  let main_values_220 : FVec F S4x6 .f32 := (fun x => (Host.topK S4x6 1 (FloatOps.cmpfTotal .gt) x sliceFits_S4x1024_S4x6).1) main_v628
  let main_indices_221 : IVec S4x6 32 := (fun x => (Host.topK S4x6 1 (FloatOps.cmpfTotal .gt) x sliceFits_S4x1024_S4x6).2) main_v628
  let main_v629 : FVec F S4x5 .f32 := (extractStridedSlice S4x5 ![0, 1] · slices_S4x6_S4x5_0_1) main_values_220
  let main_v630 : FVec F S4x5 .f32 := (extractStridedSlice S4x5 ![0, 0] · slices_S4x6_S4x5_0_0) main_values_220
  let main_v631 : IVec S4x5 1 := cmpf .olt main_v629 main_v630
  let main_c_222 : IVec S_ 1 := constantI S_ 1 1#1
  let main_v632 : IVec S_ 1 := (fun x v => Host.reduce IntOp.andi x v reducesTo_S4x5_S_d0_1 h_S_) main_v631 main_c_222
  let main_v633 : IVec S_ 1 := andi main_v594 main_v632
  let main_v634 : FVec F S4x1x1024 .f32 := (extractStridedSlice S4x1x1024 ![0, 17, 0] · slices_S4x20x1024_S4x1x1024_0_17_0) main_arg0
  let main_v635 : FVec F S4x1024 .f32 := shapeCast S4x1024 main_v634 shapeCasts_S4x1x1024_S4x1024
  let main_values_223 : FVec F S4x5 .f32 := (fun x => (Host.topK S4x5 1 (FloatOps.cmpfTotal .gt) x sliceFits_S4x1024_S4x5).1) main_v628
  fn_part36 (F := F) main_arg0 main_arg1 main_arg2 main_arg3 main_arg4 main_v3 main_v628 main_v633 main_v635

def fn_part34 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v589 : FVec F S4x1024 .f32) (main_v594 : IVec S_ 1) (main_v596 : FVec F S4x1024 .f32) (main_indices_210 : IVec S4x5 32) (main_v598 : IVec S4x5 1) (main_c_212 : IVec S_ 32) : IVec S_ 1 :=
  let main_v599 : IVec S4x5 32 := broadcastInDim S4x5 ![] bcast_S_S4x5 main_c_212
  let main_v600 : IVec S4x5 32 := addi main_indices_210 main_v599
  let main_v601 : IVec S4x5 32 := select main_v598 main_v600 main_indices_210
  let main_v602 : IVec S4x5x1 32 := broadcastInDim S4x5x1 ![0, 1] bcast_S4x5_S4x5x1_0_1 main_v601
  let main_v603 : FVec F S4x5x1024 .f32 := (fun x i => Host.gather gather_S1024x1024_S4x5x1_S4x5x1024_2_0_n_n_0_2_11024 x i) main_arg3 main_v602
  let main_cst_213 : FVec F S_ .f32 := constant S_ .f32 0x00000000#32
  let main_v604 : FVec F S4x1024 .f32 := (fun x v => Host.reduceAdd x v reducesTo_S4x5x1024_S4x1024_d1 h_S_) main_v603 main_cst_213
  let main_cst_214 : FVec F S_ .f32 := constant S_ .f32 0x00000000#32
  let main_v605 : FVec F S4x1024 .f32 := broadcastInDim S4x1024 ![] bcast_S_S4x1024 main_cst_214
  let main_v606 : IVec S4x1024 1 := cmpf .une main_v604 main_v605
  let main_v607 : FVec F S4x1x1024 .f32 := broadcastInDim S4x1x1024 ![0, 2] bcast_S4x1024_S4x1x1024_0_2 main_v589
  let main_v608 : FVec F S1x1024x1024 .f32 := broadcastInDim S1x1024x1024 ![1, 2] bcast_S1024x1024_S1x1024x1024_1_2 main_v3
  let main_v609 : FVec F S4x1024x1024 .f32 := broadcastInDim S4x1024x1024 ![0, 1, 2] bcast_S4x1x1024_S4x1024x1024_0_1_2 main_v607
  let main_v610 : FVec F S4x1024x1024 .f32 := broadcastInDim S4x1024x1024 ![0, 1, 2] bcast_S1x1024x1024_S4x1024x1024_0_1_2 main_v608
  let main_v611 : FVec F S4x1024x1024 .f32 := addf main_v609 main_v610
  let main_v612 : FVec F S4x1024x1 .f32 := broadcastInDim S4x1024x1 ![0, 1] bcast_S4x1024_S4x1024x1_0_1 main_v596
  let main_v613 : FVec F S4x1024x1024 .f32 := broadcastInDim S4x1024x1024 ![0, 1, 2] bcast_S4x1024x1_S4x1024x1024_0_1_2 main_v612
  let main_v614 : FVec F S4x1024x1024 .f32 := addf main_v611 main_v613
  let main_cst_215 : FVec F S_ .f32 := constant S_ .f32 0xFF800000#32
  let main_v615 : FVec F S4x1024 .f32 := (fun x v => Host.reduce FloatOps.maximumf x v reducesTo_S4x1024x1024_S4x1024_d2 h_S_) main_v614 main_cst_215
  let main_v616 : FVec F S4x1024x1 .f32 := broadcastInDim S4x1024x1 ![0, 1] bcast_S4x1024_S4x1024x1_0_1 main_v615
  let main_v617 : FVec F S4x1024x1 .f32 := Host.absf main_v616
  let main_cst_216 : FVec F S_ .f32 := constant S_ .f32 0x7F800000#32
  let main_v618 : FVec F S4x1024x1 .f32 := broadcastInDim S4x1024x1 ![] bcast_S_S4x1024x1 main_cst_216
  fn_part35 (F := F) main_arg0 main_arg1 main_arg2 main_arg3 main_arg4 main_v3 main_v594 main_v606 main_v614 main_v616 main_v617 main_v618

def fn_part33 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v555 : IVec S_ 1) (main_v567 : IVec S4x1024 1) (main_v581 : FVec F S4x1024x1 .f32) (main_v583 : FVec F S4x1024x1024 .f32) : IVec S_ 1 :=
  let main_v584 : FVec F S4x1024x1024 .f32 := Host.exp main_v583
  let main_cst_204 : FVec F S_ .f32 := constant S_ .f32 0x00000000#32
  let main_v585 : FVec F S4x1024 .f32 := (fun x v => Host.reduceAdd x v reducesTo_S4x1024x1024_S4x1024_d2 h_S_) main_v584 main_cst_204
  let main_v586 : FVec F S4x1024 .f32 := Host.log main_v585
  let main_v587 : FVec F S4x1024 .f32 := shapeCast S4x1024 main_v581 shapeCasts_S4x1024x1_S4x1024
  let main_v588 : FVec F S4x1024 .f32 := addf main_v586 main_v587
  let main_cst_205 : FVec F S_ .f32 := constant S_ .f32 0xFF800000#32
  let main_v589 : FVec F S4x1024 .f32 := fn_where_0 (F := F) main_v567 main_v588 main_cst_205
  let main_values_206 : FVec F S4x6 .f32 := (fun x => (Host.topK S4x6 1 (FloatOps.cmpfTotal .gt) x sliceFits_S4x1024_S4x6).1) main_v589
  let main_indices_207 : IVec S4x6 32 := (fun x => (Host.topK S4x6 1 (FloatOps.cmpfTotal .gt) x sliceFits_S4x1024_S4x6).2) main_v589
  let main_v590 : FVec F S4x5 .f32 := (extractStridedSlice S4x5 ![0, 1] · slices_S4x6_S4x5_0_1) main_values_206
  let main_v591 : FVec F S4x5 .f32 := (extractStridedSlice S4x5 ![0, 0] · slices_S4x6_S4x5_0_0) main_values_206
  let main_v592 : IVec S4x5 1 := cmpf .olt main_v590 main_v591
  let main_c_208 : IVec S_ 1 := constantI S_ 1 1#1
  let main_v593 : IVec S_ 1 := (fun x v => Host.reduce IntOp.andi x v reducesTo_S4x5_S_d0_1 h_S_) main_v592 main_c_208
  let main_v594 : IVec S_ 1 := andi main_v555 main_v593
  let main_v595 : FVec F S4x1x1024 .f32 := (extractStridedSlice S4x1x1024 ![0, 16, 0] · slices_S4x20x1024_S4x1x1024_0_16_0) main_arg0
  let main_v596 : FVec F S4x1024 .f32 := shapeCast S4x1024 main_v595 shapeCasts_S4x1x1024_S4x1024
  let main_values_209 : FVec F S4x5 .f32 := (fun x => (Host.topK S4x5 1 (FloatOps.cmpfTotal .gt) x sliceFits_S4x1024_S4x5).1) main_v589
  let main_indices_210 : IVec S4x5 32 := (fun x => (Host.topK S4x5 1 (FloatOps.cmpfTotal .gt) x sliceFits_S4x1024_S4x5).2) main_v589
  let main_c_211 : IVec S_ 32 := constantI S_ 32 0#32
  let main_v597 : IVec S4x5 32 := broadcastInDim S4x5 ![] bcast_S_S4x5 main_c_211
  let main_v598 : IVec S4x5 1 := cmpi .slt main_indices_210 main_v597
  let main_c_212 : IVec S_ 32 := constantI S_ 32 1024#32
  fn_part34 (F := F) main_arg0 main_arg1 main_arg2 main_arg3 main_arg4 main_v3 main_v589 main_v594 main_v596 main_indices_210 main_v598 main_c_212

def fn_part32 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v550 : FVec F S4x1024 .f32) (main_v555 : IVec S_ 1) (main_v557 : FVec F S4x1024 .f32) (main_v564 : FVec F S4x5x1024 .f32) : IVec S_ 1 :=
  let main_cst_199 : FVec F S_ .f32 := constant S_ .f32 0x00000000#32
  let main_v565 : FVec F S4x1024 .f32 := (fun x v => Host.reduceAdd x v reducesTo_S4x5x1024_S4x1024_d1 h_S_) main_v564 main_cst_199
  let main_cst_200 : FVec F S_ .f32 := constant S_ .f32 0x00000000#32
  let main_v566 : FVec F S4x1024 .f32 := broadcastInDim S4x1024 ![] bcast_S_S4x1024 main_cst_200
  let main_v567 : IVec S4x1024 1 := cmpf .une main_v565 main_v566
  let main_v568 : FVec F S4x1x1024 .f32 := broadcastInDim S4x1x1024 ![0, 2] bcast_S4x1024_S4x1x1024_0_2 main_v550
  let main_v569 : FVec F S1x1024x1024 .f32 := broadcastInDim S1x1024x1024 ![1, 2] bcast_S1024x1024_S1x1024x1024_1_2 main_v3
  let main_v570 : FVec F S4x1024x1024 .f32 := broadcastInDim S4x1024x1024 ![0, 1, 2] bcast_S4x1x1024_S4x1024x1024_0_1_2 main_v568
  let main_v571 : FVec F S4x1024x1024 .f32 := broadcastInDim S4x1024x1024 ![0, 1, 2] bcast_S1x1024x1024_S4x1024x1024_0_1_2 main_v569
  let main_v572 : FVec F S4x1024x1024 .f32 := addf main_v570 main_v571
  let main_v573 : FVec F S4x1024x1 .f32 := broadcastInDim S4x1024x1 ![0, 1] bcast_S4x1024_S4x1024x1_0_1 main_v557
  let main_v574 : FVec F S4x1024x1024 .f32 := broadcastInDim S4x1024x1024 ![0, 1, 2] bcast_S4x1024x1_S4x1024x1024_0_1_2 main_v573
  let main_v575 : FVec F S4x1024x1024 .f32 := addf main_v572 main_v574
  let main_cst_201 : FVec F S_ .f32 := constant S_ .f32 0xFF800000#32
  let main_v576 : FVec F S4x1024 .f32 := (fun x v => Host.reduce FloatOps.maximumf x v reducesTo_S4x1024x1024_S4x1024_d2 h_S_) main_v575 main_cst_201
  let main_v577 : FVec F S4x1024x1 .f32 := broadcastInDim S4x1024x1 ![0, 1] bcast_S4x1024_S4x1024x1_0_1 main_v576
  let main_v578 : FVec F S4x1024x1 .f32 := Host.absf main_v577
  let main_cst_202 : FVec F S_ .f32 := constant S_ .f32 0x7F800000#32
  let main_v579 : FVec F S4x1024x1 .f32 := broadcastInDim S4x1024x1 ![] bcast_S_S4x1024x1 main_cst_202
  let main_v580 : IVec S4x1024x1 1 := cmpf .olt main_v578 main_v579
  let main_cst_203 : FVec F S_ .f32 := constant S_ .f32 0x00000000#32
  let main_v581 : FVec F S4x1024x1 .f32 := fn_where (F := F) main_v580 main_v577 main_cst_203
  let main_v582 : FVec F S4x1024x1024 .f32 := broadcastInDim S4x1024x1024 ![0, 1, 2] bcast_S4x1024x1_S4x1024x1024_0_1_2 main_v581
  let main_v583 : FVec F S4x1024x1024 .f32 := subf main_v575 main_v582
  fn_part33 (F := F) main_arg0 main_arg1 main_arg2 main_arg3 main_arg4 main_v3 main_v555 main_v567 main_v581 main_v583

def fn_part31 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v516 : IVec S_ 1) (main_v528 : IVec S4x1024 1) (main_v547 : FVec F S4x1024 .f32) (main_v548 : FVec F S4x1024 .f32) : IVec S_ 1 :=
  let main_v549 : FVec F S4x1024 .f32 := addf main_v547 main_v548
  let main_cst_191 : FVec F S_ .f32 := constant S_ .f32 0xFF800000#32
  let main_v550 : FVec F S4x1024 .f32 := fn_where_0 (F := F) main_v528 main_v549 main_cst_191
  let main_values_192 : FVec F S4x6 .f32 := (fun x => (Host.topK S4x6 1 (FloatOps.cmpfTotal .gt) x sliceFits_S4x1024_S4x6).1) main_v550
  let main_indices_193 : IVec S4x6 32 := (fun x => (Host.topK S4x6 1 (FloatOps.cmpfTotal .gt) x sliceFits_S4x1024_S4x6).2) main_v550
  let main_v551 : FVec F S4x5 .f32 := (extractStridedSlice S4x5 ![0, 1] · slices_S4x6_S4x5_0_1) main_values_192
  let main_v552 : FVec F S4x5 .f32 := (extractStridedSlice S4x5 ![0, 0] · slices_S4x6_S4x5_0_0) main_values_192
  let main_v553 : IVec S4x5 1 := cmpf .olt main_v551 main_v552
  let main_c_194 : IVec S_ 1 := constantI S_ 1 1#1
  let main_v554 : IVec S_ 1 := (fun x v => Host.reduce IntOp.andi x v reducesTo_S4x5_S_d0_1 h_S_) main_v553 main_c_194
  let main_v555 : IVec S_ 1 := andi main_v516 main_v554
  let main_v556 : FVec F S4x1x1024 .f32 := (extractStridedSlice S4x1x1024 ![0, 15, 0] · slices_S4x20x1024_S4x1x1024_0_15_0) main_arg0
  let main_v557 : FVec F S4x1024 .f32 := shapeCast S4x1024 main_v556 shapeCasts_S4x1x1024_S4x1024
  let main_values_195 : FVec F S4x5 .f32 := (fun x => (Host.topK S4x5 1 (FloatOps.cmpfTotal .gt) x sliceFits_S4x1024_S4x5).1) main_v550
  let main_indices_196 : IVec S4x5 32 := (fun x => (Host.topK S4x5 1 (FloatOps.cmpfTotal .gt) x sliceFits_S4x1024_S4x5).2) main_v550
  let main_c_197 : IVec S_ 32 := constantI S_ 32 0#32
  let main_v558 : IVec S4x5 32 := broadcastInDim S4x5 ![] bcast_S_S4x5 main_c_197
  let main_v559 : IVec S4x5 1 := cmpi .slt main_indices_196 main_v558
  let main_c_198 : IVec S_ 32 := constantI S_ 32 1024#32
  let main_v560 : IVec S4x5 32 := broadcastInDim S4x5 ![] bcast_S_S4x5 main_c_198
  let main_v561 : IVec S4x5 32 := addi main_indices_196 main_v560
  let main_v562 : IVec S4x5 32 := select main_v559 main_v561 main_indices_196
  let main_v563 : IVec S4x5x1 32 := broadcastInDim S4x5x1 ![0, 1] bcast_S4x5_S4x5x1_0_1 main_v562
  let main_v564 : FVec F S4x5x1024 .f32 := (fun x i => Host.gather gather_S1024x1024_S4x5x1_S4x5x1024_2_0_n_n_0_2_11024 x i) main_arg3 main_v563
  fn_part32 (F := F) main_arg0 main_arg1 main_arg2 main_arg3 main_arg4 main_v3 main_v550 main_v555 main_v557 main_v564

def fn_part30 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v511 : FVec F S4x1024 .f32) (main_v516 : IVec S_ 1) (main_v518 : FVec F S4x1024 .f32) (main_v528 : IVec S4x1024 1) : IVec S_ 1 :=
  let main_v529 : FVec F S4x1x1024 .f32 := broadcastInDim S4x1x1024 ![0, 2] bcast_S4x1024_S4x1x1024_0_2 main_v511
  let main_v530 : FVec F S1x1024x1024 .f32 := broadcastInDim S1x1024x1024 ![1, 2] bcast_S1024x1024_S1x1024x1024_1_2 main_v3
  let main_v531 : FVec F S4x1024x1024 .f32 := broadcastInDim S4x1024x1024 ![0, 1, 2] bcast_S4x1x1024_S4x1024x1024_0_1_2 main_v529
  let main_v532 : FVec F S4x1024x1024 .f32 := broadcastInDim S4x1024x1024 ![0, 1, 2] bcast_S1x1024x1024_S4x1024x1024_0_1_2 main_v530
  let main_v533 : FVec F S4x1024x1024 .f32 := addf main_v531 main_v532
  let main_v534 : FVec F S4x1024x1 .f32 := broadcastInDim S4x1024x1 ![0, 1] bcast_S4x1024_S4x1024x1_0_1 main_v518
  let main_v535 : FVec F S4x1024x1024 .f32 := broadcastInDim S4x1024x1024 ![0, 1, 2] bcast_S4x1024x1_S4x1024x1024_0_1_2 main_v534
  let main_v536 : FVec F S4x1024x1024 .f32 := addf main_v533 main_v535
  let main_cst_187 : FVec F S_ .f32 := constant S_ .f32 0xFF800000#32
  let main_v537 : FVec F S4x1024 .f32 := (fun x v => Host.reduce FloatOps.maximumf x v reducesTo_S4x1024x1024_S4x1024_d2 h_S_) main_v536 main_cst_187
  let main_v538 : FVec F S4x1024x1 .f32 := broadcastInDim S4x1024x1 ![0, 1] bcast_S4x1024_S4x1024x1_0_1 main_v537
  let main_v539 : FVec F S4x1024x1 .f32 := Host.absf main_v538
  let main_cst_188 : FVec F S_ .f32 := constant S_ .f32 0x7F800000#32
  let main_v540 : FVec F S4x1024x1 .f32 := broadcastInDim S4x1024x1 ![] bcast_S_S4x1024x1 main_cst_188
  let main_v541 : IVec S4x1024x1 1 := cmpf .olt main_v539 main_v540
  let main_cst_189 : FVec F S_ .f32 := constant S_ .f32 0x00000000#32
  let main_v542 : FVec F S4x1024x1 .f32 := fn_where (F := F) main_v541 main_v538 main_cst_189
  let main_v543 : FVec F S4x1024x1024 .f32 := broadcastInDim S4x1024x1024 ![0, 1, 2] bcast_S4x1024x1_S4x1024x1024_0_1_2 main_v542
  let main_v544 : FVec F S4x1024x1024 .f32 := subf main_v536 main_v543
  let main_v545 : FVec F S4x1024x1024 .f32 := Host.exp main_v544
  let main_cst_190 : FVec F S_ .f32 := constant S_ .f32 0x00000000#32
  let main_v546 : FVec F S4x1024 .f32 := (fun x v => Host.reduceAdd x v reducesTo_S4x1024x1024_S4x1024_d2 h_S_) main_v545 main_cst_190
  let main_v547 : FVec F S4x1024 .f32 := Host.log main_v546
  let main_v548 : FVec F S4x1024 .f32 := shapeCast S4x1024 main_v542 shapeCasts_S4x1024x1_S4x1024
  fn_part31 (F := F) main_arg0 main_arg1 main_arg2 main_arg3 main_arg4 main_v3 main_v516 main_v528 main_v547 main_v548

def fn_part29 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v477 : IVec S_ 1) (main_v511 : FVec F S4x1024 .f32) (main_values_178 : FVec F S4x6 .f32) : IVec S_ 1 :=
  let main_v512 : FVec F S4x5 .f32 := (extractStridedSlice S4x5 ![0, 1] · slices_S4x6_S4x5_0_1) main_values_178
  let main_v513 : FVec F S4x5 .f32 := (extractStridedSlice S4x5 ![0, 0] · slices_S4x6_S4x5_0_0) main_values_178
  let main_v514 : IVec S4x5 1 := cmpf .olt main_v512 main_v513
  let main_c_180 : IVec S_ 1 := constantI S_ 1 1#1
  let main_v515 : IVec S_ 1 := (fun x v => Host.reduce IntOp.andi x v reducesTo_S4x5_S_d0_1 h_S_) main_v514 main_c_180
  let main_v516 : IVec S_ 1 := andi main_v477 main_v515
  let main_v517 : FVec F S4x1x1024 .f32 := (extractStridedSlice S4x1x1024 ![0, 14, 0] · slices_S4x20x1024_S4x1x1024_0_14_0) main_arg0
  let main_v518 : FVec F S4x1024 .f32 := shapeCast S4x1024 main_v517 shapeCasts_S4x1x1024_S4x1024
  let main_values_181 : FVec F S4x5 .f32 := (fun x => (Host.topK S4x5 1 (FloatOps.cmpfTotal .gt) x sliceFits_S4x1024_S4x5).1) main_v511
  let main_indices_182 : IVec S4x5 32 := (fun x => (Host.topK S4x5 1 (FloatOps.cmpfTotal .gt) x sliceFits_S4x1024_S4x5).2) main_v511
  let main_c_183 : IVec S_ 32 := constantI S_ 32 0#32
  let main_v519 : IVec S4x5 32 := broadcastInDim S4x5 ![] bcast_S_S4x5 main_c_183
  let main_v520 : IVec S4x5 1 := cmpi .slt main_indices_182 main_v519
  let main_c_184 : IVec S_ 32 := constantI S_ 32 1024#32
  let main_v521 : IVec S4x5 32 := broadcastInDim S4x5 ![] bcast_S_S4x5 main_c_184
  let main_v522 : IVec S4x5 32 := addi main_indices_182 main_v521
  let main_v523 : IVec S4x5 32 := select main_v520 main_v522 main_indices_182
  let main_v524 : IVec S4x5x1 32 := broadcastInDim S4x5x1 ![0, 1] bcast_S4x5_S4x5x1_0_1 main_v523
  let main_v525 : FVec F S4x5x1024 .f32 := (fun x i => Host.gather gather_S1024x1024_S4x5x1_S4x5x1024_2_0_n_n_0_2_11024 x i) main_arg3 main_v524
  let main_cst_185 : FVec F S_ .f32 := constant S_ .f32 0x00000000#32
  let main_v526 : FVec F S4x1024 .f32 := (fun x v => Host.reduceAdd x v reducesTo_S4x5x1024_S4x1024_d1 h_S_) main_v525 main_cst_185
  let main_cst_186 : FVec F S_ .f32 := constant S_ .f32 0x00000000#32
  let main_v527 : FVec F S4x1024 .f32 := broadcastInDim S4x1024 ![] bcast_S_S4x1024 main_cst_186
  let main_v528 : IVec S4x1024 1 := cmpf .une main_v526 main_v527
  fn_part30 (F := F) main_arg0 main_arg1 main_arg2 main_arg3 main_arg4 main_v3 main_v511 main_v516 main_v518 main_v528

def fn_part28 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v477 : IVec S_ 1) (main_v479 : FVec F S4x1024 .f32) (main_v489 : IVec S4x1024 1) (main_v494 : FVec F S4x1024x1024 .f32) : IVec S_ 1 :=
  let main_v495 : FVec F S4x1024x1 .f32 := broadcastInDim S4x1024x1 ![0, 1] bcast_S4x1024_S4x1024x1_0_1 main_v479
  let main_v496 : FVec F S4x1024x1024 .f32 := broadcastInDim S4x1024x1024 ![0, 1, 2] bcast_S4x1024x1_S4x1024x1024_0_1_2 main_v495
  let main_v497 : FVec F S4x1024x1024 .f32 := addf main_v494 main_v496
  let main_cst_173 : FVec F S_ .f32 := constant S_ .f32 0xFF800000#32
  let main_v498 : FVec F S4x1024 .f32 := (fun x v => Host.reduce FloatOps.maximumf x v reducesTo_S4x1024x1024_S4x1024_d2 h_S_) main_v497 main_cst_173
  let main_v499 : FVec F S4x1024x1 .f32 := broadcastInDim S4x1024x1 ![0, 1] bcast_S4x1024_S4x1024x1_0_1 main_v498
  let main_v500 : FVec F S4x1024x1 .f32 := Host.absf main_v499
  let main_cst_174 : FVec F S_ .f32 := constant S_ .f32 0x7F800000#32
  let main_v501 : FVec F S4x1024x1 .f32 := broadcastInDim S4x1024x1 ![] bcast_S_S4x1024x1 main_cst_174
  let main_v502 : IVec S4x1024x1 1 := cmpf .olt main_v500 main_v501
  let main_cst_175 : FVec F S_ .f32 := constant S_ .f32 0x00000000#32
  let main_v503 : FVec F S4x1024x1 .f32 := fn_where (F := F) main_v502 main_v499 main_cst_175
  let main_v504 : FVec F S4x1024x1024 .f32 := broadcastInDim S4x1024x1024 ![0, 1, 2] bcast_S4x1024x1_S4x1024x1024_0_1_2 main_v503
  let main_v505 : FVec F S4x1024x1024 .f32 := subf main_v497 main_v504
  let main_v506 : FVec F S4x1024x1024 .f32 := Host.exp main_v505
  let main_cst_176 : FVec F S_ .f32 := constant S_ .f32 0x00000000#32
  let main_v507 : FVec F S4x1024 .f32 := (fun x v => Host.reduceAdd x v reducesTo_S4x1024x1024_S4x1024_d2 h_S_) main_v506 main_cst_176
  let main_v508 : FVec F S4x1024 .f32 := Host.log main_v507
  let main_v509 : FVec F S4x1024 .f32 := shapeCast S4x1024 main_v503 shapeCasts_S4x1024x1_S4x1024
  let main_v510 : FVec F S4x1024 .f32 := addf main_v508 main_v509
  let main_cst_177 : FVec F S_ .f32 := constant S_ .f32 0xFF800000#32
  let main_v511 : FVec F S4x1024 .f32 := fn_where_0 (F := F) main_v489 main_v510 main_cst_177
  let main_values_178 : FVec F S4x6 .f32 := (fun x => (Host.topK S4x6 1 (FloatOps.cmpfTotal .gt) x sliceFits_S4x1024_S4x6).1) main_v511
  let main_indices_179 : IVec S4x6 32 := (fun x => (Host.topK S4x6 1 (FloatOps.cmpfTotal .gt) x sliceFits_S4x1024_S4x6).2) main_v511
  fn_part29 (F := F) main_arg0 main_arg1 main_arg2 main_arg3 main_arg4 main_v3 main_v477 main_v511 main_values_178

def fn_part27 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v438 : IVec S_ 1) (main_v472 : FVec F S4x1024 .f32) (main_v476 : IVec S_ 1) : IVec S_ 1 :=
  let main_v477 : IVec S_ 1 := andi main_v438 main_v476
  let main_v478 : FVec F S4x1x1024 .f32 := (extractStridedSlice S4x1x1024 ![0, 13, 0] · slices_S4x20x1024_S4x1x1024_0_13_0) main_arg0
  let main_v479 : FVec F S4x1024 .f32 := shapeCast S4x1024 main_v478 shapeCasts_S4x1x1024_S4x1024
  let main_values_167 : FVec F S4x5 .f32 := (fun x => (Host.topK S4x5 1 (FloatOps.cmpfTotal .gt) x sliceFits_S4x1024_S4x5).1) main_v472
  let main_indices_168 : IVec S4x5 32 := (fun x => (Host.topK S4x5 1 (FloatOps.cmpfTotal .gt) x sliceFits_S4x1024_S4x5).2) main_v472
  let main_c_169 : IVec S_ 32 := constantI S_ 32 0#32
  let main_v480 : IVec S4x5 32 := broadcastInDim S4x5 ![] bcast_S_S4x5 main_c_169
  let main_v481 : IVec S4x5 1 := cmpi .slt main_indices_168 main_v480
  let main_c_170 : IVec S_ 32 := constantI S_ 32 1024#32
  let main_v482 : IVec S4x5 32 := broadcastInDim S4x5 ![] bcast_S_S4x5 main_c_170
  let main_v483 : IVec S4x5 32 := addi main_indices_168 main_v482
  let main_v484 : IVec S4x5 32 := select main_v481 main_v483 main_indices_168
  let main_v485 : IVec S4x5x1 32 := broadcastInDim S4x5x1 ![0, 1] bcast_S4x5_S4x5x1_0_1 main_v484
  let main_v486 : FVec F S4x5x1024 .f32 := (fun x i => Host.gather gather_S1024x1024_S4x5x1_S4x5x1024_2_0_n_n_0_2_11024 x i) main_arg3 main_v485
  let main_cst_171 : FVec F S_ .f32 := constant S_ .f32 0x00000000#32
  let main_v487 : FVec F S4x1024 .f32 := (fun x v => Host.reduceAdd x v reducesTo_S4x5x1024_S4x1024_d1 h_S_) main_v486 main_cst_171
  let main_cst_172 : FVec F S_ .f32 := constant S_ .f32 0x00000000#32
  let main_v488 : FVec F S4x1024 .f32 := broadcastInDim S4x1024 ![] bcast_S_S4x1024 main_cst_172
  let main_v489 : IVec S4x1024 1 := cmpf .une main_v487 main_v488
  let main_v490 : FVec F S4x1x1024 .f32 := broadcastInDim S4x1x1024 ![0, 2] bcast_S4x1024_S4x1x1024_0_2 main_v472
  let main_v491 : FVec F S1x1024x1024 .f32 := broadcastInDim S1x1024x1024 ![1, 2] bcast_S1024x1024_S1x1024x1024_1_2 main_v3
  let main_v492 : FVec F S4x1024x1024 .f32 := broadcastInDim S4x1024x1024 ![0, 1, 2] bcast_S4x1x1024_S4x1024x1024_0_1_2 main_v490
  let main_v493 : FVec F S4x1024x1024 .f32 := broadcastInDim S4x1024x1024 ![0, 1, 2] bcast_S1x1024x1024_S4x1024x1024_0_1_2 main_v491
  let main_v494 : FVec F S4x1024x1024 .f32 := addf main_v492 main_v493
  fn_part28 (F := F) main_arg0 main_arg1 main_arg2 main_arg3 main_arg4 main_v3 main_v477 main_v479 main_v489 main_v494

def fn_part26 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v438 : IVec S_ 1) (main_v450 : IVec S4x1024 1) (main_v458 : FVec F S4x1024x1024 .f32) (main_v459 : FVec F S4x1024 .f32) : IVec S_ 1 :=
  let main_v460 : FVec F S4x1024x1 .f32 := broadcastInDim S4x1024x1 ![0, 1] bcast_S4x1024_S4x1024x1_0_1 main_v459
  let main_v461 : FVec F S4x1024x1 .f32 := Host.absf main_v460
  let main_cst_160 : FVec F S_ .f32 := constant S_ .f32 0x7F800000#32
  let main_v462 : FVec F S4x1024x1 .f32 := broadcastInDim S4x1024x1 ![] bcast_S_S4x1024x1 main_cst_160
  let main_v463 : IVec S4x1024x1 1 := cmpf .olt main_v461 main_v462
  let main_cst_161 : FVec F S_ .f32 := constant S_ .f32 0x00000000#32
  let main_v464 : FVec F S4x1024x1 .f32 := fn_where (F := F) main_v463 main_v460 main_cst_161
  let main_v465 : FVec F S4x1024x1024 .f32 := broadcastInDim S4x1024x1024 ![0, 1, 2] bcast_S4x1024x1_S4x1024x1024_0_1_2 main_v464
  let main_v466 : FVec F S4x1024x1024 .f32 := subf main_v458 main_v465
  let main_v467 : FVec F S4x1024x1024 .f32 := Host.exp main_v466
  let main_cst_162 : FVec F S_ .f32 := constant S_ .f32 0x00000000#32
  let main_v468 : FVec F S4x1024 .f32 := (fun x v => Host.reduceAdd x v reducesTo_S4x1024x1024_S4x1024_d2 h_S_) main_v467 main_cst_162
  let main_v469 : FVec F S4x1024 .f32 := Host.log main_v468
  let main_v470 : FVec F S4x1024 .f32 := shapeCast S4x1024 main_v464 shapeCasts_S4x1024x1_S4x1024
  let main_v471 : FVec F S4x1024 .f32 := addf main_v469 main_v470
  let main_cst_163 : FVec F S_ .f32 := constant S_ .f32 0xFF800000#32
  let main_v472 : FVec F S4x1024 .f32 := fn_where_0 (F := F) main_v450 main_v471 main_cst_163
  let main_values_164 : FVec F S4x6 .f32 := (fun x => (Host.topK S4x6 1 (FloatOps.cmpfTotal .gt) x sliceFits_S4x1024_S4x6).1) main_v472
  let main_indices_165 : IVec S4x6 32 := (fun x => (Host.topK S4x6 1 (FloatOps.cmpfTotal .gt) x sliceFits_S4x1024_S4x6).2) main_v472
  let main_v473 : FVec F S4x5 .f32 := (extractStridedSlice S4x5 ![0, 1] · slices_S4x6_S4x5_0_1) main_values_164
  let main_v474 : FVec F S4x5 .f32 := (extractStridedSlice S4x5 ![0, 0] · slices_S4x6_S4x5_0_0) main_values_164
  let main_v475 : IVec S4x5 1 := cmpf .olt main_v473 main_v474
  let main_c_166 : IVec S_ 1 := constantI S_ 1 1#1
  let main_v476 : IVec S_ 1 := (fun x v => Host.reduce IntOp.andi x v reducesTo_S4x5_S_d0_1 h_S_) main_v475 main_c_166
  fn_part27 (F := F) main_arg0 main_arg1 main_arg2 main_arg3 main_arg4 main_v3 main_v438 main_v472 main_v476

def fn_part25 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v433 : FVec F S4x1024 .f32) (main_v438 : IVec S_ 1) (main_v440 : FVec F S4x1024 .f32) (main_indices_154 : IVec S4x5 32) : IVec S_ 1 :=
  let main_c_155 : IVec S_ 32 := constantI S_ 32 0#32
  let main_v441 : IVec S4x5 32 := broadcastInDim S4x5 ![] bcast_S_S4x5 main_c_155
  let main_v442 : IVec S4x5 1 := cmpi .slt main_indices_154 main_v441
  let main_c_156 : IVec S_ 32 := constantI S_ 32 1024#32
  let main_v443 : IVec S4x5 32 := broadcastInDim S4x5 ![] bcast_S_S4x5 main_c_156
  let main_v444 : IVec S4x5 32 := addi main_indices_154 main_v443
  let main_v445 : IVec S4x5 32 := select main_v442 main_v444 main_indices_154
  let main_v446 : IVec S4x5x1 32 := broadcastInDim S4x5x1 ![0, 1] bcast_S4x5_S4x5x1_0_1 main_v445
  let main_v447 : FVec F S4x5x1024 .f32 := (fun x i => Host.gather gather_S1024x1024_S4x5x1_S4x5x1024_2_0_n_n_0_2_11024 x i) main_arg3 main_v446
  let main_cst_157 : FVec F S_ .f32 := constant S_ .f32 0x00000000#32
  let main_v448 : FVec F S4x1024 .f32 := (fun x v => Host.reduceAdd x v reducesTo_S4x5x1024_S4x1024_d1 h_S_) main_v447 main_cst_157
  let main_cst_158 : FVec F S_ .f32 := constant S_ .f32 0x00000000#32
  let main_v449 : FVec F S4x1024 .f32 := broadcastInDim S4x1024 ![] bcast_S_S4x1024 main_cst_158
  let main_v450 : IVec S4x1024 1 := cmpf .une main_v448 main_v449
  let main_v451 : FVec F S4x1x1024 .f32 := broadcastInDim S4x1x1024 ![0, 2] bcast_S4x1024_S4x1x1024_0_2 main_v433
  let main_v452 : FVec F S1x1024x1024 .f32 := broadcastInDim S1x1024x1024 ![1, 2] bcast_S1024x1024_S1x1024x1024_1_2 main_v3
  let main_v453 : FVec F S4x1024x1024 .f32 := broadcastInDim S4x1024x1024 ![0, 1, 2] bcast_S4x1x1024_S4x1024x1024_0_1_2 main_v451
  let main_v454 : FVec F S4x1024x1024 .f32 := broadcastInDim S4x1024x1024 ![0, 1, 2] bcast_S1x1024x1024_S4x1024x1024_0_1_2 main_v452
  let main_v455 : FVec F S4x1024x1024 .f32 := addf main_v453 main_v454
  let main_v456 : FVec F S4x1024x1 .f32 := broadcastInDim S4x1024x1 ![0, 1] bcast_S4x1024_S4x1024x1_0_1 main_v440
  let main_v457 : FVec F S4x1024x1024 .f32 := broadcastInDim S4x1024x1024 ![0, 1, 2] bcast_S4x1024x1_S4x1024x1024_0_1_2 main_v456
  let main_v458 : FVec F S4x1024x1024 .f32 := addf main_v455 main_v457
  let main_cst_159 : FVec F S_ .f32 := constant S_ .f32 0xFF800000#32
  let main_v459 : FVec F S4x1024 .f32 := (fun x v => Host.reduce FloatOps.maximumf x v reducesTo_S4x1024x1024_S4x1024_d2 h_S_) main_v458 main_cst_159
  fn_part26 (F := F) main_arg0 main_arg1 main_arg2 main_arg3 main_arg4 main_v3 main_v438 main_v450 main_v458 main_v459

def fn_part24 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v399 : IVec S_ 1) (main_v411 : IVec S4x1024 1) (main_v419 : FVec F S4x1024x1024 .f32) (main_v421 : FVec F S4x1024x1 .f32) (main_v424 : IVec S4x1024x1 1) : IVec S_ 1 :=
  let main_cst_147 : FVec F S_ .f32 := constant S_ .f32 0x00000000#32
  let main_v425 : FVec F S4x1024x1 .f32 := fn_where (F := F) main_v424 main_v421 main_cst_147
  let main_v426 : FVec F S4x1024x1024 .f32 := broadcastInDim S4x1024x1024 ![0, 1, 2] bcast_S4x1024x1_S4x1024x1024_0_1_2 main_v425
  let main_v427 : FVec F S4x1024x1024 .f32 := subf main_v419 main_v426
  let main_v428 : FVec F S4x1024x1024 .f32 := Host.exp main_v427
  let main_cst_148 : FVec F S_ .f32 := constant S_ .f32 0x00000000#32
  let main_v429 : FVec F S4x1024 .f32 := (fun x v => Host.reduceAdd x v reducesTo_S4x1024x1024_S4x1024_d2 h_S_) main_v428 main_cst_148
  let main_v430 : FVec F S4x1024 .f32 := Host.log main_v429
  let main_v431 : FVec F S4x1024 .f32 := shapeCast S4x1024 main_v425 shapeCasts_S4x1024x1_S4x1024
  let main_v432 : FVec F S4x1024 .f32 := addf main_v430 main_v431
  let main_cst_149 : FVec F S_ .f32 := constant S_ .f32 0xFF800000#32
  let main_v433 : FVec F S4x1024 .f32 := fn_where_0 (F := F) main_v411 main_v432 main_cst_149
  let main_values_150 : FVec F S4x6 .f32 := (fun x => (Host.topK S4x6 1 (FloatOps.cmpfTotal .gt) x sliceFits_S4x1024_S4x6).1) main_v433
  let main_indices_151 : IVec S4x6 32 := (fun x => (Host.topK S4x6 1 (FloatOps.cmpfTotal .gt) x sliceFits_S4x1024_S4x6).2) main_v433
  let main_v434 : FVec F S4x5 .f32 := (extractStridedSlice S4x5 ![0, 1] · slices_S4x6_S4x5_0_1) main_values_150
  let main_v435 : FVec F S4x5 .f32 := (extractStridedSlice S4x5 ![0, 0] · slices_S4x6_S4x5_0_0) main_values_150
  let main_v436 : IVec S4x5 1 := cmpf .olt main_v434 main_v435
  let main_c_152 : IVec S_ 1 := constantI S_ 1 1#1
  let main_v437 : IVec S_ 1 := (fun x v => Host.reduce IntOp.andi x v reducesTo_S4x5_S_d0_1 h_S_) main_v436 main_c_152
  let main_v438 : IVec S_ 1 := andi main_v399 main_v437
  let main_v439 : FVec F S4x1x1024 .f32 := (extractStridedSlice S4x1x1024 ![0, 12, 0] · slices_S4x20x1024_S4x1x1024_0_12_0) main_arg0
  let main_v440 : FVec F S4x1024 .f32 := shapeCast S4x1024 main_v439 shapeCasts_S4x1x1024_S4x1024
  let main_values_153 : FVec F S4x5 .f32 := (fun x => (Host.topK S4x5 1 (FloatOps.cmpfTotal .gt) x sliceFits_S4x1024_S4x5).1) main_v433
  let main_indices_154 : IVec S4x5 32 := (fun x => (Host.topK S4x5 1 (FloatOps.cmpfTotal .gt) x sliceFits_S4x1024_S4x5).2) main_v433
  fn_part25 (F := F) main_arg0 main_arg1 main_arg2 main_arg3 main_arg4 main_v3 main_v433 main_v438 main_v440 main_indices_154

def fn_part23 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v394 : FVec F S4x1024 .f32) (main_v399 : IVec S_ 1) (main_v401 : FVec F S4x1024 .f32) (main_indices_140 : IVec S4x5 32) (main_v403 : IVec S4x5 1) (main_v404 : IVec S4x5 32) : IVec S_ 1 :=
  let main_v405 : IVec S4x5 32 := addi main_indices_140 main_v404
  let main_v406 : IVec S4x5 32 := select main_v403 main_v405 main_indices_140
  let main_v407 : IVec S4x5x1 32 := broadcastInDim S4x5x1 ![0, 1] bcast_S4x5_S4x5x1_0_1 main_v406
  let main_v408 : FVec F S4x5x1024 .f32 := (fun x i => Host.gather gather_S1024x1024_S4x5x1_S4x5x1024_2_0_n_n_0_2_11024 x i) main_arg3 main_v407
  let main_cst_143 : FVec F S_ .f32 := constant S_ .f32 0x00000000#32
  let main_v409 : FVec F S4x1024 .f32 := (fun x v => Host.reduceAdd x v reducesTo_S4x5x1024_S4x1024_d1 h_S_) main_v408 main_cst_143
  let main_cst_144 : FVec F S_ .f32 := constant S_ .f32 0x00000000#32
  let main_v410 : FVec F S4x1024 .f32 := broadcastInDim S4x1024 ![] bcast_S_S4x1024 main_cst_144
  let main_v411 : IVec S4x1024 1 := cmpf .une main_v409 main_v410
  let main_v412 : FVec F S4x1x1024 .f32 := broadcastInDim S4x1x1024 ![0, 2] bcast_S4x1024_S4x1x1024_0_2 main_v394
  let main_v413 : FVec F S1x1024x1024 .f32 := broadcastInDim S1x1024x1024 ![1, 2] bcast_S1024x1024_S1x1024x1024_1_2 main_v3
  let main_v414 : FVec F S4x1024x1024 .f32 := broadcastInDim S4x1024x1024 ![0, 1, 2] bcast_S4x1x1024_S4x1024x1024_0_1_2 main_v412
  let main_v415 : FVec F S4x1024x1024 .f32 := broadcastInDim S4x1024x1024 ![0, 1, 2] bcast_S1x1024x1024_S4x1024x1024_0_1_2 main_v413
  let main_v416 : FVec F S4x1024x1024 .f32 := addf main_v414 main_v415
  let main_v417 : FVec F S4x1024x1 .f32 := broadcastInDim S4x1024x1 ![0, 1] bcast_S4x1024_S4x1024x1_0_1 main_v401
  let main_v418 : FVec F S4x1024x1024 .f32 := broadcastInDim S4x1024x1024 ![0, 1, 2] bcast_S4x1024x1_S4x1024x1024_0_1_2 main_v417
  let main_v419 : FVec F S4x1024x1024 .f32 := addf main_v416 main_v418
  let main_cst_145 : FVec F S_ .f32 := constant S_ .f32 0xFF800000#32
  let main_v420 : FVec F S4x1024 .f32 := (fun x v => Host.reduce FloatOps.maximumf x v reducesTo_S4x1024x1024_S4x1024_d2 h_S_) main_v419 main_cst_145
  let main_v421 : FVec F S4x1024x1 .f32 := broadcastInDim S4x1024x1 ![0, 1] bcast_S4x1024_S4x1024x1_0_1 main_v420
  let main_v422 : FVec F S4x1024x1 .f32 := Host.absf main_v421
  let main_cst_146 : FVec F S_ .f32 := constant S_ .f32 0x7F800000#32
  let main_v423 : FVec F S4x1024x1 .f32 := broadcastInDim S4x1024x1 ![] bcast_S_S4x1024x1 main_cst_146
  let main_v424 : IVec S4x1024x1 1 := cmpf .olt main_v422 main_v423
  fn_part24 (F := F) main_arg0 main_arg1 main_arg2 main_arg3 main_arg4 main_v3 main_v399 main_v411 main_v419 main_v421 main_v424

def fn_part22 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v360 : IVec S_ 1) (main_v372 : IVec S4x1024 1) (main_v386 : FVec F S4x1024x1 .f32) (main_v389 : FVec F S4x1024x1024 .f32) : IVec S_ 1 :=
  let main_cst_134 : FVec F S_ .f32 := constant S_ .f32 0x00000000#32
  let main_v390 : FVec F S4x1024 .f32 := (fun x v => Host.reduceAdd x v reducesTo_S4x1024x1024_S4x1024_d2 h_S_) main_v389 main_cst_134
  let main_v391 : FVec F S4x1024 .f32 := Host.log main_v390
  let main_v392 : FVec F S4x1024 .f32 := shapeCast S4x1024 main_v386 shapeCasts_S4x1024x1_S4x1024
  let main_v393 : FVec F S4x1024 .f32 := addf main_v391 main_v392
  let main_cst_135 : FVec F S_ .f32 := constant S_ .f32 0xFF800000#32
  let main_v394 : FVec F S4x1024 .f32 := fn_where_0 (F := F) main_v372 main_v393 main_cst_135
  let main_values_136 : FVec F S4x6 .f32 := (fun x => (Host.topK S4x6 1 (FloatOps.cmpfTotal .gt) x sliceFits_S4x1024_S4x6).1) main_v394
  let main_indices_137 : IVec S4x6 32 := (fun x => (Host.topK S4x6 1 (FloatOps.cmpfTotal .gt) x sliceFits_S4x1024_S4x6).2) main_v394
  let main_v395 : FVec F S4x5 .f32 := (extractStridedSlice S4x5 ![0, 1] · slices_S4x6_S4x5_0_1) main_values_136
  let main_v396 : FVec F S4x5 .f32 := (extractStridedSlice S4x5 ![0, 0] · slices_S4x6_S4x5_0_0) main_values_136
  let main_v397 : IVec S4x5 1 := cmpf .olt main_v395 main_v396
  let main_c_138 : IVec S_ 1 := constantI S_ 1 1#1
  let main_v398 : IVec S_ 1 := (fun x v => Host.reduce IntOp.andi x v reducesTo_S4x5_S_d0_1 h_S_) main_v397 main_c_138
  let main_v399 : IVec S_ 1 := andi main_v360 main_v398
  let main_v400 : FVec F S4x1x1024 .f32 := (extractStridedSlice S4x1x1024 ![0, 11, 0] · slices_S4x20x1024_S4x1x1024_0_11_0) main_arg0
  let main_v401 : FVec F S4x1024 .f32 := shapeCast S4x1024 main_v400 shapeCasts_S4x1x1024_S4x1024
  let main_values_139 : FVec F S4x5 .f32 := (fun x => (Host.topK S4x5 1 (FloatOps.cmpfTotal .gt) x sliceFits_S4x1024_S4x5).1) main_v394
  let main_indices_140 : IVec S4x5 32 := (fun x => (Host.topK S4x5 1 (FloatOps.cmpfTotal .gt) x sliceFits_S4x1024_S4x5).2) main_v394
  let main_c_141 : IVec S_ 32 := constantI S_ 32 0#32
  let main_v402 : IVec S4x5 32 := broadcastInDim S4x5 ![] bcast_S_S4x5 main_c_141
  let main_v403 : IVec S4x5 1 := cmpi .slt main_indices_140 main_v402
  let main_c_142 : IVec S_ 32 := constantI S_ 32 1024#32
  let main_v404 : IVec S4x5 32 := broadcastInDim S4x5 ![] bcast_S_S4x5 main_c_142
  fn_part23 (F := F) main_arg0 main_arg1 main_arg2 main_arg3 main_arg4 main_v3 main_v394 main_v399 main_v401 main_indices_140 main_v403 main_v404

def fn_part21 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v355 : FVec F S4x1024 .f32) (main_v360 : IVec S_ 1) (main_v362 : FVec F S4x1024 .f32) (main_v369 : FVec F S4x5x1024 .f32) (main_cst_129 : FVec F S_ .f32) : IVec S_ 1 :=
  let main_v370 : FVec F S4x1024 .f32 := (fun x v => Host.reduceAdd x v reducesTo_S4x5x1024_S4x1024_d1 h_S_) main_v369 main_cst_129
  let main_cst_130 : FVec F S_ .f32 := constant S_ .f32 0x00000000#32
  let main_v371 : FVec F S4x1024 .f32 := broadcastInDim S4x1024 ![] bcast_S_S4x1024 main_cst_130
  let main_v372 : IVec S4x1024 1 := cmpf .une main_v370 main_v371
  let main_v373 : FVec F S4x1x1024 .f32 := broadcastInDim S4x1x1024 ![0, 2] bcast_S4x1024_S4x1x1024_0_2 main_v355
  let main_v374 : FVec F S1x1024x1024 .f32 := broadcastInDim S1x1024x1024 ![1, 2] bcast_S1024x1024_S1x1024x1024_1_2 main_v3
  let main_v375 : FVec F S4x1024x1024 .f32 := broadcastInDim S4x1024x1024 ![0, 1, 2] bcast_S4x1x1024_S4x1024x1024_0_1_2 main_v373
  let main_v376 : FVec F S4x1024x1024 .f32 := broadcastInDim S4x1024x1024 ![0, 1, 2] bcast_S1x1024x1024_S4x1024x1024_0_1_2 main_v374
  let main_v377 : FVec F S4x1024x1024 .f32 := addf main_v375 main_v376
  let main_v378 : FVec F S4x1024x1 .f32 := broadcastInDim S4x1024x1 ![0, 1] bcast_S4x1024_S4x1024x1_0_1 main_v362
  let main_v379 : FVec F S4x1024x1024 .f32 := broadcastInDim S4x1024x1024 ![0, 1, 2] bcast_S4x1024x1_S4x1024x1024_0_1_2 main_v378
  let main_v380 : FVec F S4x1024x1024 .f32 := addf main_v377 main_v379
  let main_cst_131 : FVec F S_ .f32 := constant S_ .f32 0xFF800000#32
  let main_v381 : FVec F S4x1024 .f32 := (fun x v => Host.reduce FloatOps.maximumf x v reducesTo_S4x1024x1024_S4x1024_d2 h_S_) main_v380 main_cst_131
  let main_v382 : FVec F S4x1024x1 .f32 := broadcastInDim S4x1024x1 ![0, 1] bcast_S4x1024_S4x1024x1_0_1 main_v381
  let main_v383 : FVec F S4x1024x1 .f32 := Host.absf main_v382
  let main_cst_132 : FVec F S_ .f32 := constant S_ .f32 0x7F800000#32
  let main_v384 : FVec F S4x1024x1 .f32 := broadcastInDim S4x1024x1 ![] bcast_S_S4x1024x1 main_cst_132
  let main_v385 : IVec S4x1024x1 1 := cmpf .olt main_v383 main_v384
  let main_cst_133 : FVec F S_ .f32 := constant S_ .f32 0x00000000#32
  let main_v386 : FVec F S4x1024x1 .f32 := fn_where (F := F) main_v385 main_v382 main_cst_133
  let main_v387 : FVec F S4x1024x1024 .f32 := broadcastInDim S4x1024x1024 ![0, 1, 2] bcast_S4x1024x1_S4x1024x1024_0_1_2 main_v386
  let main_v388 : FVec F S4x1024x1024 .f32 := subf main_v380 main_v387
  let main_v389 : FVec F S4x1024x1024 .f32 := Host.exp main_v388
  fn_part22 (F := F) main_arg0 main_arg1 main_arg2 main_arg3 main_arg4 main_v3 main_v360 main_v372 main_v386 main_v389

def fn_part20 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v321 : IVec S_ 1) (main_v333 : IVec S4x1024 1) (main_v354 : FVec F S4x1024 .f32) : IVec S_ 1 :=
  let main_cst_121 : FVec F S_ .f32 := constant S_ .f32 0xFF800000#32
  let main_v355 : FVec F S4x1024 .f32 := fn_where_0 (F := F) main_v333 main_v354 main_cst_121
  let main_values_122 : FVec F S4x6 .f32 := (fun x => (Host.topK S4x6 1 (FloatOps.cmpfTotal .gt) x sliceFits_S4x1024_S4x6).1) main_v355
  let main_indices_123 : IVec S4x6 32 := (fun x => (Host.topK S4x6 1 (FloatOps.cmpfTotal .gt) x sliceFits_S4x1024_S4x6).2) main_v355
  let main_v356 : FVec F S4x5 .f32 := (extractStridedSlice S4x5 ![0, 1] · slices_S4x6_S4x5_0_1) main_values_122
  let main_v357 : FVec F S4x5 .f32 := (extractStridedSlice S4x5 ![0, 0] · slices_S4x6_S4x5_0_0) main_values_122
  let main_v358 : IVec S4x5 1 := cmpf .olt main_v356 main_v357
  let main_c_124 : IVec S_ 1 := constantI S_ 1 1#1
  let main_v359 : IVec S_ 1 := (fun x v => Host.reduce IntOp.andi x v reducesTo_S4x5_S_d0_1 h_S_) main_v358 main_c_124
  let main_v360 : IVec S_ 1 := andi main_v321 main_v359
  let main_v361 : FVec F S4x1x1024 .f32 := (extractStridedSlice S4x1x1024 ![0, 10, 0] · slices_S4x20x1024_S4x1x1024_0_10_0) main_arg0
  let main_v362 : FVec F S4x1024 .f32 := shapeCast S4x1024 main_v361 shapeCasts_S4x1x1024_S4x1024
  let main_values_125 : FVec F S4x5 .f32 := (fun x => (Host.topK S4x5 1 (FloatOps.cmpfTotal .gt) x sliceFits_S4x1024_S4x5).1) main_v355
  let main_indices_126 : IVec S4x5 32 := (fun x => (Host.topK S4x5 1 (FloatOps.cmpfTotal .gt) x sliceFits_S4x1024_S4x5).2) main_v355
  let main_c_127 : IVec S_ 32 := constantI S_ 32 0#32
  let main_v363 : IVec S4x5 32 := broadcastInDim S4x5 ![] bcast_S_S4x5 main_c_127
  let main_v364 : IVec S4x5 1 := cmpi .slt main_indices_126 main_v363
  let main_c_128 : IVec S_ 32 := constantI S_ 32 1024#32
  let main_v365 : IVec S4x5 32 := broadcastInDim S4x5 ![] bcast_S_S4x5 main_c_128
  let main_v366 : IVec S4x5 32 := addi main_indices_126 main_v365
  let main_v367 : IVec S4x5 32 := select main_v364 main_v366 main_indices_126
  let main_v368 : IVec S4x5x1 32 := broadcastInDim S4x5x1 ![0, 1] bcast_S4x5_S4x5x1_0_1 main_v367
  let main_v369 : FVec F S4x5x1024 .f32 := (fun x i => Host.gather gather_S1024x1024_S4x5x1_S4x5x1024_2_0_n_n_0_2_11024 x i) main_arg3 main_v368
  let main_cst_129 : FVec F S_ .f32 := constant S_ .f32 0x00000000#32
  fn_part21 (F := F) main_arg0 main_arg1 main_arg2 main_arg3 main_arg4 main_v3 main_v355 main_v360 main_v362 main_v369 main_cst_129

def fn_part19 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v321 : IVec S_ 1) (main_v323 : FVec F S4x1024 .f32) (main_v333 : IVec S4x1024 1) (main_v334 : FVec F S4x1x1024 .f32) : IVec S_ 1 :=
  let main_v335 : FVec F S1x1024x1024 .f32 := broadcastInDim S1x1024x1024 ![1, 2] bcast_S1024x1024_S1x1024x1024_1_2 main_v3
  let main_v336 : FVec F S4x1024x1024 .f32 := broadcastInDim S4x1024x1024 ![0, 1, 2] bcast_S4x1x1024_S4x1024x1024_0_1_2 main_v334
  let main_v337 : FVec F S4x1024x1024 .f32 := broadcastInDim S4x1024x1024 ![0, 1, 2] bcast_S1x1024x1024_S4x1024x1024_0_1_2 main_v335
  let main_v338 : FVec F S4x1024x1024 .f32 := addf main_v336 main_v337
  let main_v339 : FVec F S4x1024x1 .f32 := broadcastInDim S4x1024x1 ![0, 1] bcast_S4x1024_S4x1024x1_0_1 main_v323
  let main_v340 : FVec F S4x1024x1024 .f32 := broadcastInDim S4x1024x1024 ![0, 1, 2] bcast_S4x1024x1_S4x1024x1024_0_1_2 main_v339
  let main_v341 : FVec F S4x1024x1024 .f32 := addf main_v338 main_v340
  let main_cst_117 : FVec F S_ .f32 := constant S_ .f32 0xFF800000#32
  let main_v342 : FVec F S4x1024 .f32 := (fun x v => Host.reduce FloatOps.maximumf x v reducesTo_S4x1024x1024_S4x1024_d2 h_S_) main_v341 main_cst_117
  let main_v343 : FVec F S4x1024x1 .f32 := broadcastInDim S4x1024x1 ![0, 1] bcast_S4x1024_S4x1024x1_0_1 main_v342
  let main_v344 : FVec F S4x1024x1 .f32 := Host.absf main_v343
  let main_cst_118 : FVec F S_ .f32 := constant S_ .f32 0x7F800000#32
  let main_v345 : FVec F S4x1024x1 .f32 := broadcastInDim S4x1024x1 ![] bcast_S_S4x1024x1 main_cst_118
  let main_v346 : IVec S4x1024x1 1 := cmpf .olt main_v344 main_v345
  let main_cst_119 : FVec F S_ .f32 := constant S_ .f32 0x00000000#32
  let main_v347 : FVec F S4x1024x1 .f32 := fn_where (F := F) main_v346 main_v343 main_cst_119
  let main_v348 : FVec F S4x1024x1024 .f32 := broadcastInDim S4x1024x1024 ![0, 1, 2] bcast_S4x1024x1_S4x1024x1024_0_1_2 main_v347
  let main_v349 : FVec F S4x1024x1024 .f32 := subf main_v341 main_v348
  let main_v350 : FVec F S4x1024x1024 .f32 := Host.exp main_v349
  let main_cst_120 : FVec F S_ .f32 := constant S_ .f32 0x00000000#32
  let main_v351 : FVec F S4x1024 .f32 := (fun x v => Host.reduceAdd x v reducesTo_S4x1024x1024_S4x1024_d2 h_S_) main_v350 main_cst_120
  let main_v352 : FVec F S4x1024 .f32 := Host.log main_v351
  let main_v353 : FVec F S4x1024 .f32 := shapeCast S4x1024 main_v347 shapeCasts_S4x1024x1_S4x1024
  let main_v354 : FVec F S4x1024 .f32 := addf main_v352 main_v353
  fn_part20 (F := F) main_arg0 main_arg1 main_arg2 main_arg3 main_arg4 main_v3 main_v321 main_v333 main_v354

def fn_part18 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v282 : IVec S_ 1) (main_v316 : FVec F S4x1024 .f32) (main_values_108 : FVec F S4x6 .f32) (main_v317 : FVec F S4x5 .f32) : IVec S_ 1 :=
  let main_v318 : FVec F S4x5 .f32 := (extractStridedSlice S4x5 ![0, 0] · slices_S4x6_S4x5_0_0) main_values_108
  let main_v319 : IVec S4x5 1 := cmpf .olt main_v317 main_v318
  let main_c_110 : IVec S_ 1 := constantI S_ 1 1#1
  let main_v320 : IVec S_ 1 := (fun x v => Host.reduce IntOp.andi x v reducesTo_S4x5_S_d0_1 h_S_) main_v319 main_c_110
  let main_v321 : IVec S_ 1 := andi main_v282 main_v320
  let main_v322 : FVec F S4x1x1024 .f32 := (extractStridedSlice S4x1x1024 ![0, 9, 0] · slices_S4x20x1024_S4x1x1024_0_9_0) main_arg0
  let main_v323 : FVec F S4x1024 .f32 := shapeCast S4x1024 main_v322 shapeCasts_S4x1x1024_S4x1024
  let main_values_111 : FVec F S4x5 .f32 := (fun x => (Host.topK S4x5 1 (FloatOps.cmpfTotal .gt) x sliceFits_S4x1024_S4x5).1) main_v316
  let main_indices_112 : IVec S4x5 32 := (fun x => (Host.topK S4x5 1 (FloatOps.cmpfTotal .gt) x sliceFits_S4x1024_S4x5).2) main_v316
  let main_c_113 : IVec S_ 32 := constantI S_ 32 0#32
  let main_v324 : IVec S4x5 32 := broadcastInDim S4x5 ![] bcast_S_S4x5 main_c_113
  let main_v325 : IVec S4x5 1 := cmpi .slt main_indices_112 main_v324
  let main_c_114 : IVec S_ 32 := constantI S_ 32 1024#32
  let main_v326 : IVec S4x5 32 := broadcastInDim S4x5 ![] bcast_S_S4x5 main_c_114
  let main_v327 : IVec S4x5 32 := addi main_indices_112 main_v326
  let main_v328 : IVec S4x5 32 := select main_v325 main_v327 main_indices_112
  let main_v329 : IVec S4x5x1 32 := broadcastInDim S4x5x1 ![0, 1] bcast_S4x5_S4x5x1_0_1 main_v328
  let main_v330 : FVec F S4x5x1024 .f32 := (fun x i => Host.gather gather_S1024x1024_S4x5x1_S4x5x1024_2_0_n_n_0_2_11024 x i) main_arg3 main_v329
  let main_cst_115 : FVec F S_ .f32 := constant S_ .f32 0x00000000#32
  let main_v331 : FVec F S4x1024 .f32 := (fun x v => Host.reduceAdd x v reducesTo_S4x5x1024_S4x1024_d1 h_S_) main_v330 main_cst_115
  let main_cst_116 : FVec F S_ .f32 := constant S_ .f32 0x00000000#32
  let main_v332 : FVec F S4x1024 .f32 := broadcastInDim S4x1024 ![] bcast_S_S4x1024 main_cst_116
  let main_v333 : IVec S4x1024 1 := cmpf .une main_v331 main_v332
  let main_v334 : FVec F S4x1x1024 .f32 := broadcastInDim S4x1x1024 ![0, 2] bcast_S4x1024_S4x1x1024_0_2 main_v316
  fn_part19 (F := F) main_arg0 main_arg1 main_arg2 main_arg3 main_arg4 main_v3 main_v321 main_v323 main_v333 main_v334

def fn_part17 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v282 : IVec S_ 1) (main_v294 : IVec S4x1024 1) (main_v299 : FVec F S4x1024x1024 .f32) (main_v300 : FVec F S4x1024x1 .f32) : IVec S_ 1 :=
  let main_v301 : FVec F S4x1024x1024 .f32 := broadcastInDim S4x1024x1024 ![0, 1, 2] bcast_S4x1024x1_S4x1024x1024_0_1_2 main_v300
  let main_v302 : FVec F S4x1024x1024 .f32 := addf main_v299 main_v301
  let main_cst_103 : FVec F S_ .f32 := constant S_ .f32 0xFF800000#32
  let main_v303 : FVec F S4x1024 .f32 := (fun x v => Host.reduce FloatOps.maximumf x v reducesTo_S4x1024x1024_S4x1024_d2 h_S_) main_v302 main_cst_103
  let main_v304 : FVec F S4x1024x1 .f32 := broadcastInDim S4x1024x1 ![0, 1] bcast_S4x1024_S4x1024x1_0_1 main_v303
  let main_v305 : FVec F S4x1024x1 .f32 := Host.absf main_v304
  let main_cst_104 : FVec F S_ .f32 := constant S_ .f32 0x7F800000#32
  let main_v306 : FVec F S4x1024x1 .f32 := broadcastInDim S4x1024x1 ![] bcast_S_S4x1024x1 main_cst_104
  let main_v307 : IVec S4x1024x1 1 := cmpf .olt main_v305 main_v306
  let main_cst_105 : FVec F S_ .f32 := constant S_ .f32 0x00000000#32
  let main_v308 : FVec F S4x1024x1 .f32 := fn_where (F := F) main_v307 main_v304 main_cst_105
  let main_v309 : FVec F S4x1024x1024 .f32 := broadcastInDim S4x1024x1024 ![0, 1, 2] bcast_S4x1024x1_S4x1024x1024_0_1_2 main_v308
  let main_v310 : FVec F S4x1024x1024 .f32 := subf main_v302 main_v309
  let main_v311 : FVec F S4x1024x1024 .f32 := Host.exp main_v310
  let main_cst_106 : FVec F S_ .f32 := constant S_ .f32 0x00000000#32
  let main_v312 : FVec F S4x1024 .f32 := (fun x v => Host.reduceAdd x v reducesTo_S4x1024x1024_S4x1024_d2 h_S_) main_v311 main_cst_106
  let main_v313 : FVec F S4x1024 .f32 := Host.log main_v312
  let main_v314 : FVec F S4x1024 .f32 := shapeCast S4x1024 main_v308 shapeCasts_S4x1024x1_S4x1024
  let main_v315 : FVec F S4x1024 .f32 := addf main_v313 main_v314
  let main_cst_107 : FVec F S_ .f32 := constant S_ .f32 0xFF800000#32
  let main_v316 : FVec F S4x1024 .f32 := fn_where_0 (F := F) main_v294 main_v315 main_cst_107
  let main_values_108 : FVec F S4x6 .f32 := (fun x => (Host.topK S4x6 1 (FloatOps.cmpfTotal .gt) x sliceFits_S4x1024_S4x6).1) main_v316
  let main_indices_109 : IVec S4x6 32 := (fun x => (Host.topK S4x6 1 (FloatOps.cmpfTotal .gt) x sliceFits_S4x1024_S4x6).2) main_v316
  let main_v317 : FVec F S4x5 .f32 := (extractStridedSlice S4x5 ![0, 1] · slices_S4x6_S4x5_0_1) main_values_108
  fn_part18 (F := F) main_arg0 main_arg1 main_arg2 main_arg3 main_arg4 main_v3 main_v282 main_v316 main_values_108 main_v317

def fn_part16 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v277 : FVec F S4x1024 .f32) (main_v282 : IVec S_ 1) : IVec S_ 1 :=
  let main_v283 : FVec F S4x1x1024 .f32 := (extractStridedSlice S4x1x1024 ![0, 8, 0] · slices_S4x20x1024_S4x1x1024_0_8_0) main_arg0
  let main_v284 : FVec F S4x1024 .f32 := shapeCast S4x1024 main_v283 shapeCasts_S4x1x1024_S4x1024
  let main_values_97 : FVec F S4x5 .f32 := (fun x => (Host.topK S4x5 1 (FloatOps.cmpfTotal .gt) x sliceFits_S4x1024_S4x5).1) main_v277
  let main_indices_98 : IVec S4x5 32 := (fun x => (Host.topK S4x5 1 (FloatOps.cmpfTotal .gt) x sliceFits_S4x1024_S4x5).2) main_v277
  let main_c_99 : IVec S_ 32 := constantI S_ 32 0#32
  let main_v285 : IVec S4x5 32 := broadcastInDim S4x5 ![] bcast_S_S4x5 main_c_99
  let main_v286 : IVec S4x5 1 := cmpi .slt main_indices_98 main_v285
  let main_c_100 : IVec S_ 32 := constantI S_ 32 1024#32
  let main_v287 : IVec S4x5 32 := broadcastInDim S4x5 ![] bcast_S_S4x5 main_c_100
  let main_v288 : IVec S4x5 32 := addi main_indices_98 main_v287
  let main_v289 : IVec S4x5 32 := select main_v286 main_v288 main_indices_98
  let main_v290 : IVec S4x5x1 32 := broadcastInDim S4x5x1 ![0, 1] bcast_S4x5_S4x5x1_0_1 main_v289
  let main_v291 : FVec F S4x5x1024 .f32 := (fun x i => Host.gather gather_S1024x1024_S4x5x1_S4x5x1024_2_0_n_n_0_2_11024 x i) main_arg3 main_v290
  let main_cst_101 : FVec F S_ .f32 := constant S_ .f32 0x00000000#32
  let main_v292 : FVec F S4x1024 .f32 := (fun x v => Host.reduceAdd x v reducesTo_S4x5x1024_S4x1024_d1 h_S_) main_v291 main_cst_101
  let main_cst_102 : FVec F S_ .f32 := constant S_ .f32 0x00000000#32
  let main_v293 : FVec F S4x1024 .f32 := broadcastInDim S4x1024 ![] bcast_S_S4x1024 main_cst_102
  let main_v294 : IVec S4x1024 1 := cmpf .une main_v292 main_v293
  let main_v295 : FVec F S4x1x1024 .f32 := broadcastInDim S4x1x1024 ![0, 2] bcast_S4x1024_S4x1x1024_0_2 main_v277
  let main_v296 : FVec F S1x1024x1024 .f32 := broadcastInDim S1x1024x1024 ![1, 2] bcast_S1024x1024_S1x1024x1024_1_2 main_v3
  let main_v297 : FVec F S4x1024x1024 .f32 := broadcastInDim S4x1024x1024 ![0, 1, 2] bcast_S4x1x1024_S4x1024x1024_0_1_2 main_v295
  let main_v298 : FVec F S4x1024x1024 .f32 := broadcastInDim S4x1024x1024 ![0, 1, 2] bcast_S1x1024x1024_S4x1024x1024_0_1_2 main_v296
  let main_v299 : FVec F S4x1024x1024 .f32 := addf main_v297 main_v298
  let main_v300 : FVec F S4x1024x1 .f32 := broadcastInDim S4x1024x1 ![0, 1] bcast_S4x1024_S4x1024x1_0_1 main_v284
  fn_part17 (F := F) main_arg0 main_arg1 main_arg2 main_arg3 main_arg4 main_v3 main_v282 main_v294 main_v299 main_v300

def fn_part15 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v243 : IVec S_ 1) (main_v255 : IVec S4x1024 1) (main_v263 : FVec F S4x1024x1024 .f32) (main_v265 : FVec F S4x1024x1 .f32) : IVec S_ 1 :=
  let main_v266 : FVec F S4x1024x1 .f32 := Host.absf main_v265
  let main_cst_90 : FVec F S_ .f32 := constant S_ .f32 0x7F800000#32
  let main_v267 : FVec F S4x1024x1 .f32 := broadcastInDim S4x1024x1 ![] bcast_S_S4x1024x1 main_cst_90
  let main_v268 : IVec S4x1024x1 1 := cmpf .olt main_v266 main_v267
  let main_cst_91 : FVec F S_ .f32 := constant S_ .f32 0x00000000#32
  let main_v269 : FVec F S4x1024x1 .f32 := fn_where (F := F) main_v268 main_v265 main_cst_91
  let main_v270 : FVec F S4x1024x1024 .f32 := broadcastInDim S4x1024x1024 ![0, 1, 2] bcast_S4x1024x1_S4x1024x1024_0_1_2 main_v269
  let main_v271 : FVec F S4x1024x1024 .f32 := subf main_v263 main_v270
  let main_v272 : FVec F S4x1024x1024 .f32 := Host.exp main_v271
  let main_cst_92 : FVec F S_ .f32 := constant S_ .f32 0x00000000#32
  let main_v273 : FVec F S4x1024 .f32 := (fun x v => Host.reduceAdd x v reducesTo_S4x1024x1024_S4x1024_d2 h_S_) main_v272 main_cst_92
  let main_v274 : FVec F S4x1024 .f32 := Host.log main_v273
  let main_v275 : FVec F S4x1024 .f32 := shapeCast S4x1024 main_v269 shapeCasts_S4x1024x1_S4x1024
  let main_v276 : FVec F S4x1024 .f32 := addf main_v274 main_v275
  let main_cst_93 : FVec F S_ .f32 := constant S_ .f32 0xFF800000#32
  let main_v277 : FVec F S4x1024 .f32 := fn_where_0 (F := F) main_v255 main_v276 main_cst_93
  let main_values_94 : FVec F S4x6 .f32 := (fun x => (Host.topK S4x6 1 (FloatOps.cmpfTotal .gt) x sliceFits_S4x1024_S4x6).1) main_v277
  let main_indices_95 : IVec S4x6 32 := (fun x => (Host.topK S4x6 1 (FloatOps.cmpfTotal .gt) x sliceFits_S4x1024_S4x6).2) main_v277
  let main_v278 : FVec F S4x5 .f32 := (extractStridedSlice S4x5 ![0, 1] · slices_S4x6_S4x5_0_1) main_values_94
  let main_v279 : FVec F S4x5 .f32 := (extractStridedSlice S4x5 ![0, 0] · slices_S4x6_S4x5_0_0) main_values_94
  let main_v280 : IVec S4x5 1 := cmpf .olt main_v278 main_v279
  let main_c_96 : IVec S_ 1 := constantI S_ 1 1#1
  let main_v281 : IVec S_ 1 := (fun x v => Host.reduce IntOp.andi x v reducesTo_S4x5_S_d0_1 h_S_) main_v280 main_c_96
  let main_v282 : IVec S_ 1 := andi main_v243 main_v281
  fn_part16 (F := F) main_arg0 main_arg1 main_arg2 main_arg3 main_arg4 main_v3 main_v277 main_v282

def fn_part14 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v238 : FVec F S4x1024 .f32) (main_v243 : IVec S_ 1) (main_v245 : FVec F S4x1024 .f32) (main_indices_84 : IVec S4x5 32) (main_c_85 : IVec S_ 32) : IVec S_ 1 :=
  let main_v246 : IVec S4x5 32 := broadcastInDim S4x5 ![] bcast_S_S4x5 main_c_85
  let main_v247 : IVec S4x5 1 := cmpi .slt main_indices_84 main_v246
  let main_c_86 : IVec S_ 32 := constantI S_ 32 1024#32
  let main_v248 : IVec S4x5 32 := broadcastInDim S4x5 ![] bcast_S_S4x5 main_c_86
  let main_v249 : IVec S4x5 32 := addi main_indices_84 main_v248
  let main_v250 : IVec S4x5 32 := select main_v247 main_v249 main_indices_84
  let main_v251 : IVec S4x5x1 32 := broadcastInDim S4x5x1 ![0, 1] bcast_S4x5_S4x5x1_0_1 main_v250
  let main_v252 : FVec F S4x5x1024 .f32 := (fun x i => Host.gather gather_S1024x1024_S4x5x1_S4x5x1024_2_0_n_n_0_2_11024 x i) main_arg3 main_v251
  let main_cst_87 : FVec F S_ .f32 := constant S_ .f32 0x00000000#32
  let main_v253 : FVec F S4x1024 .f32 := (fun x v => Host.reduceAdd x v reducesTo_S4x5x1024_S4x1024_d1 h_S_) main_v252 main_cst_87
  let main_cst_88 : FVec F S_ .f32 := constant S_ .f32 0x00000000#32
  let main_v254 : FVec F S4x1024 .f32 := broadcastInDim S4x1024 ![] bcast_S_S4x1024 main_cst_88
  let main_v255 : IVec S4x1024 1 := cmpf .une main_v253 main_v254
  let main_v256 : FVec F S4x1x1024 .f32 := broadcastInDim S4x1x1024 ![0, 2] bcast_S4x1024_S4x1x1024_0_2 main_v238
  let main_v257 : FVec F S1x1024x1024 .f32 := broadcastInDim S1x1024x1024 ![1, 2] bcast_S1024x1024_S1x1024x1024_1_2 main_v3
  let main_v258 : FVec F S4x1024x1024 .f32 := broadcastInDim S4x1024x1024 ![0, 1, 2] bcast_S4x1x1024_S4x1024x1024_0_1_2 main_v256
  let main_v259 : FVec F S4x1024x1024 .f32 := broadcastInDim S4x1024x1024 ![0, 1, 2] bcast_S1x1024x1024_S4x1024x1024_0_1_2 main_v257
  let main_v260 : FVec F S4x1024x1024 .f32 := addf main_v258 main_v259
  let main_v261 : FVec F S4x1024x1 .f32 := broadcastInDim S4x1024x1 ![0, 1] bcast_S4x1024_S4x1024x1_0_1 main_v245
  let main_v262 : FVec F S4x1024x1024 .f32 := broadcastInDim S4x1024x1024 ![0, 1, 2] bcast_S4x1024x1_S4x1024x1024_0_1_2 main_v261
  let main_v263 : FVec F S4x1024x1024 .f32 := addf main_v260 main_v262
  let main_cst_89 : FVec F S_ .f32 := constant S_ .f32 0xFF800000#32
  let main_v264 : FVec F S4x1024 .f32 := (fun x v => Host.reduce FloatOps.maximumf x v reducesTo_S4x1024x1024_S4x1024_d2 h_S_) main_v263 main_cst_89
  let main_v265 : FVec F S4x1024x1 .f32 := broadcastInDim S4x1024x1 ![0, 1] bcast_S4x1024_S4x1024x1_0_1 main_v264
  fn_part15 (F := F) main_arg0 main_arg1 main_arg2 main_arg3 main_arg4 main_v3 main_v243 main_v255 main_v263 main_v265

def fn_part13 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v204 : IVec S_ 1) (main_v216 : IVec S4x1024 1) (main_v224 : FVec F S4x1024x1024 .f32) (main_v226 : FVec F S4x1024x1 .f32) (main_v229 : IVec S4x1024x1 1) (main_cst_77 : FVec F S_ .f32) : IVec S_ 1 :=
  let main_v230 : FVec F S4x1024x1 .f32 := fn_where (F := F) main_v229 main_v226 main_cst_77
  let main_v231 : FVec F S4x1024x1024 .f32 := broadcastInDim S4x1024x1024 ![0, 1, 2] bcast_S4x1024x1_S4x1024x1024_0_1_2 main_v230
  let main_v232 : FVec F S4x1024x1024 .f32 := subf main_v224 main_v231
  let main_v233 : FVec F S4x1024x1024 .f32 := Host.exp main_v232
  let main_cst_78 : FVec F S_ .f32 := constant S_ .f32 0x00000000#32
  let main_v234 : FVec F S4x1024 .f32 := (fun x v => Host.reduceAdd x v reducesTo_S4x1024x1024_S4x1024_d2 h_S_) main_v233 main_cst_78
  let main_v235 : FVec F S4x1024 .f32 := Host.log main_v234
  let main_v236 : FVec F S4x1024 .f32 := shapeCast S4x1024 main_v230 shapeCasts_S4x1024x1_S4x1024
  let main_v237 : FVec F S4x1024 .f32 := addf main_v235 main_v236
  let main_cst_79 : FVec F S_ .f32 := constant S_ .f32 0xFF800000#32
  let main_v238 : FVec F S4x1024 .f32 := fn_where_0 (F := F) main_v216 main_v237 main_cst_79
  let main_values_80 : FVec F S4x6 .f32 := (fun x => (Host.topK S4x6 1 (FloatOps.cmpfTotal .gt) x sliceFits_S4x1024_S4x6).1) main_v238
  let main_indices_81 : IVec S4x6 32 := (fun x => (Host.topK S4x6 1 (FloatOps.cmpfTotal .gt) x sliceFits_S4x1024_S4x6).2) main_v238
  let main_v239 : FVec F S4x5 .f32 := (extractStridedSlice S4x5 ![0, 1] · slices_S4x6_S4x5_0_1) main_values_80
  let main_v240 : FVec F S4x5 .f32 := (extractStridedSlice S4x5 ![0, 0] · slices_S4x6_S4x5_0_0) main_values_80
  let main_v241 : IVec S4x5 1 := cmpf .olt main_v239 main_v240
  let main_c_82 : IVec S_ 1 := constantI S_ 1 1#1
  let main_v242 : IVec S_ 1 := (fun x v => Host.reduce IntOp.andi x v reducesTo_S4x5_S_d0_1 h_S_) main_v241 main_c_82
  let main_v243 : IVec S_ 1 := andi main_v204 main_v242
  let main_v244 : FVec F S4x1x1024 .f32 := (extractStridedSlice S4x1x1024 ![0, 7, 0] · slices_S4x20x1024_S4x1x1024_0_7_0) main_arg0
  let main_v245 : FVec F S4x1024 .f32 := shapeCast S4x1024 main_v244 shapeCasts_S4x1x1024_S4x1024
  let main_values_83 : FVec F S4x5 .f32 := (fun x => (Host.topK S4x5 1 (FloatOps.cmpfTotal .gt) x sliceFits_S4x1024_S4x5).1) main_v238
  let main_indices_84 : IVec S4x5 32 := (fun x => (Host.topK S4x5 1 (FloatOps.cmpfTotal .gt) x sliceFits_S4x1024_S4x5).2) main_v238
  let main_c_85 : IVec S_ 32 := constantI S_ 32 0#32
  fn_part14 (F := F) main_arg0 main_arg1 main_arg2 main_arg3 main_arg4 main_v3 main_v238 main_v243 main_v245 main_indices_84 main_c_85

def fn_part12 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v199 : FVec F S4x1024 .f32) (main_v204 : IVec S_ 1) (main_v206 : FVec F S4x1024 .f32) (main_indices_70 : IVec S4x5 32) (main_v208 : IVec S4x5 1) (main_v210 : IVec S4x5 32) : IVec S_ 1 :=
  let main_v211 : IVec S4x5 32 := select main_v208 main_v210 main_indices_70
  let main_v212 : IVec S4x5x1 32 := broadcastInDim S4x5x1 ![0, 1] bcast_S4x5_S4x5x1_0_1 main_v211
  let main_v213 : FVec F S4x5x1024 .f32 := (fun x i => Host.gather gather_S1024x1024_S4x5x1_S4x5x1024_2_0_n_n_0_2_11024 x i) main_arg3 main_v212
  let main_cst_73 : FVec F S_ .f32 := constant S_ .f32 0x00000000#32
  let main_v214 : FVec F S4x1024 .f32 := (fun x v => Host.reduceAdd x v reducesTo_S4x5x1024_S4x1024_d1 h_S_) main_v213 main_cst_73
  let main_cst_74 : FVec F S_ .f32 := constant S_ .f32 0x00000000#32
  let main_v215 : FVec F S4x1024 .f32 := broadcastInDim S4x1024 ![] bcast_S_S4x1024 main_cst_74
  let main_v216 : IVec S4x1024 1 := cmpf .une main_v214 main_v215
  let main_v217 : FVec F S4x1x1024 .f32 := broadcastInDim S4x1x1024 ![0, 2] bcast_S4x1024_S4x1x1024_0_2 main_v199
  let main_v218 : FVec F S1x1024x1024 .f32 := broadcastInDim S1x1024x1024 ![1, 2] bcast_S1024x1024_S1x1024x1024_1_2 main_v3
  let main_v219 : FVec F S4x1024x1024 .f32 := broadcastInDim S4x1024x1024 ![0, 1, 2] bcast_S4x1x1024_S4x1024x1024_0_1_2 main_v217
  let main_v220 : FVec F S4x1024x1024 .f32 := broadcastInDim S4x1024x1024 ![0, 1, 2] bcast_S1x1024x1024_S4x1024x1024_0_1_2 main_v218
  let main_v221 : FVec F S4x1024x1024 .f32 := addf main_v219 main_v220
  let main_v222 : FVec F S4x1024x1 .f32 := broadcastInDim S4x1024x1 ![0, 1] bcast_S4x1024_S4x1024x1_0_1 main_v206
  let main_v223 : FVec F S4x1024x1024 .f32 := broadcastInDim S4x1024x1024 ![0, 1, 2] bcast_S4x1024x1_S4x1024x1024_0_1_2 main_v222
  let main_v224 : FVec F S4x1024x1024 .f32 := addf main_v221 main_v223
  let main_cst_75 : FVec F S_ .f32 := constant S_ .f32 0xFF800000#32
  let main_v225 : FVec F S4x1024 .f32 := (fun x v => Host.reduce FloatOps.maximumf x v reducesTo_S4x1024x1024_S4x1024_d2 h_S_) main_v224 main_cst_75
  let main_v226 : FVec F S4x1024x1 .f32 := broadcastInDim S4x1024x1 ![0, 1] bcast_S4x1024_S4x1024x1_0_1 main_v225
  let main_v227 : FVec F S4x1024x1 .f32 := Host.absf main_v226
  let main_cst_76 : FVec F S_ .f32 := constant S_ .f32 0x7F800000#32
  let main_v228 : FVec F S4x1024x1 .f32 := broadcastInDim S4x1024x1 ![] bcast_S_S4x1024x1 main_cst_76
  let main_v229 : IVec S4x1024x1 1 := cmpf .olt main_v227 main_v228
  let main_cst_77 : FVec F S_ .f32 := constant S_ .f32 0x00000000#32
  fn_part13 (F := F) main_arg0 main_arg1 main_arg2 main_arg3 main_arg4 main_v3 main_v204 main_v216 main_v224 main_v226 main_v229 main_cst_77

def fn_part11 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v165 : IVec S_ 1) (main_v177 : IVec S4x1024 1) (main_v191 : FVec F S4x1024x1 .f32) (main_v194 : FVec F S4x1024x1024 .f32) (main_cst_64 : FVec F S_ .f32) : IVec S_ 1 :=
  let main_v195 : FVec F S4x1024 .f32 := (fun x v => Host.reduceAdd x v reducesTo_S4x1024x1024_S4x1024_d2 h_S_) main_v194 main_cst_64
  let main_v196 : FVec F S4x1024 .f32 := Host.log main_v195
  let main_v197 : FVec F S4x1024 .f32 := shapeCast S4x1024 main_v191 shapeCasts_S4x1024x1_S4x1024
  let main_v198 : FVec F S4x1024 .f32 := addf main_v196 main_v197
  let main_cst_65 : FVec F S_ .f32 := constant S_ .f32 0xFF800000#32
  let main_v199 : FVec F S4x1024 .f32 := fn_where_0 (F := F) main_v177 main_v198 main_cst_65
  let main_values_66 : FVec F S4x6 .f32 := (fun x => (Host.topK S4x6 1 (FloatOps.cmpfTotal .gt) x sliceFits_S4x1024_S4x6).1) main_v199
  let main_indices_67 : IVec S4x6 32 := (fun x => (Host.topK S4x6 1 (FloatOps.cmpfTotal .gt) x sliceFits_S4x1024_S4x6).2) main_v199
  let main_v200 : FVec F S4x5 .f32 := (extractStridedSlice S4x5 ![0, 1] · slices_S4x6_S4x5_0_1) main_values_66
  let main_v201 : FVec F S4x5 .f32 := (extractStridedSlice S4x5 ![0, 0] · slices_S4x6_S4x5_0_0) main_values_66
  let main_v202 : IVec S4x5 1 := cmpf .olt main_v200 main_v201
  let main_c_68 : IVec S_ 1 := constantI S_ 1 1#1
  let main_v203 : IVec S_ 1 := (fun x v => Host.reduce IntOp.andi x v reducesTo_S4x5_S_d0_1 h_S_) main_v202 main_c_68
  let main_v204 : IVec S_ 1 := andi main_v165 main_v203
  let main_v205 : FVec F S4x1x1024 .f32 := (extractStridedSlice S4x1x1024 ![0, 6, 0] · slices_S4x20x1024_S4x1x1024_0_6_0) main_arg0
  let main_v206 : FVec F S4x1024 .f32 := shapeCast S4x1024 main_v205 shapeCasts_S4x1x1024_S4x1024
  let main_values_69 : FVec F S4x5 .f32 := (fun x => (Host.topK S4x5 1 (FloatOps.cmpfTotal .gt) x sliceFits_S4x1024_S4x5).1) main_v199
  let main_indices_70 : IVec S4x5 32 := (fun x => (Host.topK S4x5 1 (FloatOps.cmpfTotal .gt) x sliceFits_S4x1024_S4x5).2) main_v199
  let main_c_71 : IVec S_ 32 := constantI S_ 32 0#32
  let main_v207 : IVec S4x5 32 := broadcastInDim S4x5 ![] bcast_S_S4x5 main_c_71
  let main_v208 : IVec S4x5 1 := cmpi .slt main_indices_70 main_v207
  let main_c_72 : IVec S_ 32 := constantI S_ 32 1024#32
  let main_v209 : IVec S4x5 32 := broadcastInDim S4x5 ![] bcast_S_S4x5 main_c_72
  let main_v210 : IVec S4x5 32 := addi main_indices_70 main_v209
  fn_part12 (F := F) main_arg0 main_arg1 main_arg2 main_arg3 main_arg4 main_v3 main_v199 main_v204 main_v206 main_indices_70 main_v208 main_v210

def fn_part10 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v160 : FVec F S4x1024 .f32) (main_v165 : IVec S_ 1) (main_v167 : FVec F S4x1024 .f32) (main_v175 : FVec F S4x1024 .f32) : IVec S_ 1 :=
  let main_cst_60 : FVec F S_ .f32 := constant S_ .f32 0x00000000#32
  let main_v176 : FVec F S4x1024 .f32 := broadcastInDim S4x1024 ![] bcast_S_S4x1024 main_cst_60
  let main_v177 : IVec S4x1024 1 := cmpf .une main_v175 main_v176
  let main_v178 : FVec F S4x1x1024 .f32 := broadcastInDim S4x1x1024 ![0, 2] bcast_S4x1024_S4x1x1024_0_2 main_v160
  let main_v179 : FVec F S1x1024x1024 .f32 := broadcastInDim S1x1024x1024 ![1, 2] bcast_S1024x1024_S1x1024x1024_1_2 main_v3
  let main_v180 : FVec F S4x1024x1024 .f32 := broadcastInDim S4x1024x1024 ![0, 1, 2] bcast_S4x1x1024_S4x1024x1024_0_1_2 main_v178
  let main_v181 : FVec F S4x1024x1024 .f32 := broadcastInDim S4x1024x1024 ![0, 1, 2] bcast_S1x1024x1024_S4x1024x1024_0_1_2 main_v179
  let main_v182 : FVec F S4x1024x1024 .f32 := addf main_v180 main_v181
  let main_v183 : FVec F S4x1024x1 .f32 := broadcastInDim S4x1024x1 ![0, 1] bcast_S4x1024_S4x1024x1_0_1 main_v167
  let main_v184 : FVec F S4x1024x1024 .f32 := broadcastInDim S4x1024x1024 ![0, 1, 2] bcast_S4x1024x1_S4x1024x1024_0_1_2 main_v183
  let main_v185 : FVec F S4x1024x1024 .f32 := addf main_v182 main_v184
  let main_cst_61 : FVec F S_ .f32 := constant S_ .f32 0xFF800000#32
  let main_v186 : FVec F S4x1024 .f32 := (fun x v => Host.reduce FloatOps.maximumf x v reducesTo_S4x1024x1024_S4x1024_d2 h_S_) main_v185 main_cst_61
  let main_v187 : FVec F S4x1024x1 .f32 := broadcastInDim S4x1024x1 ![0, 1] bcast_S4x1024_S4x1024x1_0_1 main_v186
  let main_v188 : FVec F S4x1024x1 .f32 := Host.absf main_v187
  let main_cst_62 : FVec F S_ .f32 := constant S_ .f32 0x7F800000#32
  let main_v189 : FVec F S4x1024x1 .f32 := broadcastInDim S4x1024x1 ![] bcast_S_S4x1024x1 main_cst_62
  let main_v190 : IVec S4x1024x1 1 := cmpf .olt main_v188 main_v189
  let main_cst_63 : FVec F S_ .f32 := constant S_ .f32 0x00000000#32
  let main_v191 : FVec F S4x1024x1 .f32 := fn_where (F := F) main_v190 main_v187 main_cst_63
  let main_v192 : FVec F S4x1024x1024 .f32 := broadcastInDim S4x1024x1024 ![0, 1, 2] bcast_S4x1024x1_S4x1024x1024_0_1_2 main_v191
  let main_v193 : FVec F S4x1024x1024 .f32 := subf main_v185 main_v192
  let main_v194 : FVec F S4x1024x1024 .f32 := Host.exp main_v193
  let main_cst_64 : FVec F S_ .f32 := constant S_ .f32 0x00000000#32
  fn_part11 (F := F) main_arg0 main_arg1 main_arg2 main_arg3 main_arg4 main_v3 main_v165 main_v177 main_v191 main_v194 main_cst_64

def fn_part9 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v126 : IVec S_ 1) (main_v138 : IVec S4x1024 1) (main_v159 : FVec F S4x1024 .f32) (main_cst_51 : FVec F S_ .f32) : IVec S_ 1 :=
  let main_v160 : FVec F S4x1024 .f32 := fn_where_0 (F := F) main_v138 main_v159 main_cst_51
  let main_values_52 : FVec F S4x6 .f32 := (fun x => (Host.topK S4x6 1 (FloatOps.cmpfTotal .gt) x sliceFits_S4x1024_S4x6).1) main_v160
  let main_indices_53 : IVec S4x6 32 := (fun x => (Host.topK S4x6 1 (FloatOps.cmpfTotal .gt) x sliceFits_S4x1024_S4x6).2) main_v160
  let main_v161 : FVec F S4x5 .f32 := (extractStridedSlice S4x5 ![0, 1] · slices_S4x6_S4x5_0_1) main_values_52
  let main_v162 : FVec F S4x5 .f32 := (extractStridedSlice S4x5 ![0, 0] · slices_S4x6_S4x5_0_0) main_values_52
  let main_v163 : IVec S4x5 1 := cmpf .olt main_v161 main_v162
  let main_c_54 : IVec S_ 1 := constantI S_ 1 1#1
  let main_v164 : IVec S_ 1 := (fun x v => Host.reduce IntOp.andi x v reducesTo_S4x5_S_d0_1 h_S_) main_v163 main_c_54
  let main_v165 : IVec S_ 1 := andi main_v126 main_v164
  let main_v166 : FVec F S4x1x1024 .f32 := (extractStridedSlice S4x1x1024 ![0, 5, 0] · slices_S4x20x1024_S4x1x1024_0_5_0) main_arg0
  let main_v167 : FVec F S4x1024 .f32 := shapeCast S4x1024 main_v166 shapeCasts_S4x1x1024_S4x1024
  let main_values_55 : FVec F S4x5 .f32 := (fun x => (Host.topK S4x5 1 (FloatOps.cmpfTotal .gt) x sliceFits_S4x1024_S4x5).1) main_v160
  let main_indices_56 : IVec S4x5 32 := (fun x => (Host.topK S4x5 1 (FloatOps.cmpfTotal .gt) x sliceFits_S4x1024_S4x5).2) main_v160
  let main_c_57 : IVec S_ 32 := constantI S_ 32 0#32
  let main_v168 : IVec S4x5 32 := broadcastInDim S4x5 ![] bcast_S_S4x5 main_c_57
  let main_v169 : IVec S4x5 1 := cmpi .slt main_indices_56 main_v168
  let main_c_58 : IVec S_ 32 := constantI S_ 32 1024#32
  let main_v170 : IVec S4x5 32 := broadcastInDim S4x5 ![] bcast_S_S4x5 main_c_58
  let main_v171 : IVec S4x5 32 := addi main_indices_56 main_v170
  let main_v172 : IVec S4x5 32 := select main_v169 main_v171 main_indices_56
  let main_v173 : IVec S4x5x1 32 := broadcastInDim S4x5x1 ![0, 1] bcast_S4x5_S4x5x1_0_1 main_v172
  let main_v174 : FVec F S4x5x1024 .f32 := (fun x i => Host.gather gather_S1024x1024_S4x5x1_S4x5x1024_2_0_n_n_0_2_11024 x i) main_arg3 main_v173
  let main_cst_59 : FVec F S_ .f32 := constant S_ .f32 0x00000000#32
  let main_v175 : FVec F S4x1024 .f32 := (fun x v => Host.reduceAdd x v reducesTo_S4x5x1024_S4x1024_d1 h_S_) main_v174 main_cst_59
  fn_part10 (F := F) main_arg0 main_arg1 main_arg2 main_arg3 main_arg4 main_v3 main_v160 main_v165 main_v167 main_v175

def fn_part8 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v126 : IVec S_ 1) (main_v128 : FVec F S4x1024 .f32) (main_v138 : IVec S4x1024 1) (main_v139 : FVec F S4x1x1024 .f32) (main_v140 : FVec F S1x1024x1024 .f32) : IVec S_ 1 :=
  let main_v141 : FVec F S4x1024x1024 .f32 := broadcastInDim S4x1024x1024 ![0, 1, 2] bcast_S4x1x1024_S4x1024x1024_0_1_2 main_v139
  let main_v142 : FVec F S4x1024x1024 .f32 := broadcastInDim S4x1024x1024 ![0, 1, 2] bcast_S1x1024x1024_S4x1024x1024_0_1_2 main_v140
  let main_v143 : FVec F S4x1024x1024 .f32 := addf main_v141 main_v142
  let main_v144 : FVec F S4x1024x1 .f32 := broadcastInDim S4x1024x1 ![0, 1] bcast_S4x1024_S4x1024x1_0_1 main_v128
  let main_v145 : FVec F S4x1024x1024 .f32 := broadcastInDim S4x1024x1024 ![0, 1, 2] bcast_S4x1024x1_S4x1024x1024_0_1_2 main_v144
  let main_v146 : FVec F S4x1024x1024 .f32 := addf main_v143 main_v145
  let main_cst_47 : FVec F S_ .f32 := constant S_ .f32 0xFF800000#32
  let main_v147 : FVec F S4x1024 .f32 := (fun x v => Host.reduce FloatOps.maximumf x v reducesTo_S4x1024x1024_S4x1024_d2 h_S_) main_v146 main_cst_47
  let main_v148 : FVec F S4x1024x1 .f32 := broadcastInDim S4x1024x1 ![0, 1] bcast_S4x1024_S4x1024x1_0_1 main_v147
  let main_v149 : FVec F S4x1024x1 .f32 := Host.absf main_v148
  let main_cst_48 : FVec F S_ .f32 := constant S_ .f32 0x7F800000#32
  let main_v150 : FVec F S4x1024x1 .f32 := broadcastInDim S4x1024x1 ![] bcast_S_S4x1024x1 main_cst_48
  let main_v151 : IVec S4x1024x1 1 := cmpf .olt main_v149 main_v150
  let main_cst_49 : FVec F S_ .f32 := constant S_ .f32 0x00000000#32
  let main_v152 : FVec F S4x1024x1 .f32 := fn_where (F := F) main_v151 main_v148 main_cst_49
  let main_v153 : FVec F S4x1024x1024 .f32 := broadcastInDim S4x1024x1024 ![0, 1, 2] bcast_S4x1024x1_S4x1024x1024_0_1_2 main_v152
  let main_v154 : FVec F S4x1024x1024 .f32 := subf main_v146 main_v153
  let main_v155 : FVec F S4x1024x1024 .f32 := Host.exp main_v154
  let main_cst_50 : FVec F S_ .f32 := constant S_ .f32 0x00000000#32
  let main_v156 : FVec F S4x1024 .f32 := (fun x v => Host.reduceAdd x v reducesTo_S4x1024x1024_S4x1024_d2 h_S_) main_v155 main_cst_50
  let main_v157 : FVec F S4x1024 .f32 := Host.log main_v156
  let main_v158 : FVec F S4x1024 .f32 := shapeCast S4x1024 main_v152 shapeCasts_S4x1024x1_S4x1024
  let main_v159 : FVec F S4x1024 .f32 := addf main_v157 main_v158
  let main_cst_51 : FVec F S_ .f32 := constant S_ .f32 0xFF800000#32
  fn_part9 (F := F) main_arg0 main_arg1 main_arg2 main_arg3 main_arg4 main_v3 main_v126 main_v138 main_v159 main_cst_51

def fn_part7 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v87 : IVec S_ 1) (main_v121 : FVec F S4x1024 .f32) (main_v122 : FVec F S4x5 .f32) (main_v123 : FVec F S4x5 .f32) : IVec S_ 1 :=
  let main_v124 : IVec S4x5 1 := cmpf .olt main_v122 main_v123
  let main_c_40 : IVec S_ 1 := constantI S_ 1 1#1
  let main_v125 : IVec S_ 1 := (fun x v => Host.reduce IntOp.andi x v reducesTo_S4x5_S_d0_1 h_S_) main_v124 main_c_40
  let main_v126 : IVec S_ 1 := andi main_v87 main_v125
  let main_v127 : FVec F S4x1x1024 .f32 := (extractStridedSlice S4x1x1024 ![0, 4, 0] · slices_S4x20x1024_S4x1x1024_0_4_0) main_arg0
  let main_v128 : FVec F S4x1024 .f32 := shapeCast S4x1024 main_v127 shapeCasts_S4x1x1024_S4x1024
  let main_values_41 : FVec F S4x5 .f32 := (fun x => (Host.topK S4x5 1 (FloatOps.cmpfTotal .gt) x sliceFits_S4x1024_S4x5).1) main_v121
  let main_indices_42 : IVec S4x5 32 := (fun x => (Host.topK S4x5 1 (FloatOps.cmpfTotal .gt) x sliceFits_S4x1024_S4x5).2) main_v121
  let main_c_43 : IVec S_ 32 := constantI S_ 32 0#32
  let main_v129 : IVec S4x5 32 := broadcastInDim S4x5 ![] bcast_S_S4x5 main_c_43
  let main_v130 : IVec S4x5 1 := cmpi .slt main_indices_42 main_v129
  let main_c_44 : IVec S_ 32 := constantI S_ 32 1024#32
  let main_v131 : IVec S4x5 32 := broadcastInDim S4x5 ![] bcast_S_S4x5 main_c_44
  let main_v132 : IVec S4x5 32 := addi main_indices_42 main_v131
  let main_v133 : IVec S4x5 32 := select main_v130 main_v132 main_indices_42
  let main_v134 : IVec S4x5x1 32 := broadcastInDim S4x5x1 ![0, 1] bcast_S4x5_S4x5x1_0_1 main_v133
  let main_v135 : FVec F S4x5x1024 .f32 := (fun x i => Host.gather gather_S1024x1024_S4x5x1_S4x5x1024_2_0_n_n_0_2_11024 x i) main_arg3 main_v134
  let main_cst_45 : FVec F S_ .f32 := constant S_ .f32 0x00000000#32
  let main_v136 : FVec F S4x1024 .f32 := (fun x v => Host.reduceAdd x v reducesTo_S4x5x1024_S4x1024_d1 h_S_) main_v135 main_cst_45
  let main_cst_46 : FVec F S_ .f32 := constant S_ .f32 0x00000000#32
  let main_v137 : FVec F S4x1024 .f32 := broadcastInDim S4x1024 ![] bcast_S_S4x1024 main_cst_46
  let main_v138 : IVec S4x1024 1 := cmpf .une main_v136 main_v137
  let main_v139 : FVec F S4x1x1024 .f32 := broadcastInDim S4x1x1024 ![0, 2] bcast_S4x1024_S4x1x1024_0_2 main_v121
  let main_v140 : FVec F S1x1024x1024 .f32 := broadcastInDim S1x1024x1024 ![1, 2] bcast_S1024x1024_S1x1024x1024_1_2 main_v3
  fn_part8 (F := F) main_arg0 main_arg1 main_arg2 main_arg3 main_arg4 main_v3 main_v126 main_v128 main_v138 main_v139 main_v140

def fn_part6 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v87 : IVec S_ 1) (main_v99 : IVec S4x1024 1) (main_v104 : FVec F S4x1024x1024 .f32) (main_v106 : FVec F S4x1024x1024 .f32) : IVec S_ 1 :=
  let main_v107 : FVec F S4x1024x1024 .f32 := addf main_v104 main_v106
  let main_cst_33 : FVec F S_ .f32 := constant S_ .f32 0xFF800000#32
  let main_v108 : FVec F S4x1024 .f32 := (fun x v => Host.reduce FloatOps.maximumf x v reducesTo_S4x1024x1024_S4x1024_d2 h_S_) main_v107 main_cst_33
  let main_v109 : FVec F S4x1024x1 .f32 := broadcastInDim S4x1024x1 ![0, 1] bcast_S4x1024_S4x1024x1_0_1 main_v108
  let main_v110 : FVec F S4x1024x1 .f32 := Host.absf main_v109
  let main_cst_34 : FVec F S_ .f32 := constant S_ .f32 0x7F800000#32
  let main_v111 : FVec F S4x1024x1 .f32 := broadcastInDim S4x1024x1 ![] bcast_S_S4x1024x1 main_cst_34
  let main_v112 : IVec S4x1024x1 1 := cmpf .olt main_v110 main_v111
  let main_cst_35 : FVec F S_ .f32 := constant S_ .f32 0x00000000#32
  let main_v113 : FVec F S4x1024x1 .f32 := fn_where (F := F) main_v112 main_v109 main_cst_35
  let main_v114 : FVec F S4x1024x1024 .f32 := broadcastInDim S4x1024x1024 ![0, 1, 2] bcast_S4x1024x1_S4x1024x1024_0_1_2 main_v113
  let main_v115 : FVec F S4x1024x1024 .f32 := subf main_v107 main_v114
  let main_v116 : FVec F S4x1024x1024 .f32 := Host.exp main_v115
  let main_cst_36 : FVec F S_ .f32 := constant S_ .f32 0x00000000#32
  let main_v117 : FVec F S4x1024 .f32 := (fun x v => Host.reduceAdd x v reducesTo_S4x1024x1024_S4x1024_d2 h_S_) main_v116 main_cst_36
  let main_v118 : FVec F S4x1024 .f32 := Host.log main_v117
  let main_v119 : FVec F S4x1024 .f32 := shapeCast S4x1024 main_v113 shapeCasts_S4x1024x1_S4x1024
  let main_v120 : FVec F S4x1024 .f32 := addf main_v118 main_v119
  let main_cst_37 : FVec F S_ .f32 := constant S_ .f32 0xFF800000#32
  let main_v121 : FVec F S4x1024 .f32 := fn_where_0 (F := F) main_v99 main_v120 main_cst_37
  let main_values_38 : FVec F S4x6 .f32 := (fun x => (Host.topK S4x6 1 (FloatOps.cmpfTotal .gt) x sliceFits_S4x1024_S4x6).1) main_v121
  let main_indices_39 : IVec S4x6 32 := (fun x => (Host.topK S4x6 1 (FloatOps.cmpfTotal .gt) x sliceFits_S4x1024_S4x6).2) main_v121
  let main_v122 : FVec F S4x5 .f32 := (extractStridedSlice S4x5 ![0, 1] · slices_S4x6_S4x5_0_1) main_values_38
  let main_v123 : FVec F S4x5 .f32 := (extractStridedSlice S4x5 ![0, 0] · slices_S4x6_S4x5_0_0) main_values_38
  fn_part7 (F := F) main_arg0 main_arg1 main_arg2 main_arg3 main_arg4 main_v3 main_v87 main_v121 main_v122 main_v123

def fn_part5 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v82 : FVec F S4x1024 .f32) (main_v87 : IVec S_ 1) (main_v88 : FVec F S4x1x1024 .f32) : IVec S_ 1 :=
  let main_v89 : FVec F S4x1024 .f32 := shapeCast S4x1024 main_v88 shapeCasts_S4x1x1024_S4x1024
  let main_values_27 : FVec F S4x5 .f32 := (fun x => (Host.topK S4x5 1 (FloatOps.cmpfTotal .gt) x sliceFits_S4x1024_S4x5).1) main_v82
  let main_indices_28 : IVec S4x5 32 := (fun x => (Host.topK S4x5 1 (FloatOps.cmpfTotal .gt) x sliceFits_S4x1024_S4x5).2) main_v82
  let main_c_29 : IVec S_ 32 := constantI S_ 32 0#32
  let main_v90 : IVec S4x5 32 := broadcastInDim S4x5 ![] bcast_S_S4x5 main_c_29
  let main_v91 : IVec S4x5 1 := cmpi .slt main_indices_28 main_v90
  let main_c_30 : IVec S_ 32 := constantI S_ 32 1024#32
  let main_v92 : IVec S4x5 32 := broadcastInDim S4x5 ![] bcast_S_S4x5 main_c_30
  let main_v93 : IVec S4x5 32 := addi main_indices_28 main_v92
  let main_v94 : IVec S4x5 32 := select main_v91 main_v93 main_indices_28
  let main_v95 : IVec S4x5x1 32 := broadcastInDim S4x5x1 ![0, 1] bcast_S4x5_S4x5x1_0_1 main_v94
  let main_v96 : FVec F S4x5x1024 .f32 := (fun x i => Host.gather gather_S1024x1024_S4x5x1_S4x5x1024_2_0_n_n_0_2_11024 x i) main_arg3 main_v95
  let main_cst_31 : FVec F S_ .f32 := constant S_ .f32 0x00000000#32
  let main_v97 : FVec F S4x1024 .f32 := (fun x v => Host.reduceAdd x v reducesTo_S4x5x1024_S4x1024_d1 h_S_) main_v96 main_cst_31
  let main_cst_32 : FVec F S_ .f32 := constant S_ .f32 0x00000000#32
  let main_v98 : FVec F S4x1024 .f32 := broadcastInDim S4x1024 ![] bcast_S_S4x1024 main_cst_32
  let main_v99 : IVec S4x1024 1 := cmpf .une main_v97 main_v98
  let main_v100 : FVec F S4x1x1024 .f32 := broadcastInDim S4x1x1024 ![0, 2] bcast_S4x1024_S4x1x1024_0_2 main_v82
  let main_v101 : FVec F S1x1024x1024 .f32 := broadcastInDim S1x1024x1024 ![1, 2] bcast_S1024x1024_S1x1024x1024_1_2 main_v3
  let main_v102 : FVec F S4x1024x1024 .f32 := broadcastInDim S4x1024x1024 ![0, 1, 2] bcast_S4x1x1024_S4x1024x1024_0_1_2 main_v100
  let main_v103 : FVec F S4x1024x1024 .f32 := broadcastInDim S4x1024x1024 ![0, 1, 2] bcast_S1x1024x1024_S4x1024x1024_0_1_2 main_v101
  let main_v104 : FVec F S4x1024x1024 .f32 := addf main_v102 main_v103
  let main_v105 : FVec F S4x1024x1 .f32 := broadcastInDim S4x1024x1 ![0, 1] bcast_S4x1024_S4x1024x1_0_1 main_v89
  let main_v106 : FVec F S4x1024x1024 .f32 := broadcastInDim S4x1024x1024 ![0, 1, 2] bcast_S4x1024x1_S4x1024x1024_0_1_2 main_v105
  fn_part6 (F := F) main_arg0 main_arg1 main_arg2 main_arg3 main_arg4 main_v3 main_v87 main_v99 main_v104 main_v106

def fn_part4 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v48 : IVec S_ 1) (main_v60 : IVec S4x1024 1) (main_v68 : FVec F S4x1024x1024 .f32) (main_v70 : FVec F S4x1024x1 .f32) (main_v71 : FVec F S4x1024x1 .f32) : IVec S_ 1 :=
  let main_cst_20 : FVec F S_ .f32 := constant S_ .f32 0x7F800000#32
  let main_v72 : FVec F S4x1024x1 .f32 := broadcastInDim S4x1024x1 ![] bcast_S_S4x1024x1 main_cst_20
  let main_v73 : IVec S4x1024x1 1 := cmpf .olt main_v71 main_v72
  let main_cst_21 : FVec F S_ .f32 := constant S_ .f32 0x00000000#32
  let main_v74 : FVec F S4x1024x1 .f32 := fn_where (F := F) main_v73 main_v70 main_cst_21
  let main_v75 : FVec F S4x1024x1024 .f32 := broadcastInDim S4x1024x1024 ![0, 1, 2] bcast_S4x1024x1_S4x1024x1024_0_1_2 main_v74
  let main_v76 : FVec F S4x1024x1024 .f32 := subf main_v68 main_v75
  let main_v77 : FVec F S4x1024x1024 .f32 := Host.exp main_v76
  let main_cst_22 : FVec F S_ .f32 := constant S_ .f32 0x00000000#32
  let main_v78 : FVec F S4x1024 .f32 := (fun x v => Host.reduceAdd x v reducesTo_S4x1024x1024_S4x1024_d2 h_S_) main_v77 main_cst_22
  let main_v79 : FVec F S4x1024 .f32 := Host.log main_v78
  let main_v80 : FVec F S4x1024 .f32 := shapeCast S4x1024 main_v74 shapeCasts_S4x1024x1_S4x1024
  let main_v81 : FVec F S4x1024 .f32 := addf main_v79 main_v80
  let main_cst_23 : FVec F S_ .f32 := constant S_ .f32 0xFF800000#32
  let main_v82 : FVec F S4x1024 .f32 := fn_where_0 (F := F) main_v60 main_v81 main_cst_23
  let main_values_24 : FVec F S4x6 .f32 := (fun x => (Host.topK S4x6 1 (FloatOps.cmpfTotal .gt) x sliceFits_S4x1024_S4x6).1) main_v82
  let main_indices_25 : IVec S4x6 32 := (fun x => (Host.topK S4x6 1 (FloatOps.cmpfTotal .gt) x sliceFits_S4x1024_S4x6).2) main_v82
  let main_v83 : FVec F S4x5 .f32 := (extractStridedSlice S4x5 ![0, 1] · slices_S4x6_S4x5_0_1) main_values_24
  let main_v84 : FVec F S4x5 .f32 := (extractStridedSlice S4x5 ![0, 0] · slices_S4x6_S4x5_0_0) main_values_24
  let main_v85 : IVec S4x5 1 := cmpf .olt main_v83 main_v84
  let main_c_26 : IVec S_ 1 := constantI S_ 1 1#1
  let main_v86 : IVec S_ 1 := (fun x v => Host.reduce IntOp.andi x v reducesTo_S4x5_S_d0_1 h_S_) main_v85 main_c_26
  let main_v87 : IVec S_ 1 := andi main_v48 main_v86
  let main_v88 : FVec F S4x1x1024 .f32 := (extractStridedSlice S4x1x1024 ![0, 3, 0] · slices_S4x20x1024_S4x1x1024_0_3_0) main_arg0
  fn_part5 (F := F) main_arg0 main_arg1 main_arg2 main_arg3 main_arg4 main_v3 main_v82 main_v87 main_v88

def fn_part3 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v43 : FVec F S4x1024 .f32) (main_v48 : IVec S_ 1) (main_v50 : FVec F S4x1024 .f32) (main_indices_14 : IVec S4x5 32) (main_v51 : IVec S4x5 32) : IVec S_ 1 :=
  let main_v52 : IVec S4x5 1 := cmpi .slt main_indices_14 main_v51
  let main_c_16 : IVec S_ 32 := constantI S_ 32 1024#32
  let main_v53 : IVec S4x5 32 := broadcastInDim S4x5 ![] bcast_S_S4x5 main_c_16
  let main_v54 : IVec S4x5 32 := addi main_indices_14 main_v53
  let main_v55 : IVec S4x5 32 := select main_v52 main_v54 main_indices_14
  let main_v56 : IVec S4x5x1 32 := broadcastInDim S4x5x1 ![0, 1] bcast_S4x5_S4x5x1_0_1 main_v55
  let main_v57 : FVec F S4x5x1024 .f32 := (fun x i => Host.gather gather_S1024x1024_S4x5x1_S4x5x1024_2_0_n_n_0_2_11024 x i) main_arg3 main_v56
  let main_cst_17 : FVec F S_ .f32 := constant S_ .f32 0x00000000#32
  let main_v58 : FVec F S4x1024 .f32 := (fun x v => Host.reduceAdd x v reducesTo_S4x5x1024_S4x1024_d1 h_S_) main_v57 main_cst_17
  let main_cst_18 : FVec F S_ .f32 := constant S_ .f32 0x00000000#32
  let main_v59 : FVec F S4x1024 .f32 := broadcastInDim S4x1024 ![] bcast_S_S4x1024 main_cst_18
  let main_v60 : IVec S4x1024 1 := cmpf .une main_v58 main_v59
  let main_v61 : FVec F S4x1x1024 .f32 := broadcastInDim S4x1x1024 ![0, 2] bcast_S4x1024_S4x1x1024_0_2 main_v43
  let main_v62 : FVec F S1x1024x1024 .f32 := broadcastInDim S1x1024x1024 ![1, 2] bcast_S1024x1024_S1x1024x1024_1_2 main_v3
  let main_v63 : FVec F S4x1024x1024 .f32 := broadcastInDim S4x1024x1024 ![0, 1, 2] bcast_S4x1x1024_S4x1024x1024_0_1_2 main_v61
  let main_v64 : FVec F S4x1024x1024 .f32 := broadcastInDim S4x1024x1024 ![0, 1, 2] bcast_S1x1024x1024_S4x1024x1024_0_1_2 main_v62
  let main_v65 : FVec F S4x1024x1024 .f32 := addf main_v63 main_v64
  let main_v66 : FVec F S4x1024x1 .f32 := broadcastInDim S4x1024x1 ![0, 1] bcast_S4x1024_S4x1024x1_0_1 main_v50
  let main_v67 : FVec F S4x1024x1024 .f32 := broadcastInDim S4x1024x1024 ![0, 1, 2] bcast_S4x1024x1_S4x1024x1024_0_1_2 main_v66
  let main_v68 : FVec F S4x1024x1024 .f32 := addf main_v65 main_v67
  let main_cst_19 : FVec F S_ .f32 := constant S_ .f32 0xFF800000#32
  let main_v69 : FVec F S4x1024 .f32 := (fun x v => Host.reduce FloatOps.maximumf x v reducesTo_S4x1024x1024_S4x1024_d2 h_S_) main_v68 main_cst_19
  let main_v70 : FVec F S4x1024x1 .f32 := broadcastInDim S4x1024x1 ![0, 1] bcast_S4x1024_S4x1024x1_0_1 main_v69
  let main_v71 : FVec F S4x1024x1 .f32 := Host.absf main_v70
  fn_part4 (F := F) main_arg0 main_arg1 main_arg2 main_arg3 main_arg4 main_v3 main_v48 main_v60 main_v68 main_v70 main_v71

def fn_part2 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v9 : IVec S_ 1) (main_v21 : IVec S4x1024 1) (main_v29 : FVec F S4x1024x1024 .f32) (main_v35 : FVec F S4x1024x1 .f32) : IVec S_ 1 :=
  let main_v36 : FVec F S4x1024x1024 .f32 := broadcastInDim S4x1024x1024 ![0, 1, 2] bcast_S4x1024x1_S4x1024x1024_0_1_2 main_v35
  let main_v37 : FVec F S4x1024x1024 .f32 := subf main_v29 main_v36
  let main_v38 : FVec F S4x1024x1024 .f32 := Host.exp main_v37
  let main_cst_8 : FVec F S_ .f32 := constant S_ .f32 0x00000000#32
  let main_v39 : FVec F S4x1024 .f32 := (fun x v => Host.reduceAdd x v reducesTo_S4x1024x1024_S4x1024_d2 h_S_) main_v38 main_cst_8
  let main_v40 : FVec F S4x1024 .f32 := Host.log main_v39
  let main_v41 : FVec F S4x1024 .f32 := shapeCast S4x1024 main_v35 shapeCasts_S4x1024x1_S4x1024
  let main_v42 : FVec F S4x1024 .f32 := addf main_v40 main_v41
  let main_cst_9 : FVec F S_ .f32 := constant S_ .f32 0xFF800000#32
  let main_v43 : FVec F S4x1024 .f32 := fn_where_0 (F := F) main_v21 main_v42 main_cst_9
  let main_values_10 : FVec F S4x6 .f32 := (fun x => (Host.topK S4x6 1 (FloatOps.cmpfTotal .gt) x sliceFits_S4x1024_S4x6).1) main_v43
  let main_indices_11 : IVec S4x6 32 := (fun x => (Host.topK S4x6 1 (FloatOps.cmpfTotal .gt) x sliceFits_S4x1024_S4x6).2) main_v43
  let main_v44 : FVec F S4x5 .f32 := (extractStridedSlice S4x5 ![0, 1] · slices_S4x6_S4x5_0_1) main_values_10
  let main_v45 : FVec F S4x5 .f32 := (extractStridedSlice S4x5 ![0, 0] · slices_S4x6_S4x5_0_0) main_values_10
  let main_v46 : IVec S4x5 1 := cmpf .olt main_v44 main_v45
  let main_c_12 : IVec S_ 1 := constantI S_ 1 1#1
  let main_v47 : IVec S_ 1 := (fun x v => Host.reduce IntOp.andi x v reducesTo_S4x5_S_d0_1 h_S_) main_v46 main_c_12
  let main_v48 : IVec S_ 1 := andi main_v9 main_v47
  let main_v49 : FVec F S4x1x1024 .f32 := (extractStridedSlice S4x1x1024 ![0, 2, 0] · slices_S4x20x1024_S4x1x1024_0_2_0) main_arg0
  let main_v50 : FVec F S4x1024 .f32 := shapeCast S4x1024 main_v49 shapeCasts_S4x1x1024_S4x1024
  let main_values_13 : FVec F S4x5 .f32 := (fun x => (Host.topK S4x5 1 (FloatOps.cmpfTotal .gt) x sliceFits_S4x1024_S4x5).1) main_v43
  let main_indices_14 : IVec S4x5 32 := (fun x => (Host.topK S4x5 1 (FloatOps.cmpfTotal .gt) x sliceFits_S4x1024_S4x5).2) main_v43
  let main_c_15 : IVec S_ 32 := constantI S_ 32 0#32
  let main_v51 : IVec S4x5 32 := broadcastInDim S4x5 ![] bcast_S_S4x5 main_c_15
  fn_part3 (F := F) main_arg0 main_arg1 main_arg2 main_arg3 main_arg4 main_v3 main_v43 main_v48 main_v50 main_indices_14 main_v51

def fn_part1 {F : FTy → Type} [FloatOps F] (main_arg0 : FVec F S4x20x1024 .f32) (main_arg1 : IVec S4x20 32) (main_arg2 : FVec F S1024x128 .f32) (main_arg3 : FVec F S1024x1024 .f32) (main_arg4 : IVec S4x20 1) (main_v3 : FVec F S1024x1024 .f32) (main_v5 : FVec F S4x1024 .f32) (main_v9 : IVec S_ 1) (main_v11 : FVec F S4x1024 .f32) (main_v16 : IVec S4x5 32) : IVec S_ 1 :=
  let main_v17 : IVec S4x5x1 32 := broadcastInDim S4x5x1 ![0, 1] bcast_S4x5_S4x5x1_0_1 main_v16
  let main_v18 : FVec F S4x5x1024 .f32 := (fun x i => Host.gather gather_S1024x1024_S4x5x1_S4x5x1024_2_0_n_n_0_2_11024 x i) main_arg3 main_v17
  let main_cst : FVec F S_ .f32 := constant S_ .f32 0x00000000#32
  let main_v19 : FVec F S4x1024 .f32 := (fun x v => Host.reduceAdd x v reducesTo_S4x5x1024_S4x1024_d1 h_S_) main_v18 main_cst
  let main_cst_4 : FVec F S_ .f32 := constant S_ .f32 0x00000000#32
  let main_v20 : FVec F S4x1024 .f32 := broadcastInDim S4x1024 ![] bcast_S_S4x1024 main_cst_4
  let main_v21 : IVec S4x1024 1 := cmpf .une main_v19 main_v20
  let main_v22 : FVec F S4x1x1024 .f32 := broadcastInDim S4x1x1024 ![0, 2] bcast_S4x1024_S4x1x1024_0_2 main_v5
  let main_v23 : FVec F S1x1024x1024 .f32 := broadcastInDim S1x1024x1024 ![1, 2] bcast_S1024x1024_S1x1024x1024_1_2 main_v3
  let main_v24 : FVec F S4x1024x1024 .f32 := broadcastInDim S4x1024x1024 ![0, 1, 2] bcast_S4x1x1024_S4x1024x1024_0_1_2 main_v22
  let main_v25 : FVec F S4x1024x1024 .f32 := broadcastInDim S4x1024x1024 ![0, 1, 2] bcast_S1x1024x1024_S4x1024x1024_0_1_2 main_v23
  let main_v26 : FVec F S4x1024x1024 .f32 := addf main_v24 main_v25
  let main_v27 : FVec F S4x1024x1 .f32 := broadcastInDim S4x1024x1 ![0, 1] bcast_S4x1024_S4x1024x1_0_1 main_v11
  let main_v28 : FVec F S4x1024x1024 .f32 := broadcastInDim S4x1024x1024 ![0, 1, 2] bcast_S4x1024x1_S4x1024x1024_0_1_2 main_v27
  let main_v29 : FVec F S4x1024x1024 .f32 := addf main_v26 main_v28
  let main_cst_5 : FVec F S_ .f32 := constant S_ .f32 0xFF800000#32
  let main_v30 : FVec F S4x1024 .f32 := (fun x v => Host.reduce FloatOps.maximumf x v reducesTo_S4x1024x1024_S4x1024_d2 h_S_) main_v29 main_cst_5
  let main_v31 : FVec F S4x1024x1 .f32 := broadcastInDim S4x1024x1 ![0, 1] bcast_S4x1024_S4x1024x1_0_1 main_v30
  let main_v32 : FVec F S4x1024x1 .f32 := Host.absf main_v31
  let main_cst_6 : FVec F S_ .f32 := constant S_ .f32 0x7F800000#32
  let main_v33 : FVec F S4x1024x1 .f32 := broadcastInDim S4x1024x1 ![] bcast_S_S4x1024x1 main_cst_6
  let main_v34 : IVec S4x1024x1 1 := cmpf .olt main_v32 main_v33
  let main_cst_7 : FVec F S_ .f32 := constant S_ .f32 0x00000000#32
  let main_v35 : FVec F S4x1024x1 .f32 := fn_where (F := F) main_v34 main_v31 main_cst_7
  fn_part2 (F := F) main_arg0 main_arg1 main_arg2 main_arg3 main_arg4 main_v3 main_v9 main_v21 main_v29 main_v35

def fn {F : FTy → Type} [FloatOps F] (main_arg0 : FVec F S4x20x1024 .f32) (main_arg1 : IVec S4x20 32) (main_arg2 : FVec F S1024x128 .f32) (main_arg3 : FVec F S1024x1024 .f32) (main_arg4 : IVec S4x20 1) : IVec S_ 1 :=
  let main_v0 : FVec F S128x1024 .f32 := (transpose S128x1024 [1, 0] · transposes_S1024x128_S128x1024_1_0) main_arg2
  let main_v1 : FVec F S1024x1024 .f32 := (fun l r => Host.dotGeneral dot_S1024x128_S128x1024_S1024x1024_1_0_0_1_n_n none l r) main_arg2 main_v0
  let main_v2 : FVec F S1024x1024 .f32 := mulf main_arg3 main_v1
  let main_v3 : FVec F S1024x1024 .f32 := fn_relu (F := F) main_v2
  let main_v4 : FVec F S4x1x1024 .f32 := (extractStridedSlice S4x1x1024 ![0, 0, 0] · slices_S4x20x1024_S4x1x1024_0_0_0) main_arg0
  let main_v5 : FVec F S4x1024 .f32 := shapeCast S4x1024 main_v4 shapeCasts_S4x1x1024_S4x1024
  let main_values : FVec F S4x6 .f32 := (fun x => (Host.topK S4x6 1 (FloatOps.cmpfTotal .gt) x sliceFits_S4x1024_S4x6).1) main_v5
  let main_indices : IVec S4x6 32 := (fun x => (Host.topK S4x6 1 (FloatOps.cmpfTotal .gt) x sliceFits_S4x1024_S4x6).2) main_v5
  let main_v6 : FVec F S4x5 .f32 := (extractStridedSlice S4x5 ![0, 1] · slices_S4x6_S4x5_0_1) main_values
  let main_v7 : FVec F S4x5 .f32 := (extractStridedSlice S4x5 ![0, 0] · slices_S4x6_S4x5_0_0) main_values
  let main_v8 : IVec S4x5 1 := cmpf .olt main_v6 main_v7
  let main_c : IVec S_ 1 := constantI S_ 1 1#1
  let main_v9 : IVec S_ 1 := (fun x v => Host.reduce IntOp.andi x v reducesTo_S4x5_S_d0_1 h_S_) main_v8 main_c
  let main_v10 : FVec F S4x1x1024 .f32 := (extractStridedSlice S4x1x1024 ![0, 1, 0] · slices_S4x20x1024_S4x1x1024_0_1_0) main_arg0
  let main_v11 : FVec F S4x1024 .f32 := shapeCast S4x1024 main_v10 shapeCasts_S4x1x1024_S4x1024
  let main_values_0 : FVec F S4x5 .f32 := (fun x => (Host.topK S4x5 1 (FloatOps.cmpfTotal .gt) x sliceFits_S4x1024_S4x5).1) main_v5
  let main_indices_1 : IVec S4x5 32 := (fun x => (Host.topK S4x5 1 (FloatOps.cmpfTotal .gt) x sliceFits_S4x1024_S4x5).2) main_v5
  let main_c_2 : IVec S_ 32 := constantI S_ 32 0#32
  let main_v12 : IVec S4x5 32 := broadcastInDim S4x5 ![] bcast_S_S4x5 main_c_2
  let main_v13 : IVec S4x5 1 := cmpi .slt main_indices_1 main_v12
  let main_c_3 : IVec S_ 32 := constantI S_ 32 1024#32
  let main_v14 : IVec S4x5 32 := broadcastInDim S4x5 ![] bcast_S_S4x5 main_c_3
  let main_v15 : IVec S4x5 32 := addi main_indices_1 main_v14
  let main_v16 : IVec S4x5 32 := select main_v13 main_v15 main_indices_1
  fn_part1 (F := F) main_arg0 main_arg1 main_arg2 main_arg3 main_arg4 main_v3 main_v5 main_v9 main_v11 main_v16
-- ==== Kernel.lean ====
abbrev S4x20x1024 : Shape := ⟨3, ![4, 20, 1024]⟩
abbrev S4x20 : Shape := ⟨2, ![4, 20]⟩
abbrev S1024x128 : Shape := ⟨2, ![1024, 128]⟩
abbrev S1024x1024 : Shape := ⟨2, ![1024, 1024]⟩
abbrev S80x1024 : Shape := ⟨2, ![80, 1024]⟩
abbrev S80x1 : Shape := ⟨2, ![80, 1]⟩
abbrev S1x1 : Shape := ⟨2, ![1, 1]⟩
abbrev S80 : Shape := ⟨1, ![80]⟩
abbrev S1x1024 : Shape := ⟨2, ![1, 1024]⟩
abbrev S79x1024 : Shape := ⟨2, ![79, 1024]⟩
abbrev S1x80x1 : Shape := ⟨3, ![1, 80, 1]⟩
abbrev S1 : Shape := ⟨1, ![1]⟩
abbrev S1x1x1 : Shape := ⟨3, ![1, 1, 1]⟩
abbrev S1024 : Shape := ⟨1, ![1024]⟩
abbrev S4x1024 : Shape := ⟨2, ![4, 1024]⟩
abbrev S4 : Shape := ⟨1, ![4]⟩
abbrev S4x1 : Shape := ⟨2, ![4, 1]⟩
abbrev S76x1024 : Shape := ⟨2, ![76, 1024]⟩
abbrev S1x76x1024 : Shape := ⟨3, ![1, 76, 1024]⟩
abbrev S1x4x1 : Shape := ⟨3, ![1, 4, 1]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S4x20x1024, .f32⟩
  | .hbm, ⟨1, _⟩ => ⟨S4x20, .i32⟩
  | .hbm, ⟨2, _⟩ => ⟨S1024x128, .f32⟩
  | .hbm, ⟨3, _⟩ => ⟨S1024x1024, .f32⟩
  | .hbm, ⟨4, _⟩ => ⟨S4x20, .i1⟩
  | .hbm, ⟨5, _⟩ => ⟨S80x1024, .f32⟩
  | .hbm, ⟨6, _⟩ => ⟨S80x1, .i32⟩
  | .hbm, ⟨7, _⟩ => ⟨S1x1, .f32⟩
  | .hbm, ⟨8, _⟩ => ⟨S_, .f32⟩
  | .local _ .vmem, ⟨0, _⟩ => ⟨S80x1024, .f32⟩
  | .local _ .vmem, ⟨1, _⟩ => ⟨S80x1, .i32⟩
  | .local _ .vmem, ⟨2, _⟩ => ⟨S1024x128, .f32⟩
  | .local _ .vmem, ⟨3, _⟩ => ⟨S1024x1024, .f32⟩
  | .local _ .vmem, ⟨4, _⟩ => ⟨S1x1, .f32⟩
  | _, _ => ⟨S4x20x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x20x1024 : Shape := ⟨3, ![4, 20, 1024]⟩
abbrev S4x20 : Shape := ⟨2, ![4, 20]⟩
abbrev S1024x128 : Shape := ⟨2, ![1024, 128]⟩
abbrev S1024x1024 : Shape := ⟨2, ![1024, 1024]⟩
abbrev S20x4x1024 : Shape := ⟨3, ![20, 4, 1024]⟩
abbrev S20x4 : Shape := ⟨2, ![20, 4]⟩
abbrev S4 : Shape := ⟨1, ![4]⟩
abbrev S128x1024 : Shape := ⟨2, ![128, 1024]⟩
abbrev S_ : Shape := ⟨0, ![]⟩
abbrev S1x4 : Shape := ⟨2, ![1, 4]⟩
abbrev S4x1 : Shape := ⟨2, ![4, 1]⟩
abbrev S4x3 : Shape := ⟨2, ![4, 3]⟩
abbrev S1x4x1024 : Shape := ⟨3, ![1, 4, 1024]⟩
abbrev S4x1024 : Shape := ⟨2, ![4, 1024]⟩
abbrev S4x128 : Shape := ⟨2, ![4, 128]⟩
abbrev S4x2 : Shape := ⟨2, ![4, 2]⟩
abbrev S4x5 : Shape := ⟨2, ![4, 5]⟩
abbrev S4x5x1 : Shape := ⟨3, ![4, 5, 1]⟩
abbrev S4x5x1024 : Shape := ⟨3, ![4, 5, 1024]⟩
abbrev S4x1x1024 : Shape := ⟨3, ![4, 1, 1024]⟩
abbrev S1x1024x1024 : Shape := ⟨3, ![1, 1024, 1024]⟩
abbrev S4x1024x1024 : Shape := ⟨3, ![4, 1024, 1024]⟩
abbrev S4x1024x1 : Shape := ⟨3, ![4, 1024, 1]⟩

abbrev nBuf : Space → Nat
  | .hbm => 338
  | .vmem => 0
  | .smem => 0
  | _ => 0

abbrev hbmTy0_0 (i : Nat) : BufTy := match i % 128 with
  | 0 => ⟨S4x20x1024, .f32⟩
  | 1 => ⟨S4x20, .i32⟩
  | 2 => ⟨S1024x128, .f32⟩
  | 3 => ⟨S1024x1024, .f32⟩
  | 4 => ⟨S4x20, .i1⟩
  | 5 => ⟨S20x4x1024, .f32⟩
  | 6 => ⟨S20x4, .i32⟩
  | 7 => ⟨S20x4, .i1⟩
  | 8 => ⟨S20x4, .f32⟩
  | 9 => ⟨S4, .i32⟩
  | 10 => ⟨S128x1024, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S1x4, .i32⟩
  | 17 => ⟨S4, .i32⟩
  | 18 => ⟨S_, .i32⟩
  | 19 => ⟨S4, .i32⟩
  | 20 => ⟨S4, .i1⟩
  | 21 => ⟨S_, .i32⟩
  | 22 => ⟨S4, .i32⟩
  | 23 => ⟨S4, .i32⟩
  | 24 => ⟨S4, .i32⟩
  | 25 => ⟨S_, .i32⟩
  | 26 => ⟨S4, .i32⟩
  | 27 => ⟨S4, .i1⟩
  | 28 => ⟨S_, .i32⟩
  | 29 => ⟨S4, .i32⟩
  | 30 => ⟨S4, .i32⟩
  | 31 => ⟨S4, .i32⟩
  | 32 => ⟨S_, .i32⟩
  | 33 => ⟨S4, .i32⟩
  | 34 => ⟨S4, .i32⟩
  | 35 => ⟨S4x1, .i32⟩
  | 36 => ⟨S4x1, .i32⟩
  | 37 => ⟨S4x1, .i32⟩
  | 38 => ⟨S4x3, .i32⟩
  | 39 => ⟨S4, .f32⟩
  | 40 => ⟨S1x4x1024, .f32⟩
  | 41 => ⟨S4x1024, .f32⟩
  | 42 => ⟨S_, .i32⟩
  | 43 => ⟨S_, .i32⟩
  | 44 => ⟨S20x4, .i32⟩
  | 45 => ⟨S1024x128, .f32⟩
  | 46 => ⟨S1024x1024, .f32⟩
  | 47 => ⟨S20x4, .f32⟩
  | 48 => ⟨S4, .i32⟩
  | 49 => ⟨S20x4x1024, .f32⟩
  | 50 => ⟨S1024x1024, .f32⟩
  | 51 => ⟨S20x4, .i1⟩
  | 52 => ⟨S_, .i32⟩
  | 53 => ⟨S_, .i32⟩
  | 54 => ⟨S4, .f32⟩
  | 55 => ⟨S4x1024, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S1x4, .i32⟩
  | 77 => ⟨S4, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S1x4, .i32⟩
  | 93 => ⟨S4, .i32⟩
  | 94 => ⟨S_, .i32⟩
  | 95 => ⟨S4, .i32⟩
  | 96 => ⟨S4, .i1⟩
  | 97 => ⟨S_, .i32⟩
  | 98 => ⟨S4, .i32⟩
  | 99 => ⟨S4, .i32⟩
  | 100 => ⟨S4, .i32⟩
  | 101 => ⟨S4x1, .i32⟩
  | 102 => ⟨S4x128, .f32⟩
  | 103 => ⟨S_, .i32⟩
  | 104 => ⟨S4, .i32⟩
  | 105 => ⟨S4, .i1⟩
  | 106 => ⟨S_, .i32⟩
  | 107 => ⟨S4, .i32⟩
  | 108 => ⟨S4, .i32⟩
  | 109 => ⟨S4, .i32⟩
  | 110 => ⟨S4x1, .i32⟩
  | 111 => ⟨S4x128, .f32⟩
  | 112 => ⟨S4x128, .f32⟩
  | 113 => ⟨S_, .f32⟩
  | 114 => ⟨S4, .f32⟩
  | 115 => ⟨S_, .f32⟩
  | 116 => ⟨S4, .f32⟩
  | 117 => ⟨S4, .f32⟩
  | 118 => ⟨S_, .i32⟩
  | 119 => ⟨S4, .i32⟩
  | 120 => ⟨S4, .i1⟩
  | 121 => ⟨S_, .i32⟩
  | 122 => ⟨S4, .i32⟩
  | 123 => ⟨S4, .i32⟩
  | 124 => ⟨S4, .i32⟩
  | 125 => ⟨S_, .i32⟩
  | 126 => ⟨S4, .i32⟩
  | 127 => ⟨S4, .i1⟩
  | _ => ⟨S4x20x1024, .f32⟩

abbrev hbmTy0_1 (i : Nat) : BufTy := match i % 128 with
  | 0 => ⟨S_, .i32⟩
  | 1 => ⟨S4, .i32⟩
  | 2 => ⟨S4, .i32⟩
  | 3 => ⟨S4, .i32⟩
  | 4 => ⟨S4x1, .i32⟩
  | 5 => ⟨S4x1, .i32⟩
  | 6 => ⟨S4x2, .i32⟩
  | 7 => ⟨S4, .f32⟩
  | 8 => ⟨S4, .f32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S1x4, .f32⟩
  | 24 => ⟨S4, .f32⟩
  | 25 => ⟨S4, .f32⟩
  | 26 => ⟨S4, .f32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S1x4, .i32⟩
  | 42 => ⟨S4, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S4, .i32⟩
  | 50 => ⟨S4, .i1⟩
  | 51 => ⟨S_, .i32⟩
  | 52 => ⟨S4, .i32⟩
  | 53 => ⟨S4, .i32⟩
  | 54 => ⟨S4, .i32⟩
  | 55 => ⟨S_, .i32⟩
  | 56 => ⟨S4, .i32⟩
  | 57 => ⟨S4, .i1⟩
  | 58 => ⟨S_, .i32⟩
  | 59 => ⟨S4, .i32⟩
  | 60 => ⟨S4, .i32⟩
  | 61 => ⟨S4, .i32⟩
  | 62 => ⟨S4, .i32⟩
  | 63 => ⟨S4, .i32⟩
  | 64 => ⟨S4x1, .i32⟩
  | 65 => ⟨S4x1, .i32⟩
  | 66 => ⟨S4x1, .i32⟩
  | 67 => ⟨S4x3, .i32⟩
  | 68 => ⟨S4, .f32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S1x4, .f32⟩
  | 84 => ⟨S4, .f32⟩
  | 85 => ⟨S4, .f32⟩
  | 86 => ⟨S4, .f32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x4x1024, .f32⟩
  | 110 => ⟨S4x1024, .f32⟩
  | 111 => ⟨S4x5, .f32⟩
  | 112 => ⟨S4x5, .i32⟩
  | 113 => ⟨S_, .i32⟩
  | 114 => ⟨S4x5, .i32⟩
  | 115 => ⟨S4x5, .i1⟩
  | 116 => ⟨S_, .i32⟩
  | 117 => ⟨S4x5, .i32⟩
  | 118 => ⟨S4x5, .i32⟩
  | 119 => ⟨S4x5, .i32⟩
  | 120 => ⟨S4x5x1, .i32⟩
  | 121 => ⟨S4x5x1024, .f32⟩
  | 122 => ⟨S_, .f32⟩
  | 123 => ⟨S4x1024, .f32⟩
  | 124 => ⟨S_, .f32⟩
  | 125 => ⟨S4x1024, .f32⟩
  | 126 => ⟨S4x1024, .i1⟩
  | 127 => ⟨S4x1x1024, .f32⟩
  | _ => ⟨S4x20x1024, .f32⟩

abbrev hbmTy0_2 (i : Nat) : BufTy := match i % 128 with
  | 0 => ⟨S1x1024x1024, .f32⟩
  | 1 => ⟨S4x1024x1024, .f32⟩
  | 2 => ⟨S4x1024x1024, .f32⟩
  | 3 => ⟨S4x1024x1024, .f32⟩
  | 4 => ⟨S4x1024x1, .f32⟩
  | 5 => ⟨S4x1024x1024, .f32⟩
  | 6 => ⟨S4x1024x1024, .f32⟩
  | 7 => ⟨S_, .f32⟩
  | 8 => ⟨S4x1024, .f32⟩
  | 9 => ⟨S4x1024x1, .f32⟩
  | 10 => ⟨S4x1024x1, .f32⟩
  | 11 => ⟨S_, .f32⟩
  | 12 => ⟨S4x1024x1, .f32⟩
  | 13 => ⟨S4x1024x1, .i1⟩
  | 14 => ⟨S_, .f32⟩
  | 15 => ⟨S_, .f32⟩
  | 16 => ⟨S4x1024x1, .f32⟩
  | 17 => ⟨S4x1024x1, .f32⟩
  | 18 => ⟨S4x1024x1024, .f32⟩
  | 19 => ⟨S4x1024x1024, .f32⟩
  | 20 => ⟨S4x1024x1024, .f32⟩
  | 21 => ⟨S_, .f32⟩
  | 22 => ⟨S4x1024, .f32⟩
  | 23 => ⟨S4x1024, .f32⟩
  | 24 => ⟨S4x1024, .f32⟩
  | 25 => ⟨S4x1024, .f32⟩
  | 26 => ⟨S_, .f32⟩
  | 27 => ⟨S_, .f32⟩
  | 28 => ⟨S4x1024, .f32⟩
  | 29 => ⟨S4x1024, .f32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S1x4, .i1⟩
  | 45 => ⟨S4, .i1⟩
  | 46 => ⟨S4x1, .i1⟩
  | 47 => ⟨S4x1024, .i1⟩
  | 48 => ⟨S4x1024, .f32⟩
  | 49 => ⟨S_, .i32⟩
  | 50 => ⟨S_, .i32⟩
  | 51 => ⟨S4x5, .f32⟩
  | 52 => ⟨S4x5, .i32⟩
  | 53 => ⟨S_, .f32⟩
  | 54 => ⟨S4, .f32⟩
  | 55 => ⟨S4x1, .f32⟩
  | 56 => ⟨S4x1, .f32⟩
  | 57 => ⟨S_, .f32⟩
  | 58 => ⟨S4x1, .f32⟩
  | 59 => ⟨S4x1, .i1⟩
  | 60 => ⟨S_, .f32⟩
  | 61 => ⟨S_, .f32⟩
  | 62 => ⟨S4x1, .f32⟩
  | 63 => ⟨S4x1, .f32⟩
  | 64 => ⟨S4x5, .f32⟩
  | 65 => ⟨S4x5, .f32⟩
  | 66 => ⟨S4x5, .f32⟩
  | 67 => ⟨S_, .f32⟩
  | 68 => ⟨S4, .f32⟩
  | 69 => ⟨S4, .f32⟩
  | 70 => ⟨S4, .f32⟩
  | 71 => ⟨S4, .f32⟩
  | 72 => ⟨S_, .f32⟩
  | 73 => ⟨S4, .f32⟩
  | 74 => ⟨S4, .f32⟩
  | 75 => ⟨S4, .f32⟩
  | 76 => ⟨S_, .f32⟩
  | 77 => ⟨S_, .f32⟩
  | 78 => ⟨S4x20, .f32⟩
  | 79 => ⟨S_, .f32⟩
  | 80 => ⟨S_, .f32⟩
  | 81 => ⟨S_, .f32⟩
  | _ => ⟨S4x20x1024, .f32⟩

abbrev hbmTy (i : Nat) : BufTy := match i / 128 with
  | 0 => hbmTy0_0 i
  | 1 => hbmTy0_1 i
  | 2 => hbmTy0_2 i
  | _ => ⟨S4x20x1024, .f32⟩

abbrev bufTy : (tb : Table) → Fin (tcTables nBuf tb) → BufTy
  | .hbm, ⟨i, _⟩ => hbmTy i
  | _, _ => ⟨S4x20x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_c_5 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev main_v30_4 : Ref sig .tc := ⟨.hbm, 48, rfl⟩
abbrev main_v30_5 : Ref sig .tc := ⟨.hbm, 49, rfl⟩
abbrev main_v30_6 : Ref sig .tc := ⟨.hbm, 50, rfl⟩
abbrev main_v30_7 : Ref sig .tc := ⟨.hbm, 51, rfl⟩
abbrev main_v30_8 : Ref sig .tc := ⟨.hbm, 52, rfl⟩
abbrev main_v30_9 : Ref sig .tc := ⟨.hbm, 53, rfl⟩
abbrev main_v30_10 : Ref sig .tc := ⟨.hbm, 54, rfl⟩
abbrev main_v30_11 : Ref sig .tc := ⟨.hbm, 55, rfl⟩
abbrev main_while0c_c_23 : Ref sig .tc := ⟨.hbm, 56, rfl⟩
abbrev main_while0c_v51 : Ref sig .tc := ⟨.hbm, 57, rfl⟩
abbrev main_while0b_c_23 : Ref sig .tc := ⟨.hbm, 58, rfl⟩
abbrev main_while0b_v51 : Ref sig .tc := ⟨.hbm, 59, rfl⟩
abbrev main_while0b_c_24 : Ref sig .tc := ⟨.hbm, 60, rfl⟩
abbrev main_while0b_v52 : Ref sig .tc := ⟨.hbm, 61, rfl⟩
abbrev main_while0b_v53 : Ref sig .tc := ⟨.hbm, 62, rfl⟩
abbrev main_while0b_c_25 : Ref sig .tc := ⟨.hbm, 63, rfl⟩
abbrev main_while0b_v54 : Ref sig .tc := ⟨.hbm, 64, rfl⟩
abbrev main_while0b_c_26 : Ref sig .tc := ⟨.hbm, 65, rfl⟩
abbrev main_while0b_v55 : Ref sig .tc := ⟨.hbm, 66, rfl⟩
abbrev main_while0b_v56 : Ref sig .tc := ⟨.hbm, 67, rfl⟩
abbrev main_while0b_c_27 : Ref sig .tc := ⟨.hbm, 68, rfl⟩
abbrev main_while0b_c_28 : Ref sig .tc := ⟨.hbm, 69, rfl⟩
abbrev main_while0b_v57 : Ref sig .tc := ⟨.hbm, 70, rfl⟩
abbrev main_while0b_c_29 : Ref sig .tc := ⟨.hbm, 71, rfl⟩
abbrev main_while0b_c_30 : Ref sig .tc := ⟨.hbm, 72, rfl⟩
abbrev main_while0b_v58 : Ref sig .tc := ⟨.hbm, 73, rfl⟩
abbrev main_while0b_c_31 : Ref sig .tc := ⟨.hbm, 74, rfl⟩
abbrev main_while0b_v59 : Ref sig .tc := ⟨.hbm, 75, rfl⟩
abbrev main_while0b_v60 : Ref sig .tc := ⟨.hbm, 76, rfl⟩
abbrev main_while0b_v61 : Ref sig .tc := ⟨.hbm, 77, rfl⟩
abbrev main_while0b_v62 : Ref sig .tc := ⟨.hbm, 78, rfl⟩
abbrev main_while0b_c_32 : Ref sig .tc := ⟨.hbm, 79, rfl⟩
abbrev main_while0b_v63 : Ref sig .tc := ⟨.hbm, 80, rfl⟩
abbrev main_while0b_c_33 : Ref sig .tc := ⟨.hbm, 81, rfl⟩
abbrev main_while0b_v64 : Ref sig .tc := ⟨.hbm, 82, rfl⟩
abbrev main_while0b_v65 : Ref sig .tc := ⟨.hbm, 83, rfl⟩
abbrev main_while0b_c_34 : Ref sig .tc := ⟨.hbm, 84, rfl⟩
abbrev main_while0b_c_35 : Ref sig .tc := ⟨.hbm, 85, rfl⟩
abbrev main_while0b_v66 : Ref sig .tc := ⟨.hbm, 86, rfl⟩
abbrev main_while0b_c_36 : Ref sig .tc := ⟨.hbm, 87, rfl⟩
abbrev main_while0b_c_37 : Ref sig .tc := ⟨.hbm, 88, rfl⟩
abbrev main_while0b_v67 : Ref sig .tc := ⟨.hbm, 89, rfl⟩
abbrev main_while0b_c_38 : Ref sig .tc := ⟨.hbm, 90, rfl⟩
abbrev main_while0b_v68 : Ref sig .tc := ⟨.hbm, 91, rfl⟩
abbrev main_while0b_v69 : Ref sig .tc := ⟨.hbm, 92, rfl⟩
abbrev main_while0b_v70 : Ref sig .tc := ⟨.hbm, 93, rfl⟩
abbrev main_while0b_c_39 : Ref sig .tc := ⟨.hbm, 94, rfl⟩
abbrev main_while0b_v71 : Ref sig .tc := ⟨.hbm, 95, rfl⟩
abbrev main_while0b_v72 : Ref sig .tc := ⟨.hbm, 96, rfl⟩
abbrev main_while0b_c_40 : Ref sig .tc := ⟨.hbm, 97, rfl⟩
abbrev main_while0b_v73 : Ref sig .tc := ⟨.hbm, 98, rfl⟩
abbrev main_while0b_v74 : Ref sig .tc := ⟨.hbm, 99, rfl⟩
abbrev main_while0b_v75 : Ref sig .tc := ⟨.hbm, 100, rfl⟩
abbrev main_while0b_v76 : Ref sig .tc := ⟨.hbm, 101, rfl⟩
abbrev main_while0b_v77 : Ref sig .tc := ⟨.hbm, 102, rfl⟩
abbrev main_while0b_c_41 : Ref sig .tc := ⟨.hbm, 103, rfl⟩
abbrev main_while0b_v78 : Ref sig .tc := ⟨.hbm, 104, rfl⟩
abbrev main_while0b_v79 : Ref sig .tc := ⟨.hbm, 105, rfl⟩
abbrev main_while0b_c_42 : Ref sig .tc := ⟨.hbm, 106, rfl⟩
abbrev main_while0b_v80 : Ref sig .tc := ⟨.hbm, 107, rfl⟩
abbrev main_while0b_v81 : Ref sig .tc := ⟨.hbm, 108, rfl⟩
abbrev main_while0b_v82 : Ref sig .tc := ⟨.hbm, 109, rfl⟩
abbrev main_while0b_v83 : Ref sig .tc := ⟨.hbm, 110, rfl⟩
abbrev main_while0b_v84 : Ref sig .tc := ⟨.hbm, 111, rfl⟩
abbrev main_while0b_v85 : Ref sig .tc := ⟨.hbm, 112, rfl⟩
abbrev main_while0b_cst_43 : Ref sig .tc := ⟨.hbm, 113, rfl⟩
abbrev main_while0b_v86 : Ref sig .tc := ⟨.hbm, 114, rfl⟩
abbrev main_while0b_call1_cst : Ref sig .tc := ⟨.hbm, 115, rfl⟩
abbrev main_while0b_call1_v0 : Ref sig .tc := ⟨.hbm, 116, rfl⟩
abbrev main_while0b_v87 : Ref sig .tc := ⟨.hbm, 117, rfl⟩
abbrev main_while0b_c_44 : Ref sig .tc := ⟨.hbm, 118, rfl⟩
abbrev main_while0b_v88 : Ref sig .tc := ⟨.hbm, 119, rfl⟩
abbrev main_while0b_v89 : Ref sig .tc := ⟨.hbm, 120, rfl⟩
abbrev main_while0b_c_45 : Ref sig .tc := ⟨.hbm, 121, rfl⟩
abbrev main_while0b_v90 : Ref sig .tc := ⟨.hbm, 122, rfl⟩
abbrev main_while0b_v91 : Ref sig .tc := ⟨.hbm, 123, rfl⟩
abbrev main_while0b_v92 : Ref sig .tc := ⟨.hbm, 124, rfl⟩
abbrev main_while0b_c_46 : Ref sig .tc := ⟨.hbm, 125, rfl⟩
abbrev main_while0b_v93 : Ref sig .tc := ⟨.hbm, 126, rfl⟩
abbrev main_while0b_v94 : Ref sig .tc := ⟨.hbm, 127, rfl⟩
abbrev main_while0b_c_47 : Ref sig .tc := ⟨.hbm, 128, rfl⟩
abbrev main_while0b_v95 : Ref sig .tc := ⟨.hbm, 129, rfl⟩
abbrev main_while0b_v96 : Ref sig .tc := ⟨.hbm, 130, rfl⟩
abbrev main_while0b_v97 : Ref sig .tc := ⟨.hbm, 131, rfl⟩
abbrev main_while0b_v98 : Ref sig .tc := ⟨.hbm, 132, rfl⟩
abbrev main_while0b_v99 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_c_48 : Ref sig .tc := ⟨.hbm, 138, rfl⟩
abbrev main_while0b_v104 : Ref sig .tc := ⟨.hbm, 139, rfl⟩
abbrev main_while0b_c_49 : Ref sig .tc := ⟨.hbm, 140, rfl⟩
abbrev main_while0b_v105 : Ref sig .tc := ⟨.hbm, 141, rfl⟩
abbrev main_while0b_v106 : Ref sig .tc := ⟨.hbm, 142, rfl⟩
abbrev main_while0b_c_50 : Ref sig .tc := ⟨.hbm, 143, rfl⟩
abbrev main_while0b_c_51 : Ref sig .tc := ⟨.hbm, 144, rfl⟩
abbrev main_while0b_v107 : Ref sig .tc := ⟨.hbm, 145, rfl⟩
abbrev main_while0b_c_52 : Ref sig .tc := ⟨.hbm, 146, rfl⟩
abbrev main_while0b_c_53 : Ref sig .tc := ⟨.hbm, 147, rfl⟩
abbrev main_while0b_v108 : Ref sig .tc := ⟨.hbm, 148, rfl⟩
abbrev main_while0b_c_54 : Ref sig .tc := ⟨.hbm, 149, rfl⟩
abbrev main_while0b_v109 : Ref sig .tc := ⟨.hbm, 150, rfl⟩
abbrev main_while0b_v110 : Ref sig .tc := ⟨.hbm, 151, rfl⟩
abbrev main_while0b_v111 : Ref sig .tc := ⟨.hbm, 152, rfl⟩
abbrev main_while0b_v112 : Ref sig .tc := ⟨.hbm, 153, rfl⟩
abbrev main_while0b_v113 : Ref sig .tc := ⟨.hbm, 154, rfl⟩
abbrev main_while0b_v114 : Ref sig .tc := ⟨.hbm, 155, rfl⟩
abbrev main_while0b_c_55 : Ref sig .tc := ⟨.hbm, 156, rfl⟩
abbrev main_while0b_v115 : Ref sig .tc := ⟨.hbm, 157, rfl⟩
abbrev main_while0b_c_56 : Ref sig .tc := ⟨.hbm, 158, rfl⟩
abbrev main_while0b_v116 : Ref sig .tc := ⟨.hbm, 159, rfl⟩
abbrev main_while0b_v117 : Ref sig .tc := ⟨.hbm, 160, rfl⟩
abbrev main_while0b_c_57 : Ref sig .tc := ⟨.hbm, 161, rfl⟩
abbrev main_while0b_c_58 : Ref sig .tc := ⟨.hbm, 162, rfl⟩
abbrev main_while0b_v118 : Ref sig .tc := ⟨.hbm, 163, rfl⟩
abbrev main_while0b_c_59 : Ref sig .tc := ⟨.hbm, 164, rfl⟩
abbrev main_while0b_c_60 : Ref sig .tc := ⟨.hbm, 165, rfl⟩
abbrev main_while0b_v119 : Ref sig .tc := ⟨.hbm, 166, rfl⟩
abbrev main_while0b_c_61 : Ref sig .tc := ⟨.hbm, 167, rfl⟩
abbrev main_while0b_v120 : Ref sig .tc := ⟨.hbm, 168, rfl⟩
abbrev main_while0b_v121 : Ref sig .tc := ⟨.hbm, 169, rfl⟩
abbrev main_while0b_v122 : Ref sig .tc := ⟨.hbm, 170, rfl⟩
abbrev main_while0b_c_62 : Ref sig .tc := ⟨.hbm, 171, rfl⟩
abbrev main_while0b_v123 : Ref sig .tc := ⟨.hbm, 172, rfl⟩
abbrev main_while0b_c_63 : Ref sig .tc := ⟨.hbm, 173, rfl⟩
abbrev main_while0b_v124 : Ref sig .tc := ⟨.hbm, 174, rfl⟩
abbrev main_while0b_v125 : Ref sig .tc := ⟨.hbm, 175, rfl⟩
abbrev main_while0b_c_64 : Ref sig .tc := ⟨.hbm, 176, rfl⟩
abbrev main_while0b_v126 : Ref sig .tc := ⟨.hbm, 177, rfl⟩
abbrev main_while0b_v127 : Ref sig .tc := ⟨.hbm, 178, rfl⟩
abbrev main_while0b_c_65 : Ref sig .tc := ⟨.hbm, 179, rfl⟩
abbrev main_while0b_v128 : Ref sig .tc := ⟨.hbm, 180, rfl⟩
abbrev main_while0b_v129 : Ref sig .tc := ⟨.hbm, 181, rfl⟩
abbrev main_while0b_v130 : Ref sig .tc := ⟨.hbm, 182, rfl⟩
abbrev main_while0b_c_66 : Ref sig .tc := ⟨.hbm, 183, rfl⟩
abbrev main_while0b_v131 : Ref sig .tc := ⟨.hbm, 184, rfl⟩
abbrev main_while0b_v132 : Ref sig .tc := ⟨.hbm, 185, rfl⟩
abbrev main_while0b_c_67 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_v138 : Ref sig .tc := ⟨.hbm, 192, rfl⟩
abbrev main_while0b_v139 : Ref sig .tc := ⟨.hbm, 193, rfl⟩
abbrev main_while0b_v140 : Ref sig .tc := ⟨.hbm, 194, rfl⟩
abbrev main_while0b_v141 : Ref sig .tc := ⟨.hbm, 195, rfl⟩
abbrev main_while0b_v142 : Ref sig .tc := ⟨.hbm, 196, rfl⟩
abbrev main_while0b_v143 : Ref sig .tc := ⟨.hbm, 197, rfl⟩
abbrev main_while0b_c_68 : Ref sig .tc := ⟨.hbm, 198, rfl⟩
abbrev main_while0b_v144 : Ref sig .tc := ⟨.hbm, 199, rfl⟩
abbrev main_while0b_c_69 : Ref sig .tc := ⟨.hbm, 200, rfl⟩
abbrev main_while0b_v145 : Ref sig .tc := ⟨.hbm, 201, rfl⟩
abbrev main_while0b_v146 : Ref sig .tc := ⟨.hbm, 202, rfl⟩
abbrev main_while0b_c_70 : Ref sig .tc := ⟨.hbm, 203, rfl⟩
abbrev main_while0b_c_71 : Ref sig .tc := ⟨.hbm, 204, rfl⟩
abbrev main_while0b_v147 : Ref sig .tc := ⟨.hbm, 205, rfl⟩
abbrev main_while0b_c_72 : Ref sig .tc := ⟨.hbm, 206, rfl⟩
abbrev main_while0b_c_73 : Ref sig .tc := ⟨.hbm, 207, rfl⟩
abbrev main_while0b_v148 : Ref sig .tc := ⟨.hbm, 208, rfl⟩
abbrev main_while0b_c_74 : Ref sig .tc := ⟨.hbm, 209, rfl⟩
abbrev main_while0b_v149 : Ref sig .tc := ⟨.hbm, 210, rfl⟩
abbrev main_while0b_v150 : Ref sig .tc := ⟨.hbm, 211, rfl⟩
abbrev main_while0b_v151 : Ref sig .tc := ⟨.hbm, 212, rfl⟩
abbrev main_while0b_v152 : Ref sig .tc := ⟨.hbm, 213, rfl⟩
abbrev main_while0b_v153 : Ref sig .tc := ⟨.hbm, 214, rfl⟩
abbrev main_while0b_v154 : Ref sig .tc := ⟨.hbm, 215, rfl⟩
abbrev main_while0b_c_75 : Ref sig .tc := ⟨.hbm, 216, rfl⟩
abbrev main_while0b_v155 : Ref sig .tc := ⟨.hbm, 217, rfl⟩
abbrev main_while0b_c_76 : Ref sig .tc := ⟨.hbm, 218, rfl⟩
abbrev main_while0b_v156 : Ref sig .tc := ⟨.hbm, 219, rfl⟩
abbrev main_while0b_v157 : Ref sig .tc := ⟨.hbm, 220, rfl⟩
abbrev main_while0b_c_77 : Ref sig .tc := ⟨.hbm, 221, rfl⟩
abbrev main_while0b_c_78 : Ref sig .tc := ⟨.hbm, 222, rfl⟩
abbrev main_while0b_v158 : Ref sig .tc := ⟨.hbm, 223, rfl⟩
abbrev main_while0b_c_79 : Ref sig .tc := ⟨.hbm, 224, rfl⟩
abbrev main_while0b_c_80 : Ref sig .tc := ⟨.hbm, 225, rfl⟩
abbrev main_while0b_v159 : Ref sig .tc := ⟨.hbm, 226, rfl⟩
abbrev main_while0b_c_81 : Ref sig .tc := ⟨.hbm, 227, rfl⟩
abbrev main_while0b_v160 : Ref sig .tc := ⟨.hbm, 228, rfl⟩
abbrev main_while0b_c_82 : Ref sig .tc := ⟨.hbm, 229, rfl⟩
abbrev main_while0b_c_83 : Ref sig .tc := ⟨.hbm, 230, rfl⟩
abbrev main_while0b_v161 : Ref sig .tc := ⟨.hbm, 231, rfl⟩
abbrev main_while0b_c_84 : Ref sig .tc := ⟨.hbm, 232, rfl⟩
abbrev main_while0b_c_85 : Ref sig .tc := ⟨.hbm, 233, rfl⟩
abbrev main_while0b_v162 : Ref sig .tc := ⟨.hbm, 234, rfl⟩
abbrev main_while0b_c_86 : Ref sig .tc := ⟨.hbm, 235, rfl⟩
abbrev main_while0b_v163 : Ref sig .tc := ⟨.hbm, 236, rfl⟩
abbrev main_while0b_v164 : Ref sig .tc := ⟨.hbm, 237, rfl⟩
abbrev main_while0b_v165 : Ref sig .tc := ⟨.hbm, 238, rfl⟩
abbrev main_while0b_values_87 : Ref sig .tc := ⟨.hbm, 239, rfl⟩
abbrev main_while0b_indices_88 : Ref sig .tc := ⟨.hbm, 240, rfl⟩
abbrev main_while0b_c_89 : Ref sig .tc := ⟨.hbm, 241, rfl⟩
abbrev main_while0b_v166 : Ref sig .tc := ⟨.hbm, 242, rfl⟩
abbrev main_while0b_v167 : Ref sig .tc := ⟨.hbm, 243, rfl⟩
abbrev main_while0b_c_90 : Ref sig .tc := ⟨.hbm, 244, rfl⟩
abbrev main_while0b_v168 : Ref sig .tc := ⟨.hbm, 245, rfl⟩
abbrev main_while0b_v169 : Ref sig .tc := ⟨.hbm, 246, rfl⟩
abbrev main_while0b_v170 : Ref sig .tc := ⟨.hbm, 247, rfl⟩
abbrev main_while0b_v171 : Ref sig .tc := ⟨.hbm, 248, rfl⟩
abbrev main_while0b_v172 : Ref sig .tc := ⟨.hbm, 249, rfl⟩
abbrev main_while0b_cst_91 : Ref sig .tc := ⟨.hbm, 250, rfl⟩
abbrev main_while0b_v173 : Ref sig .tc := ⟨.hbm, 251, rfl⟩
abbrev main_while0b_cst_92 : Ref sig .tc := ⟨.hbm, 252, rfl⟩
abbrev main_while0b_v174 : Ref sig .tc := ⟨.hbm, 253, rfl⟩
abbrev main_while0b_v175 : Ref sig .tc := ⟨.hbm, 254, rfl⟩
abbrev main_while0b_v176 : Ref sig .tc := ⟨.hbm, 255, rfl⟩
abbrev main_while0b_v177 : Ref sig .tc := ⟨.hbm, 256, rfl⟩
abbrev main_while0b_v178 : Ref sig .tc := ⟨.hbm, 257, rfl⟩
abbrev main_while0b_v179 : Ref sig .tc := ⟨.hbm, 258, rfl⟩
abbrev main_while0b_v180 : Ref sig .tc := ⟨.hbm, 259, rfl⟩
abbrev main_while0b_v181 : Ref sig .tc := ⟨.hbm, 260, rfl⟩
abbrev main_while0b_v182 : Ref sig .tc := ⟨.hbm, 261, rfl⟩
abbrev main_while0b_v183 : Ref sig .tc := ⟨.hbm, 262, rfl⟩
abbrev main_while0b_cst_93 : Ref sig .tc := ⟨.hbm, 263, rfl⟩
abbrev main_while0b_v184 : Ref sig .tc := ⟨.hbm, 264, rfl⟩
abbrev main_while0b_v185 : Ref sig .tc := ⟨.hbm, 265, rfl⟩
abbrev main_while0b_v186 : Ref sig .tc := ⟨.hbm, 266, rfl⟩
abbrev main_while0b_cst_94 : Ref sig .tc := ⟨.hbm, 267, rfl⟩
abbrev main_while0b_v187 : Ref sig .tc := ⟨.hbm, 268, rfl⟩
abbrev main_while0b_v188 : Ref sig .tc := ⟨.hbm, 269, rfl⟩
abbrev main_while0b_cst_95 : Ref sig .tc := ⟨.hbm, 270, rfl⟩
abbrev main_while0b_call2_v0 : Ref sig .tc := ⟨.hbm, 271, rfl⟩
abbrev main_while0b_call2_v1 : Ref sig .tc := ⟨.hbm, 272, rfl⟩
abbrev main_while0b_v189 : Ref sig .tc := ⟨.hbm, 273, rfl⟩
abbrev main_while0b_v190 : Ref sig .tc := ⟨.hbm, 274, rfl⟩
abbrev main_while0b_v191 : Ref sig .tc := ⟨.hbm, 275, rfl⟩
abbrev main_while0b_v192 : Ref sig .tc := ⟨.hbm, 276, rfl⟩
abbrev main_while0b_cst_96 : Ref sig .tc := ⟨.hbm, 277, rfl⟩
abbrev main_while0b_v193 : Ref sig .tc := ⟨.hbm, 278, rfl⟩
abbrev main_while0b_v194 : Ref sig .tc := ⟨.hbm, 279, rfl⟩
abbrev main_while0b_v195 : Ref sig .tc := ⟨.hbm, 280, rfl⟩
abbrev main_while0b_v196 : Ref sig .tc := ⟨.hbm, 281, rfl⟩
abbrev main_while0b_cst_97 : Ref sig .tc := ⟨.hbm, 282, rfl⟩
abbrev main_while0b_call3_v0 : Ref sig .tc := ⟨.hbm, 283, rfl⟩
abbrev main_while0b_call3_v1 : Ref sig .tc := ⟨.hbm, 284, rfl⟩
abbrev main_while0b_v197 : Ref sig .tc := ⟨.hbm, 285, rfl⟩
abbrev main_while0b_v198 : Ref sig .tc := ⟨.hbm, 286, rfl⟩
abbrev main_while0b_c_98 : Ref sig .tc := ⟨.hbm, 287, rfl⟩
abbrev main_while0b_v199 : Ref sig .tc := ⟨.hbm, 288, rfl⟩
abbrev main_while0b_c_99 : Ref sig .tc := ⟨.hbm, 289, rfl⟩
abbrev main_while0b_v200 : Ref sig .tc := ⟨.hbm, 290, rfl⟩
abbrev main_while0b_v201 : Ref sig .tc := ⟨.hbm, 291, rfl⟩
abbrev main_while0b_c_100 : Ref sig .tc := ⟨.hbm, 292, rfl⟩
abbrev main_while0b_c_101 : Ref sig .tc := ⟨.hbm, 293, rfl⟩
abbrev main_while0b_v202 : Ref sig .tc := ⟨.hbm, 294, rfl⟩
abbrev main_while0b_c_102 : Ref sig .tc := ⟨.hbm, 295, rfl⟩
abbrev main_while0b_c_103 : Ref sig .tc := ⟨.hbm, 296, rfl⟩
abbrev main_while0b_v203 : Ref sig .tc := ⟨.hbm, 297, rfl⟩
abbrev main_while0b_c_104 : Ref sig .tc := ⟨.hbm, 298, rfl⟩
abbrev main_while0b_v204 : Ref sig .tc := ⟨.hbm, 299, rfl⟩
abbrev main_while0b_v205 : Ref sig .tc := ⟨.hbm, 300, rfl⟩
abbrev main_while0b_v206 : Ref sig .tc := ⟨.hbm, 301, rfl⟩
abbrev main_while0b_v207 : Ref sig .tc := ⟨.hbm, 302, rfl⟩
abbrev main_while0b_call4_v0 : Ref sig .tc := ⟨.hbm, 303, rfl⟩
abbrev main_while0b_v208 : Ref sig .tc := ⟨.hbm, 304, rfl⟩
abbrev main_while0b_c_105 : Ref sig .tc := ⟨.hbm, 305, rfl⟩
abbrev main_while0b_v209 : Ref sig .tc := ⟨.hbm, 306, rfl⟩
abbrev main_values : Ref sig .tc := ⟨.hbm, 307, rfl⟩
abbrev main_indices : Ref sig .tc := ⟨.hbm, 308, rfl⟩
abbrev main_cst : Ref sig .tc := ⟨.hbm, 309, rfl⟩
abbrev main_v31 : Ref sig .tc := ⟨.hbm, 310, rfl⟩
abbrev main_v32 : Ref sig .tc := ⟨.hbm, 311, rfl⟩
abbrev main_v33 : Ref sig .tc := ⟨.hbm, 312, rfl⟩
abbrev main_cst_6 : Ref sig .tc := ⟨.hbm, 313, rfl⟩
abbrev main_v34 : Ref sig .tc := ⟨.hbm, 314, rfl⟩
abbrev main_v35 : Ref sig .tc := ⟨.hbm, 315, rfl⟩
abbrev main_cst_7 : Ref sig .tc := ⟨.hbm, 316, rfl⟩
abbrev main_call5_v0 : Ref sig .tc := ⟨.hbm, 317, rfl⟩
abbrev main_call5_v1 : Ref sig .tc := ⟨.hbm, 318, rfl⟩
abbrev main_v36 : Ref sig .tc := ⟨.hbm, 319, rfl⟩
abbrev main_v37 : Ref sig .tc := ⟨.hbm, 320, rfl⟩
abbrev main_v38 : Ref sig .tc := ⟨.hbm, 321, rfl⟩
abbrev main_v39 : Ref sig .tc := ⟨.hbm, 322, rfl⟩
abbrev main_cst_8 : Ref sig .tc := ⟨.hbm, 323, rfl⟩
abbrev main_v40 : Ref sig .tc := ⟨.hbm, 324, rfl⟩
abbrev main_v41 : Ref sig .tc := ⟨.hbm, 325, rfl⟩
abbrev main_v42 : Ref sig .tc := ⟨.hbm, 326, rfl⟩
abbrev main_v43 : Ref sig .tc := ⟨.hbm, 327, rfl⟩
abbrev main_cst_9 : Ref sig .tc := ⟨.hbm, 328, rfl⟩
abbrev main_v44 : Ref sig .tc := ⟨.hbm, 329, rfl⟩
abbrev main_v45 : Ref sig .tc := ⟨.hbm, 330, rfl⟩
abbrev main_v46 : Ref sig .tc := ⟨.hbm, 331, rfl⟩
abbrev main_cst_10 : Ref sig .tc := ⟨.hbm, 332, rfl⟩
abbrev main_v47 : Ref sig .tc := ⟨.hbm, 333, rfl⟩
abbrev main_v48 : Ref sig .tc := ⟨.hbm, 334, rfl⟩
abbrev main_cst_11 : Ref sig .tc := ⟨.hbm, 335, rfl⟩
abbrev main_v49 : Ref sig .tc := ⟨.hbm, 336, rfl⟩
abbrev main_v50 : Ref sig .tc := ⟨.hbm, 337, rfl⟩

abbrev nD : Nat := 1
abbrev τ : Topo := Topo.v7x

variable {F : FTy → Type} [FloatOps F]

abbrev main_while0_count : Scf.Loop 32 := ⟨0#32, 19#32, 1#32⟩
-- ==== Proof.Model.lean ====
/-
  What the kernel computes, in its own operations and for any float type: the arrays it prepares, one scaled
  forward step, one exact step, the selection of the five greatest entries of a row, and the two results the
  kernel chooses between. `Body.lean` proves the kernel's body is these functions.
-/
module

public import proofs.«01_k».proof.KernelIdeal
public import proofs.«01_k».proof.Proof.Gen.KernelIdeal

@[expose] public section

noncomputable section

namespace Cert.Crf

open Idealize.ShloMosaic Cert.KernelIdeal Cert.KernelIdeal.Gen

variable {F : FTy → Type} [FloatOps F]

/-! ## Rows of four and of eighty -/

/-- A row's maximum, kept as a column, over four rows. -/
def rowMax4 (x : FVec F S4x1024 .f32) : FVec F S4x1 .f32 :=
  shapeCast S4x1 (multiReduction .maximumf [1] S4 x 0xFF800000#32 reduces_S4x1024_S4 (.inl rfl) rfl) shapeCasts_S4_S4x1

/-- A column repeated along its rows. -/
def wide4 (x : FVec F S4x1 .f32) : FVec F S4x1024 .f32 := broadcastTo S4x1024 x broadcasts_S4x1_S4x1024

/-- The entries that equal their row's maximum. -/
def pick4 (x : FVec F S4x1024 .f32) : IVec S4x1024 1 := cmpf .oeq x (wide4 (rowMax4 x))

/-- The marks with the entries at the maximum added. -/
def mark4 (s x : FVec F S4x1024 .f32) : FVec F S4x1024 .f32 := addf s (sitofp .f32 (extui 32 (pick4 x) natLt_1_32))

/-- The rows with their maxima removed. -/
def drop4 (x : FVec F S4x1024 .f32) : FVec F S4x1024 .f32 :=
  select (pick4 x) (broadcast S4x1024 (Scalar.ofBits .f32 0xFF800000#32)) x

/-- The marks of the five greatest entries. -/
def sel4 (x : FVec F S4x1024 .f32) : FVec F S4x1024 .f32 :=
  mark4 (mark4 (mark4 (mark4 (mark4 (broadcast S4x1024 (Scalar.ofBits .f32 0x00000000#32)) x) (drop4 x)) (drop4 (drop4 x)))
    (drop4 (drop4 (drop4 x)))) (drop4 (drop4 (drop4 (drop4 x))))

/-- A row's maximum, kept as a column, over eighty rows. -/
def rowMax80 (x : FVec F S80x1024 .f32) : FVec F S80x1 .f32 :=
  shapeCast S80x1 (multiReduction .maximumf [1] S80 x 0xFF800000#32 reduces_S80x1024_S80 (.inl rfl) rfl) shapeCasts_S80_S80x1

/-- The entries that equal their row's maximum. -/
def pick80 (x : FVec F S80x1024 .f32) : IVec S80x1024 1 :=
  cmpf .oeq x (broadcastTo S80x1024 (rowMax80 x) broadcasts_S80x1_S80x1024)

/-- The marks with the entries at the maximum added. -/
def mark80 (s x : FVec F S80x1024 .f32) : FVec F S80x1024 .f32 :=
  addf s (sitofp .f32 (extui 32 (pick80 x) natLt_1_32))

/-- The rows with their maxima removed. -/
def drop80 (x : FVec F S80x1024 .f32) : FVec F S80x1024 .f32 :=
  select (pick80 x) (broadcast S80x1024 (Scalar.ofBits .f32 0xFF800000#32)) x

/-- The marks of the five greatest entries. -/
def sel80 (x : FVec F S80x1024 .f32) : FVec F S80x1024 .f32 :=
  mark80 (mark80 (mark80 (mark80 (mark80 (broadcast S80x1024 (Scalar.ofBits .f32 0x00000000#32)) x) (drop80 x))
    (drop80 (drop80 x))) (drop80 (drop80 (drop80 x)))) (drop80 (drop80 (drop80 (drop80 x))))

/-! ## The arrays the kernel prepares -/

/-- The rectified transition scores, previous tag down the rows: `relu (A[t',t] ⟨e_t, e_t'⟩)` at `(t, t')`. -/
def trt (E : FVec F S1024x128 .f32) (A : FVec F S1024x1024 .f32) : FVec F S1024x1024 .f32 :=
  maximumf (mulf (transpose S1024x1024 [1, 0] A transposes_S1024x1024_p1_0_S1024x1024)
      (matmul dot_S1024x128_S1024x128_S1024x1024_1_1_0_0_n_n none E E (constant S1024x1024 .f32 0x00000000#32)))
    (broadcast S1024x1024 (Scalar.ofBits .f32 0x00000000#32))

/-- The greatest transition score into each tag. -/
def colMax (T : FVec F S1024x1024 .f32) : FVec F S1x1024 .f32 :=
  shapeCast S1x1024 (multiReduction .maximumf [0] S1024 T 0xFF800000#32 reduces_S1024x1024_S1024 (.inl rfl) rfl) shapeCasts_S1024_S1x1024

/-- The exponentials of the transition scores, each column scaled by its greatest. -/
def wexp (T : FVec F S1024x1024 .f32) : FVec F S1024x1024 .bf16 :=
  truncf .bf16 (exp (subf T (broadcastTo S1024x1024 (colMax T) broadcasts_S1x1024_S1024x1024))) bitsLt_bf16_f32

/-- A row of the emissions inside the array. -/
theorem rowFits (i : Fin 20) (b : Fin 4) : S80x1024.Slices ![20 * b.val + i.val, 0] S1x1024 := by
  revert i b; decide

/-- The emissions of step `i`, a row for each sequence. -/
def emStep (EM : FVec F S80x1024 .f32) (i : Fin 20) : FVec F S4x1024 .f32 :=
  concatenate S4x1024 0
    [⟨S1x1024, extractStridedSlice S1x1024 ![20 * (0 : Fin 4).val + i.val, 0] EM (rowFits i 0)⟩,
     ⟨S1x1024, extractStridedSlice S1x1024 ![20 * (1 : Fin 4).val + i.val, 0] EM (rowFits i 1)⟩,
     ⟨S1x1024, extractStridedSlice S1x1024 ![20 * (2 : Fin 4).val + i.val, 0] EM (rowFits i 2)⟩,
     ⟨S1x1024, extractStridedSlice S1x1024 ![20 * (3 : Fin 4).val + i.val, 0] EM (rowFits i 3)⟩]
    concatenates_S1x1024_S1x1024_S1x1024_S1x1024_S4x1024_d0

/-- The emissions of step `n + 1` with the greatest transition scores added. -/
def erStep (EM : FVec F S80x1024 .f32) (r : FVec F S1x1024 .f32) (n : ℕ) : FVec F S4x1024 .f32 :=
  addf (emStep EM (Fin.ofNat 20 (n + 1))) (broadcastTo S4x1024 r broadcasts_S1x1024_S4x1024)

/-! ## The scaled forward pass -/

/-- One scaled forward step. -/
def vnext (W : FVec F S1024x1024 .bf16) (er V : FVec F S4x1024 .f32) : FVec F S4x1024 .f32 :=
  mulf
    (mulf (matmul dot_S4x1024_S1024x1024_S4x1024_1_0_0_1_n_n none (truncf .bf16 V bitsLt_bf16_f32) W (constant S4x1024 .f32 0x00000000#32))
      (exp (subf er (wide4 (rowMax4 er)))))
    (wide4 (select (cmpf .ogt (rowMax4 V) (broadcast S4x1 (Scalar.ofBits .f32 0x00000000#32)))
      (divf (broadcast S4x1 (Scalar.ofBits .f32 0x3F800000#32)) (rowMax4 V))
      (broadcast S4x1 (Scalar.ofBits .f32 0x00000000#32))))

/-- The scaled forward values after `n` steps. -/
def vees (EM : FVec F S80x1024 .f32) (T : FVec F S1024x1024 .f32) (n : ℕ) : FVec F S4x1024 .f32 :=
  Nat.rec (exp (subf (emStep EM 0) (wide4 (rowMax4 (emStep EM 0)))))
    (fun k V => vnext (wexp T) (erStep EM (colMax T) k) V) n

/-- The logarithm of the scale after `n` steps. -/
def blog (EM : FVec F S80x1024 .f32) (T : FVec F S1024x1024 .f32) (n : ℕ) : FVec F S4x1 .f32 :=
  Nat.rec (rowMax4 (emStep EM 0))
    (fun k b => addf (addf b (log (rowMax4 (vees EM T k)))) (rowMax4 (erStep EM (colMax T) k))) n

/-- The scaled forward values of every step, four rows a step. -/
def stacked (v : ℕ → FVec F S4x1024 .f32) : FVec F S80x1024 .f32 :=
  concatenate S80x1024 0
    [⟨S4x1024, v 0⟩, ⟨S4x1024, v 1⟩, ⟨S4x1024, v 2⟩, ⟨S4x1024, v 3⟩, ⟨S4x1024, v 4⟩, ⟨S4x1024, v 5⟩, ⟨S4x1024, v 6⟩,
     ⟨S4x1024, v 7⟩, ⟨S4x1024, v 8⟩, ⟨S4x1024, v 9⟩, ⟨S4x1024, v 10⟩, ⟨S4x1024, v 11⟩, ⟨S4x1024, v 12⟩, ⟨S4x1024, v 13⟩,
     ⟨S4x1024, v 14⟩, ⟨S4x1024, v 15⟩, ⟨S4x1024, v 16⟩, ⟨S4x1024, v 17⟩, ⟨S4x1024, v 18⟩, ⟨S4x1024, v 19⟩]
    concatenates_S4x1024_S4x1024_S4x1024_S4x1024_S4x1024_S4x1024_S4x1024_S4x1024_S4x1024_S4x1024_S4x1024_S4x1024_S4x1024_S4x1024_S4x1024_S4x1024_S4x1024_S4x1024_S4x1024_S4x1024_S80x1024_d0

/-- The sum of a four-row column. -/
def sum4 (x : FVec F S4x1 .f32) : F .f32 :=
  extractAt ![0, 0, 0] (shapeCast S1x1x1 (multiReduction .add [1, 2] S1 (shapeCast S1x4x1 x shapeCasts_S4x1_S1x4x1) 0x00000000#32 reduces_S1x4x1_S1 (.inl rfl) rfl) shapeCasts_S1_S1x1x1) inpos_S1x1x1_p0_0_0

/-- The sum of an eighty-row column. -/
def sum80 (x : FVec F S80x1 .f32) : F .f32 :=
  extractAt ![0, 0, 0] (shapeCast S1x1x1 (multiReduction .add [1, 2] S1 (shapeCast S1x80x1 x shapeCasts_S80x1_S1x80x1) 0x00000000#32 reduces_S1x80x1_S1 (.inl rfl) rfl) shapeCasts_S1_S1x1x1) inpos_S1x1x1_p0_0_0

/-- Whether every tag is reachable from each step's five greatest: the least of the sums of their rows of `A`
    is positive. -/
def fastOk (SV : FVec F S80x1024 .f32) (A : FVec F S1024x1024 .f32) : BitVec 1 :=
  Scalar.cmpf .ogt
    (extractAt ![0, 0, 0] (shapeCast S1x1x1 (multiReduction .minimumf [1, 2] S1
      (shapeCast S1x76x1024 (matmul dot_S76x1024_S1024x1024_S76x1024_1_0_0_1_n_n none
        (truncf .bf16 (extractStridedSlice S76x1024 ![0, 0] (sel80 SV) slices_S80x1024_o0_0_S76x1024) bitsLt_bf16_f32)
        (truncf .bf16 A bitsLt_bf16_f32) (constant S76x1024 .f32 0x00000000#32)) shapeCasts_S76x1024_S1x76x1024)
      0x7F800000#32 reduces_S1x76x1024_S1 (.inl rfl) rfl) shapeCasts_S1_S1x1x1) inpos_S1x1x1_p0_0_0)
    (Scalar.ofBits .f32 0x00000000#32)

/-- The last four rows of a column, nothing below zero. -/
def lastPos (x : FVec F S80x1 .f32) : FVec F S4x1 .f32 :=
  maximumf (extractStridedSlice S4x1 ![76, 0] x slices_S80x1_o76_0_S4x1) (broadcast S4x1 (Scalar.ofBits .f32 0x00000000#32))

/-- The sum of the last step's five greatest scaled forward values. -/
def vsum (SV : FVec F S80x1024 .f32) : FVec F S4x1 .f32 :=
  addf (addf (addf (addf (extractStridedSlice S4x1 ![76, 0] (rowMax80 SV) slices_S80x1_o76_0_S4x1)
    (lastPos (rowMax80 (drop80 SV)))) (lastPos (rowMax80 (drop80 (drop80 SV))))) (lastPos (rowMax80 (drop80 (drop80 (drop80 SV))))))
    (lastPos (rowMax80 (drop80 (drop80 (drop80 (drop80 SV))))))

/-- The normaliser by the scaled forward pass. -/
def fastDen (EM : FVec F S80x1024 .f32) (T : FVec F S1024x1024 .f32) : FVec F S4x1 .f32 :=
  addf (addf (blog EM T 19) (log (vsum (stacked (vees EM T))))) (broadcast S4x1 (Scalar.ofBits .f32 0x40AA4E1A#32))

/-! ## The exact forward pass -/

/-- One exact forward step. -/
def snext (W : FVec F S1024x1024 .bf16) (A : FVec F S1024x1024 .f32) (er s : FVec F S4x1024 .f32) : FVec F S4x1024 .f32 :=
  select
    (cmpf .one (matmul dot_S4x1024_S1024x1024_S4x1024_1_0_0_1_n_n none (truncf .bf16 (sel4 s) bitsLt_bf16_f32) (truncf .bf16 A bitsLt_bf16_f32)
      (constant S4x1024 .f32 0x00000000#32)) (broadcast S4x1024 (Scalar.ofBits .f32 0x00000000#32)))
    (addf (addf er (wide4 (rowMax4 s)))
      (log (matmul dot_S4x1024_S1024x1024_S4x1024_1_0_0_1_n_n none
        (truncf .bf16 (select (cmpf .oeq s (broadcast S4x1024 (Scalar.ofBits .f32 0xFF800000#32)))
          (broadcast S4x1024 (Scalar.ofBits .f32 0x00000000#32)) (exp (subf s (wide4 (rowMax4 s))))) bitsLt_bf16_f32)
        W (constant S4x1024 .f32 0x00000000#32))))
    (broadcast S4x1024 (Scalar.ofBits .f32 0xFF800000#32))

/-- The exact forward scores after `n` steps. -/
def scores (EM : FVec F S80x1024 .f32) (A T : FVec F S1024x1024 .f32) (n : ℕ) : FVec F S4x1024 .f32 :=
  Nat.rec (emStep EM 0) (fun k s => snext (wexp T) A (erStep EM (colMax T) k) s) n

/-- A term of the sum of exponentials: nothing where the value is `-∞`. -/
def lseTerm (v v0 : FVec F S4x1 .f32) : FVec F S4x1 .f32 :=
  select (cmpf .oeq v (broadcast S4x1 (Scalar.ofBits .f32 0xFF800000#32))) (broadcast S4x1 (Scalar.ofBits .f32 0x00000000#32)) (exp (subf v v0))

/-- The logarithm of the sum of the exponentials of a row's five greatest entries. -/
def lse5 (x : FVec F S4x1024 .f32) : FVec F S4x1 .f32 :=
  addf (rowMax4 x) (log
    (addf (addf (addf (addf (broadcast S4x1 (Scalar.ofBits .f32 0x3F800000#32)) (lseTerm (rowMax4 (drop4 x)) (rowMax4 x)))
      (lseTerm (rowMax4 (drop4 (drop4 x))) (rowMax4 x))) (lseTerm (rowMax4 (drop4 (drop4 (drop4 x)))) (rowMax4 x)))
      (lseTerm (rowMax4 (drop4 (drop4 (drop4 (drop4 x))))) (rowMax4 x))))

/-- The normaliser by the exact forward pass. -/
def exactDen (EM : FVec F S80x1024 .f32) (A T : FVec F S1024x1024 .f32) : FVec F S4x1 .f32 :=
  addf (lse5 (scores EM A T 19)) (broadcast S4x1 (Scalar.ofBits .f32 0x40AA4E1A#32))

/-! ## The given path's score, and the two results -/

/-- A row for each position, one at its tag. -/
def onehot (tg : IVec S80x1 32) : FVec F S80x1024 .f32 :=
  sitofp .f32 (extui 32 (cmpi .eq (iota .tc S80x1024 32 [1] iota_S80x1024_d1_w32) (broadcastTo S80x1024 tg broadcasts_S80x1_S80x1024)) natLt_1_32)

/-- A row's sum, kept as a column. -/
def rowSum80 (x : FVec F S80x1024 .f32) : FVec F S80x1 .f32 :=
  shapeCast S80x1 (multiReduction .add [1] S80 x 0x00000000#32 reduces_S80x1024_S80 (.inl rfl) rfl) shapeCasts_S80_S80x1

/-- The transition score into each position's tag from the one before it. -/
def pathTrans (tg : IVec S80x1 32) (T : FVec F S1024x1024 .f32) : FVec F S80x1 .f32 :=
  rowSum80 (mulf (matmul dot_S80x1024_S1024x1024_S80x1024_1_0_0_1_n_n none (onehot tg) T (constant S80x1024 .f32 0x00000000#32))
    (concatenate S80x1024 0
      [⟨S1x1024, broadcast S1x1024 (Scalar.ofBits .f32 0x00000000#32)⟩,
       ⟨S79x1024, extractStridedSlice S79x1024 ![0, 0] (onehot (F := F) tg) slices_S80x1024_o0_0_S79x1024⟩]
      concatenates_S1x1024_S79x1024_S80x1024_d0))

/-- The positions at which a sequence starts. -/
def starts : IVec S80x1 1 :=
  ori (ori (ori (ori (broadcast S80x1 0#1) (cmpi .eq (iota .tc S80x1 32 [0] iota_S80x1_d0_w32) (broadcast S80x1 0#32)))
    (cmpi .eq (iota .tc S80x1 32 [0] iota_S80x1_d0_w32) (broadcast S80x1 20#32)))
    (cmpi .eq (iota .tc S80x1 32 [0] iota_S80x1_d0_w32) (broadcast S80x1 40#32)))
    (cmpi .eq (iota .tc S80x1 32 [0] iota_S80x1_d0_w32) (broadcast S80x1 60#32))

/-- The score of the given paths, over all the sequences. -/
def numTotal (EM : FVec F S80x1024 .f32) (tg : IVec S80x1 32) (T : FVec F S1024x1024 .f32) : F .f32 :=
  Scalar.addf (sum80 (rowSum80 (mulf EM (onehot tg))))
    (sum80 (select starts (broadcast S80x1 (Scalar.ofBits .f32 0x00000000#32)) (pathTrans tg T)))

/-- The mean log-likelihood of a position, from the path scores and the normalisers. -/
def mean (n : F .f32) (d : FVec F S4x1 .f32) : F .f32 :=
  Scalar.divf (Scalar.subf n (sum4 d)) (Scalar.ofBits .f32 0x42A00000#32)

/-- The emissions as the kernel reads them. -/
def emOf (x : FVec F S80x1024 .f32) : FVec F S80x1024 .f32 := shapeCast S80x1024 x shapeCasts_S80x1024_S80x1024
/-- The tags as the kernel reads them. -/
def tagOf (x : IVec S80x1 32) : IVec S80x1 32 := shapeCast S80x1 x shapeCasts_S80x1_S80x1

/-- Whether the kernel answers by the scaled pass. -/
def okBit (EM : FVec F S80x1024 .f32) (E : FVec F S1024x128 .f32) (A : FVec F S1024x1024 .f32) : BitVec 1 :=
  fastOk (stacked (vees (emOf EM) (trt E A))) A

/-- The result by the scaled pass. -/
def fastRes (EM : FVec F S80x1024 .f32) (tg : IVec S80x1 32) (E : FVec F S1024x128 .f32) (A : FVec F S1024x1024 .f32) : F .f32 :=
  mean (numTotal (emOf EM) (tagOf tg) (trt E A)) (fastDen (emOf EM) (trt E A))

/-- The result by the exact pass. -/
def exactRes (EM : FVec F S80x1024 .f32) (tg : IVec S80x1 32) (E : FVec F S1024x128 .f32) (A : FVec F S1024x1024 .f32) : F .f32 :=
  mean (numTotal (emOf EM) (tagOf tg) (trt E A)) (exactDen (emOf EM) A (trt E A))

/-- The kernel's result. -/
def res (EM : FVec F S80x1024 .f32) (tg : IVec S80x1 32) (E : FVec F S1024x128 .f32) (A : FVec F S1024x1024 .f32) : FVec F S1x1 .f32 :=
  broadcast S1x1 (if okBit EM E A = 1#1 then fastRes EM tg E A else exactRes EM tg E A)

end Cert.Crf

end
-- ==== Proof.BodyEq.lean ====
/-
  The kernel's body is four loads and a choice of one store: `cc0__crf_body` unfolds to `bodyOf`, the program
  that loads the emissions, the tags, the embeddings and the adjacency, and stores one of the two results of
  `Model.lean`.
-/
module

public import proofs.«01_k».proof.Proof.Model
public import Idealize.ShloMosaic.Lib.Tactic

@[expose] public section

noncomputable section

namespace Cert.Crf

open Idealize.ShloMosaic Idealize.SL.Sem Cert.KernelIdeal Cert.KernelIdeal.Gen
open Idealize.ShloMosaic.Tactic

variable {F : FTy → Type} [FloatOps F]

/-- The kernel's body: the loads, and the store of the result chosen. -/
def bodyOf (arg0 : Memref sig .tc .vmem S80x1024 .f32) (arg1 : Memref sig .tc .vmem S80x1 .i32)
    (arg2 : Memref sig .tc .vmem S1024x128 .f32) (arg3 : Memref sig .tc .vmem S1024x1024 .f32) (arg4 : Memref sig .tc .vmem S1x1 .f32) :
    Prog (TpuEff nD τ sig (Elt F) Λ₀ .tc) PUnit := do
  let E : Vec F S1024x128 .f32 ← Prog.lift (.load arg2 (Rect.unit (s := S1024x128) ![0, 0] S1024x128.size inb_S1024x128_S1024x128_0_0).toLoadRect (View.loadsAt_vmem h_S1024x128))
  let EM : Vec F S80x1024 .f32 ← Prog.lift (.load arg0 (Rect.unit (s := S80x1024) ![0, 0] S80x1024.size inb_S80x1024_S80x1024_0_0).toLoadRect (View.loadsAt_vmem h_S80x1024))
  let tg : Vec F S80x1 .i32 ← Prog.lift (.load arg1 (Rect.unit (s := S80x1) ![0, 0] S80x1.size inb_S80x1_S80x1_0_0).toLoadRect (View.loadsAt_vmem h_S80x1))
  let A : Vec F S1024x1024 .f32 ← Prog.lift (.load arg3 (Rect.unit (s := S1024x1024) ![0, 0] S1024x1024.size inb_S1024x1024_S1024x1024_0_0).toLoadRect (View.loadsAt_vmem h_S1024x1024))
  if Scalar.cmpi .ne (Scalar.extui (okBit EM E A) : BitVec 32) 0#32 = 1#1 then do
    let _ : Vec F S1x1 .f32 ← Prog.lift (.load arg4 (Rect.unit (s := S1x1) ![0, 0] S1x1.size inb_S1x1_S1x1_0_0).toLoadRect (View.loadsAt_vmem h_S1x1))
    Prog.lift (.store arg4 (Rect.unit (s := S1x1) ![0, 0] S1x1.size inb_S1x1_S1x1_0_0) (broadcast S1x1 (fastRes EM tg E A)) Finset.univ (View.stores_vmem_bits_univ h_S1x1 rfl) (.inl rfl))
    pure ⟨⟩
  else do
    pure ⟨⟩
  if Scalar.cmpi .ne (Scalar.extui (Scalar.xori (okBit EM E A) 1#1) : BitVec 32) 0#32 = 1#1 then do
    let _ : Vec F S1x1 .f32 ← Prog.lift (.load arg4 (Rect.unit (s := S1x1) ![0, 0] S1x1.size inb_S1x1_S1x1_0_0).toLoadRect (View.loadsAt_vmem h_S1x1))
    Prog.lift (.store arg4 (Rect.unit (s := S1x1) ![0, 0] S1x1.size inb_S1x1_S1x1_0_0) (broadcast S1x1 (exactRes EM tg E A)) Finset.univ (View.stores_vmem_bits_univ h_S1x1 rfl) (.inl rfl))
    pure ⟨⟩
  else do
    pure ⟨⟩
  pure ⟨⟩

theorem body_eq (arg0 : Memref sig .tc .vmem S80x1024 .f32) (harg0 : arg0.IsWhole) (arg1 : Memref sig .tc .vmem S80x1 .i32)
    (harg1 : arg1.IsWhole) (arg2 : Memref sig .tc .vmem S1024x128 .f32) (harg2 : arg2.IsWhole)
    (arg3 : Memref sig .tc .vmem S1024x1024 .f32) (harg3 : arg3.IsWhole) (arg4 : Memref sig .tc .vmem S1x1 .f32) (harg4 : arg4.IsWhole) :
    cc0__crf_body (F := F) arg0 harg0 arg1 harg1 arg2 harg2 arg3 harg3 arg4 harg4 = bodyOf arg0 arg1 arg2 arg3 arg4 := by
  sl_kernel_rfl

end Cert.Crf

end
-- ==== Proof.Body.lean ====
/-
  What one run of the kernel's body does to the five staging buffers: the four inputs are left as they were and the
  output holds `res` of them.
-/
module

public import proofs.«01_k».proof.Proof.BodyEq
public import proofs.«01_k».proof.Proof.Gen.KernelIdeal.Frame
public import Idealize.ShloMosaic.Lib.Claim

@[expose] public section

noncomputable section

namespace Cert.Crf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole-buffer accesses of the body. -/
abbrev rEM : Rect S80x1024 := Rect.unit (s := S80x1024) ![0, 0] S80x1024.size inb_S80x1024_S80x1024_0_0
abbrev rTg : Rect S80x1 := Rect.unit (s := S80x1) ![0, 0] S80x1.size inb_S80x1_S80x1_0_0
abbrev rE : Rect S1024x128 := Rect.unit (s := S1024x128) ![0, 0] S1024x128.size inb_S1024x128_S1024x128_0_0
abbrev rA : Rect S1024x1024 := Rect.unit (s := S1024x1024) ![0, 0] S1024x1024.size inb_S1024x1024_S1024x1024_0_0
abbrev rOut : Rect S1x1 := Rect.unit (s := S1x1) ![0, 0] S1x1.size inb_S1x1_S1x1_0_0

/-- What the body stores, as read through its whole-buffer accesses. -/
def stored (EM : Vec F S80x1024 .f32) (tg : Vec F S80x1 .i32) (E : Vec F S1024x128 .f32) (A : Vec F S1024x1024 .f32) : Vec F S1x1 .f32 :=
  View.canon [⟨rOut, res (View.ld EM rEM) (View.ld tg rTg) (View.ld E rE) (View.ld A rA)⟩]

/-- The one store fills its buffer. -/
theorem stored_cover (p : Vec F S1x1 .f32) (y : S1x1.Idx) :
    ∃ pc ∈ ([⟨rOut, p⟩] : List (View.Piece (Elt F) S1x1 .f32)), y ∈ pc.1.set :=
  View.cover_of_tiled [⟨rOut, p⟩] S1x1.size (by rfl) y

/-- A branch condition, computed from a bit, is that bit; and a complemented bit is set just when the bit is not. -/
theorem cond_of (b : BitVec 1) : (Scalar.cmpi .ne (Scalar.extui b : BitVec 32) 0#32 = 1#1) = (b = 1#1) := by
  revert b; decide
theorem not_bit (b : BitVec 1) : (Scalar.xori b 1#1 = 1#1) = ¬ (b = 1#1) := by
  revert b; decide

/-- The two guarded stores, one on a bit and one on its complement, leave the value the bit chooses. -/
theorem chosen (v : View sig .tc .vmem S1x1 .f32) (f : v.ty.Contents (Elt F)) (b : BitVec 1) (x y : F .f32) :
    v.read (Elt F)
      (if _ : Scalar.xori b 1#1 = 1#1 then
        v.writes (Elt F) (if _ : b = 1#1 then v.writes (Elt F) f [⟨rOut, broadcast S1x1 x⟩] else f) [⟨rOut, broadcast S1x1 y⟩]
      else if _ : b = 1#1 then v.writes (Elt F) f [⟨rOut, broadcast S1x1 x⟩] else f)
      = View.canon [⟨rOut, (broadcast S1x1 (if b = 1#1 then x else y) : FVec F S1x1 .f32)⟩] := by
  by_cases hb : b = 1#1
  · subst hb
    rw [dif_neg (by decide), dif_pos rfl, if_pos rfl]
    exact View.read_writes_eq_canon _ _ _ (stored_cover _)
  · rw [dif_pos (by rw [not_bit]; exact hb), if_neg hb]
    exact View.read_writes_eq_canon _ _ _ (stored_cover _)

/-- The body on whole staging buffers. -/
theorem body_triple (c : Dev nD) (M : Set ℕ) (arg0 : Memref sig .tc .vmem S80x1024 .f32) (harg0 : arg0.IsWhole)
    (arg1 : Memref sig .tc .vmem S80x1 .i32) (harg1 : arg1.IsWhole) (arg2 : Memref sig .tc .vmem S1024x128 .f32) (harg2 : arg2.IsWhole)
    (arg3 : Memref sig .tc .vmem S1024x1024 .f32) (harg3 : arg3.IsWhole) (arg4 : Memref sig .tc .vmem S1x1 .f32) (harg4 : arg4.IsWhole)
    (EM : Vec F S80x1024 .f32) (tg : Vec F S80x1 .i32) (E : Vec F S1024x128 .f32) (A : Vec F S1024x1024 .f32) (K : PUnit → sProp 𝕄) :
    iprop(owns (c : Thread nD τ) arg0 fullShare EM ∗ owns (c : Thread nD τ) arg1 fullShare tg ∗ owns (c : Thread nD τ) arg2 fullShare E
        ∗ owns (c : Thread nD τ) arg3 fullShare A ∗ (∃ d, owns (c : Thread nD τ) arg4 fullShare d)
        ∗ (iprop(owns (c : Thread nD τ) arg0 fullShare EM ∗ owns (c : Thread nD τ) arg1 fullShare tg ∗ owns (c : Thread nD τ) arg2 fullShare E
            ∗ owns (c : Thread nD τ) arg3 fullShare A ∗ owns (c : Thread nD τ) arg4 fullShare (stored EM tg E A)) -∗ K ⟨⟩))
      ⊢ wp frame (wpE (defs₀ (F := F)) Variants.none c none) M
          (cc0__crf_body arg0 harg0 arg1 harg1 arg2 harg2 arg3 harg3 arg4 harg4) K := by
  rw [body_eq]
  unfold owns bodyOf stored res
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  simp only [cond_of]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact chosen _ _ _ _ _

end Cert.Crf

end
-- ==== Proof.KernelRun.lean ====
/-
  The idealized kernel's run: the one region, its body's triple at the one grid point, and the host lines around it.
  Every final state has the arguments unchanged, every semaphore counter at zero and the result array at the stored
  value of the reshaped arguments.
-/
module

public import proofs.«01_k».proof.Proof.Body
public import proofs.«01_k».proof.Proof.Gen.KernelIdeal.Launch
public import proofs.«01_k».proof.Proof.Gen.KernelIdeal.Points

@[expose] public section

noncomputable section

namespace Cert.Crf.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, each input's buffer kept, the output's at the stored value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => stored (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = stored (iblk m c 0 t) (iblk m c 1 t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is entered with at a point, -/
def entry (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it leaves. -/
def exit (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem body_at (c : Dev nD) (t : Fin cfg0.N) :
    entry m c t ⊢ wp frame (wpE (defs₀ (F := F)) Variants.none c none) Set.univ (bodyAt0 t) (fun _ => exit m c t) := by
  unfold entry exit bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
/-- The run: the arrays and the other buffers as the region and the lines after it leave them, the counters at zero. -/
theorem run_quiet : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end unchanged. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_quiet m ρ))

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (kept m ρ) ((θ_run defs _ _).mono (fun _ h => h.2) (run_quiet m ρ))

end Cert.Crf.KernelRun

end
-- ==== Proof.KernelFrame.lean ====
/-
  The kernel as printed and its idealization are one text: the frame of the first is the frame of the second, read at
  the bits of floats.
-/
module

public import proofs.«01_k».proof.Proof.KernelRun
public import proofs.«01_k».proof.Proof.Gen.Kernel
public import Idealize.ShloMosaic.PureOps.BitExact

@[expose] public section

noncomputable section

namespace Cert.Crf.KernelFrame

open Idealize.ShloMosaic Idealize.SL.Sem Idealize.ShloMosaic.Tactic

open Cert.Kernel Cert.Kernel.Gen in
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Eq.mp ?_ (KernelRun.frame (F := F) m ρ)
  sl_kernel_rfl

end Cert.Crf.KernelFrame

end
-- ==== Proof.RefFrame.lean ====
/-
  The reference's frame: its run leaves the arguments as they were, and it declares no semaphore, so every counter
  reads zero.
-/
module

public import proofs.«01_k».proof.Proof.Gen.ReferenceIdeal.Run
public import Idealize.ShloMosaic.Lib.Quiescent
public import Idealize.ShloMosaic.Lib.Claim

@[expose] public section

noncomputable section

namespace Cert.Crf.RefFrame

open Cert.ReferenceIdeal Cert.ReferenceIdeal.Gen
open Idealize.ShloMosaic Idealize.SL.Sem

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by rfl) r.2⟩) (Cert.ReferenceIdeal.Value.run m ρ)

end Cert.Crf.RefFrame

end
-- ==== Proof.RefModel.lean ====
/-
  What the reference computes, in its own operations and for any float type: the transition scores, one forward
  step with its beam, the score of the given path a step at a time, and the normaliser. `RefEq.lean` proves that
  the printed reference's values are these functions.
-/
module

public import proofs.«01_k».proof.ReferenceIdeal
public import proofs.«01_k».proof.Proof.Gen.ReferenceIdeal

@[expose] public section

noncomputable section

namespace Cert.Crf.Ref

open Idealize.ShloMosaic Cert.ReferenceIdeal Cert.ReferenceIdeal.Gen

variable {F : FTy → Type} [FloatOps F]

/-! ## The forward step -/

/-- The rectified transition scores, previous tag along the second axis. -/
def trans (E : FVec F S1024x128 .f32) (A : FVec F S1024x1024 .f32) : FVec F S1024x1024 .f32 :=
  maximumf (mulf A (Host.dotGeneral dot_S1024x128_S128x1024_S1024x1024_1_0_0_1_n_n none E
      (transpose S128x1024 [1, 0] E transposes_S1024x128_S128x1024_1_0)))
    (broadcastInDim S1024x1024 ![] bcast_S_S1024x1024 (constant S_ .f32 0x00000000#32))

/-- The positions of the beam, an index below zero counting from the end. -/
def beamIdx (x : FVec F S4x1024 .f32) : IVec S4x5 32 :=
  select (cmpi .slt ((Host.topK S4x5 1 (FloatOps.cmpfTotal .gt) x sliceFits_S4x1024_S4x5).2) (broadcastInDim S4x5 ![] bcast_S_S4x5 (constantI S_ 32 0#32)))
    (addi ((Host.topK S4x5 1 (FloatOps.cmpfTotal .gt) x sliceFits_S4x1024_S4x5).2) (broadcastInDim S4x5 ![] bcast_S_S4x5 (constantI S_ 32 1024#32)))
    ((Host.topK S4x5 1 (FloatOps.cmpfTotal .gt) x sliceFits_S4x1024_S4x5).2)

/-- How often the beam reaches each tag. -/
def reach (x : FVec F S4x1024 .f32) (A : FVec F S1024x1024 .f32) : FVec F S4x1024 .f32 :=
  Host.reduceAdd (Host.gather gather_S1024x1024_S4x5x1_S4x5x1024_2_0_n_n_0_2_11024 A
    (broadcastInDim S4x5x1 ![0, 1] bcast_S4x5_S4x5x1_0_1 (beamIdx x))) (constant S_ .f32 0x00000000#32) reducesTo_S4x5x1024_S4x1024_d1 h_S_

/-- The score of every tag followed by every tag. -/
def paths (x e : FVec F S4x1024 .f32) (T : FVec F S1024x1024 .f32) : FVec F S4x1024x1024 .f32 :=
  addf (addf
      (broadcastInDim S4x1024x1024 ![0, 1, 2] bcast_S4x1x1024_S4x1024x1024_0_1_2 (broadcastInDim S4x1x1024 ![0, 2] bcast_S4x1024_S4x1x1024_0_2 x))
      (broadcastInDim S4x1024x1024 ![0, 1, 2] bcast_S1x1024x1024_S4x1024x1024_0_1_2 (broadcastInDim S1x1024x1024 ![1, 2] bcast_S1024x1024_S1x1024x1024_1_2 T)))
    (broadcastInDim S4x1024x1024 ![0, 1, 2] bcast_S4x1024x1_S4x1024x1024_0_1_2 (broadcastInDim S4x1024x1 ![0, 1] bcast_S4x1024_S4x1024x1_0_1 e))

/-- The maximum along the last axis. -/
def topOf (z : FVec F S4x1024x1024 .f32) : FVec F S4x1024x1 .f32 :=
  broadcastInDim S4x1024x1 ![0, 1] bcast_S4x1024_S4x1024x1_0_1 (Host.reduce FloatOps.maximumf z (constant S_ .f32 0xFF800000#32) reducesTo_S4x1024x1024_S4x1024_d2 h_S_)

/-- The shift of the exponents: the maximum, or zero where it is infinite. -/
def shiftOf (t : FVec F S4x1024x1 .f32) : FVec F S4x1024x1 .f32 :=
  select (cmpf .olt (Host.absf t) (broadcastInDim S4x1024x1 ![] bcast_S_S4x1024x1 (constant S_ .f32 0x7F800000#32))) t
    (broadcastInDim S4x1024x1 ![] bcast_S_S4x1024x1 (id (constant S_ .f32 0x00000000#32)))

/-- The logarithm of the sum of the exponentials along the last axis. -/
def lse (z : FVec F S4x1024x1024 .f32) : FVec F S4x1024 .f32 :=
  addf (Host.log (Host.reduceAdd (Host.exp (subf z (broadcastInDim S4x1024x1024 ![0, 1, 2] bcast_S4x1024x1_S4x1024x1024_0_1_2 (shiftOf (topOf z)))))
    (constant S_ .f32 0x00000000#32) reducesTo_S4x1024x1024_S4x1024_d2 h_S_)) (shapeCast S4x1024 (shiftOf (topOf z)) shapeCasts_S4x1024x1_S4x1024)

/-- One forward step. -/
def nextScore (x e : FVec F S4x1024 .f32) (T A : FVec F S1024x1024 .f32) : FVec F S4x1024 .f32 :=
  select (cmpf .une (reach x A) (broadcastInDim S4x1024 ![] bcast_S_S4x1024 (constant S_ .f32 0x00000000#32))) (lse (paths x e T))
    (broadcastInDim S4x1024 ![] bcast_S_S4x1024 (id (constant S_ .f32 0xFF800000#32)))

/-! ## The loop's reads -/

/-- An index as it is written, one below zero counting from the end. -/
def wrapAt (n : BitVec 32) (w : IVec S_ 32) : IVec S_ 32 := select (cmpi .slt w (constantI S_ 32 0#32)) (addi w (constantI S_ 32 n)) w

/-- A row of an array of twenty rows of four. -/
def rowAt {α : Type} (x : S20x4.Idx → α) (i : IVec S_ 32) : S4.Idx → α :=
  shapeCast S4 (Host.dynamicSlice S1x4 x (fun k => (((![wrapAt 20#32 i, wrapAt 4#32 (constantI S_ 32 0#32)] : Fin 2 → IVec S_ 32)) k (Shape.Idx.first h_S_)).toInt) sliceFits_S20x4_S1x4) shapeCasts_S1x4_S4

/-- The emissions of a step. -/
def emAt (em : FVec F S20x4x1024 .f32) (i : IVec S_ 32) : FVec F S4x1024 .f32 :=
  shapeCast S4x1024 (Host.dynamicSlice S1x4x1024 em (fun k => (((![wrapAt 20#32 i, wrapAt 4#32 (constantI S_ 32 0#32), wrapAt 1024#32 (constantI S_ 32 0#32)] : Fin 3 → IVec S_ 32)) k (Shape.Idx.first h_S_)).toInt) sliceFits_S20x4x1024_S1x4x1024) shapeCasts_S1x4x1024_S4x1024

/-- The score kept where the mask is off. -/
def maskStep (m : IVec S4 1) (y x : FVec F S4x1024 .f32) : FVec F S4x1024 .f32 :=
  select (broadcastInDim S4x1024 ![0, 1] bcast_S4x1_S4x1024_0_1 (broadcastInDim S4x1 ![0] bcast_S4_S4x1_0 m)) y x

/-! ## The given path -/

/-- Four indices, one below zero counting from the end. -/
def wrap4 (n : BitVec 32) (w : IVec S4 32) : IVec S4 32 :=
  select (cmpi .slt w (broadcastInDim S4 ![] bcast_S_S4 (constantI S_ 32 0#32))) (addi w (broadcastInDim S4 ![] bcast_S_S4 (constantI S_ 32 n))) w

/-- Four entries as a column. -/
def col (w : IVec S4 32) : IVec S4x1 32 := broadcastInDim S4x1 ![0] bcast_S4_S4x1_0 w

/-- The roads' embeddings. -/
def roads (E : FVec F S1024x128 .f32) (t : IVec S4 32) : FVec F S4x128 .f32 :=
  Host.gather gather_S1024x128_S4x1_S4x128_1_0_n_n_0_1_1128 E (col (wrap4 1024#32 t))

/-- The transition score of a step of the path. -/
def pathStep (E : FVec F S1024x128 .f32) (A : FVec F S1024x1024 .f32) (t1 t2 : IVec S4 32) : FVec F S4 .f32 :=
  mulf (Host.gather gather_S1024x1024_S4x2_S4_n_01_n_n_01_1_11 A
      (concatenate S4x2 1 [⟨S4x1, col (wrap4 1024#32 t1)⟩, ⟨S4x1, col (wrap4 1024#32 t2)⟩] concatenates_S4x1_S4x1_S4x2_d1))
    (maximumf (Host.reduceAdd (mulf (roads E t1) (roads E t2)) (constant S_ .f32 0x00000000#32) reducesTo_S4x128_S4_d1 h_S_)
      (broadcastInDim S4 ![] bcast_S_S4 (constant S_ .f32 0x00000000#32)))

/-- The emission at a step of the path. -/
def pathEm (em : FVec F S20x4x1024 .f32) (i : IVec S_ 32) (b t : IVec S4 32) : FVec F S4 .f32 :=
  Host.gather gather_S20x4x1024_S4x3_S4_n_012_n_n_012_1_111 em
    (concatenate S4x3 1 [⟨S4x1, col (id (broadcastInDim S4 ![] bcast_S_S4 i))⟩, ⟨S4x1, col (wrap4 4#32 b)⟩, ⟨S4x1, col (wrap4 1024#32 t)⟩]
      concatenates_S4x1_S4x1_S4x1_S4x3_d1)

/-- One step of the path's score, nothing added where the mask is zero. -/
def numStep (n p e m : FVec F S4 .f32) : FVec F S4 .f32 := addf (addf n (mulf p m)) (mulf e m)

/-! ## The normaliser and the result -/

/-- The five greatest scores. -/
def best (x : FVec F S4x1024 .f32) : FVec F S4x5 .f32 := (Host.topK S4x5 1 (FloatOps.cmpfTotal .gt) x sliceFits_S4x1024_S4x5).1

/-- The maximum of each row of five. -/
def topBest (z : FVec F S4x5 .f32) : FVec F S4x1 .f32 :=
  broadcastInDim S4x1 ![0] bcast_S4_S4x1_0 (Host.reduce FloatOps.maximumf z (constant S_ .f32 0xFF800000#32) reducesTo_S4x5_S4_d1 h_S_)

/-- The shift of the exponents: the maximum, or zero where it is infinite. -/
def shiftBest (t : FVec F S4x1 .f32) : FVec F S4x1 .f32 :=
  select (cmpf .olt (Host.absf t) (broadcastInDim S4x1 ![] bcast_S_S4x1 (constant S_ .f32 0x7F800000#32))) t
    (broadcastInDim S4x1 ![] bcast_S_S4x1 (id (constant S_ .f32 0x00000000#32)))

/-- The logarithm of the sum of the exponentials of five. -/
def lseBest (z : FVec F S4x5 .f32) : FVec F S4 .f32 :=
  addf (Host.log (Host.reduceAdd (Host.exp (subf z (broadcastInDim S4x5 ![0, 1] bcast_S4x1_S4x5_0_1 (shiftBest (topBest z)))))
    (constant S_ .f32 0x00000000#32) reducesTo_S4x5_S4_d1 h_S_)) (shapeCast S4 (shiftBest (topBest z)) shapeCasts_S4x1_S4)

/-- The normaliser. -/
def denom (x : FVec F S4x1024 .f32) : FVec F S4 .f32 :=
  addf (lseBest (best x)) (broadcastInDim S4 ![] bcast_S_S4 (constant S_ .f32 0x40AA4E1A#32))

/-- The mean log-likelihood of a position. -/
def mean (n d : FVec F S4 .f32) (k : IVec S4x20 1) : FVec F S_ .f32 :=
  Host.divf (Host.reduceAdd (subf n d) (constant S_ .f32 0x00000000#32) reducesTo_S4_S_d0 h_S_)
    (Host.reduceAdd (uitofp .f32 k) (constant S_ .f32 0x00000000#32) reducesTo_S4x20_S_d0_1 h_S_)

end Cert.Crf.Ref

end
-- ==== Proof.PreFacts.lean ====
/-
  The shape relations the precondition's function states hold.
-/
module

public import proofs.«01_k».proof.Pre_setup_range

@[expose] public section

set_option maxRecDepth 8192

namespace Cert.Crf

theorem preFacts : Cert.Pre_setup_range.Facts := by
  constructor <;> decide

end Cert.Crf
-- ==== Proof.PreEq.lean ====
/-
  The precondition's function: that each of the twenty forward scores has its six greatest entries strictly
  decreasing, that the emissions and embeddings are finite, and that the adjacency, the tags and the mask lie where
  the launch draws them.
-/
module

public import proofs.«01_k».proof.Proof.RefModel
public import proofs.«01_k».proof.Proof.PreFacts
public import Idealize.ShloMosaic.Lib.Tactic

@[expose] public section

set_option maxRecDepth 16384

noncomputable section

namespace Cert.Crf.Pre

open Idealize.ShloMosaic Idealize.ShloMosaic.Tactic Cert.ReferenceIdeal Cert.ReferenceIdeal.Gen Cert.Crf.Ref
open Cert.Pre_setup_range (S4x6)

variable {F : FTy → Type} [FloatOps F]

theorem stepFits (i : Fin 20) : S4x20x1024.Slices ![0, i.val, 0] S4x1x1024 := by revert i; decide
theorem rowFlat : S4x1x1024.ShapeCasts S4x1024 := by decide
theorem sixFit : S4x1024.Slices (fun _ => 0) S4x6 := by decide
theorem lastFive : S4x6.Slices ![0, 1] S4x5 := by decide
theorem firstFive : S4x6.Slices ![0, 0] S4x5 := by decide
theorem foldFive : S4x5.ReducesTo [0, 1] S_ := by decide
theorem foldTags : S4x20.ReducesTo [0, 1] S_ := by decide
theorem foldEm : S4x20x1024.ReducesTo [0, 1, 2] S_ := by decide
theorem foldRoads : S1024x128.ReducesTo [0, 1] S_ := by decide
theorem foldAdj : S1024x1024.ReducesTo [0, 1] S_ := by decide
theorem spreadEm : S_.BroadcastsInDim S4x20x1024 (![] : Fin 0 → Fin S4x20x1024.rank) := by decide
theorem spreadRoads : S_.BroadcastsInDim S1024x128 (![] : Fin 0 → Fin S1024x128.rank) := by decide
theorem spreadAdj : S_.BroadcastsInDim S1024x1024 (![] : Fin 0 → Fin S1024x1024.rank) := by decide
theorem spreadTags : S_.BroadcastsInDim S4x20 (![] : Fin 0 → Fin S4x20.rank) := by decide

/-- The emissions of step `i`. -/
def emSlice (EM : FVec F S4x20x1024 .f32) (i : Fin 20) : FVec F S4x1024 .f32 :=
  shapeCast S4x1024 (extractStridedSlice S4x1x1024 ![0, i.val, 0] EM (stepFits i)) rowFlat

/-- The forward scores after `n` steps. -/
def score (EM : FVec F S4x20x1024 .f32) (E : FVec F S1024x128 .f32) (A : FVec F S1024x1024 .f32) (n : ℕ) : FVec F S4x1024 .f32 :=
  Nat.rec (emSlice EM 0) (fun k x => nextScore x (emSlice EM (Fin.ofNat 20 (k + 1))) (trans E A) A) n

/-- The six greatest entries. -/
def six (x : FVec F S4x1024 .f32) : FVec F S4x6 .f32 := (Host.topK S4x6 1 (FloatOps.cmpfTotal .gt) x sixFit).1

/-- Whether the six greatest entries of every row decrease strictly. -/
def untied (x : FVec F S4x1024 .f32) : IVec S_ 1 :=
  Host.reduce IntOp.andi (cmpf .olt (extractStridedSlice S4x5 ![0, 1] (six x) lastFive) (extractStridedSlice S4x5 ![0, 0] (six x) firstFive))
    (constantI S_ 1 1#1) foldFive h_S_

/-- Whether they do at the first `n + 1` scores. -/
def allUntied (x : ℕ → FVec F S4x1024 .f32) (n : ℕ) : IVec S_ 1 :=
  Nat.rec (untied (x 0)) (fun k b => andi b (untied (x (k + 1)))) n

/-- Whether the emissions are finite. -/
def emFinite (EM : FVec F S4x20x1024 .f32) : IVec S_ 1 :=
  Host.reduce IntOp.andi (cmpf .olt (Host.absf EM) (broadcastInDim S4x20x1024 ![] spreadEm (constant S_ .f32 0x7F800000#32))) (constantI S_ 1 1#1) foldEm h_S_
/-- Whether the embeddings are finite. -/
def roadsFinite (E : FVec F S1024x128 .f32) : IVec S_ 1 :=
  Host.reduce IntOp.andi (cmpf .olt (Host.absf E) (broadcastInDim S1024x128 ![] spreadRoads (constant S_ .f32 0x7F800000#32))) (constantI S_ 1 1#1) foldRoads h_S_
/-- Whether the adjacency is nonnegative and finite. -/
def adjDrawn (A : FVec F S1024x1024 .f32) : IVec S_ 1 :=
  Host.reduce IntOp.andi (andi (cmpf .oge A (broadcastInDim S1024x1024 ![] spreadAdj (constant S_ .f32 0x00000000#32)))
    (cmpf .olt A (broadcastInDim S1024x1024 ![] spreadAdj (constant S_ .f32 0x7F800000#32)))) (constantI S_ 1 1#1) foldAdj h_S_
/-- Whether the tags are tags. -/
def tagsDrawn (tg : IVec S4x20 32) : IVec S_ 1 :=
  Host.reduce IntOp.andi (andi (cmpi .sge tg (broadcastInDim S4x20 ![] spreadTags (constantI S_ 32 0#32)))
    (cmpi .slt tg (broadcastInDim S4x20 ![] spreadTags (constantI S_ 32 1024#32)))) (constantI S_ 1 1#1) foldTags h_S_
/-- Whether the mask is on everywhere. -/
def maskOn (k : IVec S4x20 1) : IVec S_ 1 := Host.reduce IntOp.andi k (constantI S_ 1 1#1) foldTags h_S_

/-- The precondition's value. -/
theorem fn_eq (EM : FVec F S4x20x1024 .f32) (tg : IVec S4x20 32) (E : FVec F S1024x128 .f32) (A : FVec F S1024x1024 .f32) (k : IVec S4x20 1)
    (h : Cert.Pre_setup_range.Facts) :
    Cert.Pre_setup_range.fn EM tg E A k = andi (andi (allUntied (score EM E A) 19) (andi (emFinite EM) (roadsFinite E)))
      (andi (andi (adjDrawn A) (tagsDrawn tg)) (maskOn k)) := by
  sl_kernel_rfl

end Cert.Crf.Pre

end
-- ==== Proof.RefEq.lean ====
/-
  The printed reference's values are the functions of `RefModel.lean`: one trip of its loop on the path's score and
  on the forward scores, and the result it makes after the loop.
-/
module

public import proofs.«01_k».proof.Proof.RefModel
public import proofs.«01_k».proof.Proof.Gen.ReferenceIdeal.Run
public import Idealize.ShloMosaic.Lib.Tactic

@[expose] public section

set_option maxRecDepth 16384

noncomputable section

namespace Cert.Crf.Ref

open Idealize.ShloMosaic Idealize.ShloMosaic.TcCoe Cert.ReferenceIdeal Cert.ReferenceIdeal.Gen Cert.ReferenceIdeal.Value Idealize.ShloMosaic.Tactic
open Idealize.SL.Sem

variable {F : FTy → Type} [FloatOps F]

/-- The forward scores after a trip. -/
theorem score_step (V : Valuation τ sig (Elt F)) :
    step_main_v30_11 V = maskStep (rowAt (V (Proc.devRef .tc main_v30_7)) (V (Proc.devRef .tc main_v30_9)))
      (nextScore (V (Proc.devRef .tc main_v30_11)) (emAt (V (Proc.devRef .tc main_v30_5)) (V (Proc.devRef .tc main_v30_9)))
        (V (Proc.devRef .tc main_v30_6)) (V (Proc.devRef .tc main_v30_2))) (V (Proc.devRef .tc main_v30_11)) := by
  sl_kernel_rfl

/-- The path's score after a trip. -/
theorem num_step (V : Valuation τ sig (Elt F)) :
    step_main_v30_10 V = numStep (V (Proc.devRef .tc main_v30_10))
      (pathStep (V (Proc.devRef .tc main_v30_1)) (V (Proc.devRef .tc main_v30_2))
        (rowAt (V (Proc.devRef .tc main_v30_0)) (subi (V (Proc.devRef .tc main_v30_9)) (constantI S_ 32 1#32)))
        (rowAt (V (Proc.devRef .tc main_v30_0)) (V (Proc.devRef .tc main_v30_9))))
      (pathEm (V (Proc.devRef .tc main_v30_5)) (wrapAt 20#32 (V (Proc.devRef .tc main_v30_9))) (V (Proc.devRef .tc main_v30_4))
        (rowAt (V (Proc.devRef .tc main_v30_0)) (V (Proc.devRef .tc main_v30_9))))
      (rowAt (V (Proc.devRef .tc main_v30_3)) (V (Proc.devRef .tc main_v30_9))) := by
  sl_kernel_rfl

/-- The result of what the loop leaves. -/
theorem result_eq (V : Valuation τ sig (Elt F)) :
    out_main_v50 V = mean (V (Proc.devRef .tc main_v30_10)) (denom (V (Proc.devRef .tc main_v30_11))) (V (Proc.devRef .tc main_arg4)) := by
  sl_kernel_rfl

end Cert.Crf.Ref

end
-- ==== Proof.RefEntry.lean ====
/-
  What the reference's loop starts from, of the arguments.
-/
module

public import proofs.«01_k».proof.Proof.RefEq

@[expose] public section

set_option maxRecDepth 16384

noncomputable section

namespace Cert.Crf.Ref

open Idealize.ShloMosaic Idealize.ShloMosaic.TcCoe Cert.ReferenceIdeal Cert.ReferenceIdeal.Gen Cert.ReferenceIdeal.Value
open Idealize.SL.Sem Idealize.ShloMosaic.StableHlo

variable {F : FTy → Type} [FloatOps F] (m : (ℓ : Loc nD τ sig) → Buf (Elt F) ℓ) (c : Dev nD)

/-- The contents the loop starts from. -/
abbrev entry : Valuation τ sig (Elt F) := StableHlo.entryContents preI m c

/-- The emissions by step, the tags by step, and the mask by step. -/
abbrev emT (x : FVec F S4x20x1024 .f32) : FVec F S20x4x1024 .f32 := transpose S20x4x1024 [1, 0, 2] x transposes_S4x20x1024_S20x4x1024_1_0_2
abbrev byStep {α : Type} (x : S4x20.Idx → α) : S20x4.Idx → α := transpose S20x4 [1, 0] x transposes_S4x20_S20x4_1_0

/-- The tags of the first step. -/
def tag0 (x : IVec S4x20 32) : IVec S4 32 := shapeCast S4 (extractStridedSlice S1x4 ![0, 0] (byStep x) slices_S20x4_S1x4_0_0) shapeCasts_S1x4_S4
/-- The emissions of the first step. -/
def em0 (x : FVec F S4x20x1024 .f32) : FVec F S4x1024 .f32 :=
  shapeCast S4x1024 (extractStridedSlice S1x4x1024 ![0, 0, 0] (emT x) slices_S20x4x1024_S1x4x1024_0_0_0) shapeCasts_S1x4x1024_S4x1024

theorem entry_0 : entry m c (Proc.devRef .tc main_v30_0) = byStep (m ((c.tc : Thread nD τ).loc main_arg1)) := by
  simp only [entry, entryContents, afterL_cons, afterL_nil]
  after_reads_simp
  rfl
theorem entry_1 : entry m c (Proc.devRef .tc main_v30_1) = m ((c.tc : Thread nD τ).loc main_arg2) := by
  simp only [entry, entryContents, afterL_cons, afterL_nil]
  after_reads_simp
  rfl
theorem entry_2 : entry m c (Proc.devRef .tc main_v30_2) = m ((c.tc : Thread nD τ).loc main_arg3) := by
  simp only [entry, entryContents, afterL_cons, afterL_nil]
  after_reads_simp
  rfl
theorem entry_3 : entry m c (Proc.devRef .tc main_v30_3) = uitofp .f32 (byStep (m ((c.tc : Thread nD τ).loc main_arg4))) := by
  simp only [entry, entryContents, afterL_cons, afterL_nil]
  after_reads_simp
  rfl
theorem entry_4 : entry m c (Proc.devRef .tc main_v30_4) = (iotaInDim S4 32 0 : IVec S4 32) := by
  simp only [entry, entryContents, afterL_cons, afterL_nil]
  after_reads_simp
  rfl
theorem entry_5 : entry m c (Proc.devRef .tc main_v30_5) = emT (m ((c.tc : Thread nD τ).loc main_arg0)) := by
  simp only [entry, entryContents, afterL_cons, afterL_nil]
  after_reads_simp
  rfl
theorem entry_6 : entry m c (Proc.devRef .tc main_v30_6) = trans (m ((c.tc : Thread nD τ).loc main_arg2)) (m ((c.tc : Thread nD τ).loc main_arg3)) := by
  simp only [entry, entryContents, afterL_cons, afterL_nil]
  after_reads_simp
  rfl
theorem entry_7 : entry m c (Proc.devRef .tc main_v30_7) = byStep (m ((c.tc : Thread nD τ).loc main_arg4)) := by
  simp only [entry, entryContents, afterL_cons, afterL_nil]
  after_reads_simp
  rfl
theorem entry_9 : entry m c (Proc.devRef .tc main_v30_9) = constantI S_ 32 1#32 := by
  simp only [entry, entryContents, afterL_cons, afterL_nil]
  after_reads_simp
  rfl
theorem entry_10 : entry m c (Proc.devRef .tc main_v30_10)
    = pathEm (emT (m ((c.tc : Thread nD τ).loc main_arg0))) (constantI S_ 32 0#32) (iotaInDim S4 32 0) (tag0 (m ((c.tc : Thread nD τ).loc main_arg1))) := by
  simp only [entry, entryContents, afterL_cons, afterL_nil]
  after_reads_simp
  rfl
theorem entry_11 : entry m c (Proc.devRef .tc main_v30_11) = em0 (m ((c.tc : Thread nD τ).loc main_arg0)) := by
  simp only [entry, entryContents, afterL_cons, afterL_nil]
  after_reads_simp
  rfl

end Cert.Crf.Ref

end
-- ==== Proof.RefGather.lean ====
/-
  The reference's table look-ups at one index: each reads the table where its index array says, an index in the
  table's range being taken as it is.
-/
module

public import proofs.«01_k».proof.ReferenceIdeal
public import proofs.«01_k».proof.Proof.Gen.ReferenceIdeal
public import Idealize.ShloMosaic.Lib.Pointwise

@[expose] public section

set_option maxRecDepth 16384

noncomputable section

namespace Cert.Crf

open Idealize.ShloMosaic Cert.ReferenceIdeal Cert.ReferenceIdeal.Gen Idealize.ShloMosaic.Pointwise

section
variable {s si t : Shape} (d : GatherDims s si t) (j : t.Idx) (idx : IVec si 32) (a : Fin s.rank)

/-- On an axis the index array names, the place read is the index, clamped. -/
theorem operandIdx_named (ha : a ∈ d.startIndexMap) (hk : a ∉ d.sKept) (hb : a ∉ d.operandBatchingDims) :
    (d.operandIdx j idx a).val
      = min (idx (d.siIdx j ⟨d.startIndexMap.idxOf a, List.idxOf_lt_length_iff.2 ha⟩)).toInt.toNat (s.size a - d.sliceSizes a) := by
  show d.start j idx a + d.batchCoord j a + d.offCoord j a = _
  rw [d.batchCoord_eq_zero _ _ hb, d.offCoord_eq_zero _ _ hk]
  unfold GatherDims.start
  rw [dif_pos ha]
  simp only [Nat.add_zero]

/-- On an axis taken whole, the place read is the result's own. -/
theorem operandIdx_whole (ha : a ∉ d.startIndexMap) (hk : a ∈ d.sKept) (hb : a ∉ d.operandBatchingDims) :
    (d.operandIdx j idx a).val
      = (j (d.offsetDims[d.sKept.idxOf a]'(by rw [d.offset_length]; exact List.idxOf_lt_length_iff.2 hk))).val := by
  show d.start j idx a + d.batchCoord j a + d.offCoord j a = _
  rw [d.batchCoord_eq_zero _ _ hb]
  unfold GatherDims.start GatherDims.offCoord
  rw [dif_neg ha, dif_pos hk]
  simp only [Nat.zero_add]
end

/-- An index in range, read signed and clamped, is itself. -/
theorem clamp_word {n k : ℕ} (h : k ≤ n) (hn : n < 2 ^ 31) {w : BitVec 32} (hw : w = BitVec.ofNat 32 k) :
    min w.toInt.toNat n = k := by
  subst hw
  have h32 : (BitVec.ofNat 32 k).toInt = (k : ℤ) := by
    rw [BitVec.toInt_eq_toNat_of_lt] <;> rw [BitVec.toNat_ofNat, Nat.mod_eq_of_lt (by omega)]
    omega
  rw [h32]
  omega

/-- The rows of the adjacency the beam names. -/
theorem gather_beam (A : FVec Ideal S1024x1024 .f32) (ix : IVec S4x5x1 32) (b : Fin 4) (r : Fin 5) (j k : Fin 1024)
    (hk : ix (ix3 b r 0) = BitVec.ofNat 32 k.val) :
    Host.gather gather_S1024x1024_S4x5x1_S4x5x1024_2_0_n_n_0_2_11024 A ix (ix3 b r j) = A (ix2 k j) := by
  refine congrArg A (funext fun a => Fin.ext ?_)
  match a with
  | ⟨0, _⟩ =>
    rw [operandIdx_named _ _ _ _ (by decide +revert) (by decide +revert) (by decide +revert)]
    refine clamp_word (n := 1023) (k := k.val) (Nat.le_of_lt_succ k.isLt) (by norm_num) (Eq.trans (congrArg ix ?_) hk)
    funext b
    match b with
    | ⟨0, _⟩ => rfl
    | ⟨1, _⟩ => rfl
    | ⟨2, _⟩ => rfl
  | ⟨1, _⟩ =>
    rw [operandIdx_whole _ _ _ _ (by decide +revert) (by decide +revert) (by decide +revert)]
    rfl

/-- An entry of the adjacency by its row and column. -/
theorem gather_pair (A : FVec Ideal S1024x1024 .f32) (ix : IVec S4x2 32) (b : Fin 4) (k j : Fin 1024)
    (hk : ix (ix2 b 0) = BitVec.ofNat 32 k.val) (hj : ix (ix2 b 1) = BitVec.ofNat 32 j.val) :
    Host.gather gather_S1024x1024_S4x2_S4_n_01_n_n_01_1_11 A ix (ix1 b) = A (ix2 k j) := by
  refine congrArg A (funext fun a => Fin.ext ?_)
  match a with
  | ⟨0, _⟩ =>
    rw [operandIdx_named _ _ _ _ (by decide +revert) (by decide +revert) (by decide +revert)]
    refine clamp_word (n := 1023) (k := k.val) (Nat.le_of_lt_succ k.isLt) (by norm_num) (Eq.trans (congrArg ix ?_) hk)
    funext b
    match b with
    | ⟨0, _⟩ => rfl
    | ⟨1, _⟩ => rfl
  | ⟨1, _⟩ =>
    rw [operandIdx_named _ _ _ _ (by decide +revert) (by decide +revert) (by decide +revert)]
    refine clamp_word (n := 1023) (k := j.val) (Nat.le_of_lt_succ j.isLt) (by norm_num) (Eq.trans (congrArg ix ?_) hj)
    funext b
    match b with
    | ⟨0, _⟩ => rfl
    | ⟨1, _⟩ => rfl

/-- A road's embedding. -/
theorem gather_road (E : FVec Ideal S1024x128 .f32) (ix : IVec S4x1 32) (b : Fin 4) (d : Fin 128) (k : Fin 1024)
    (hk : ix (ix2 b 0) = BitVec.ofNat 32 k.val) :
    Host.gather gather_S1024x128_S4x1_S4x128_1_0_n_n_0_1_1128 E ix (ix2 b d) = E (ix2 k d) := by
  refine congrArg E (funext fun a => Fin.ext ?_)
  match a with
  | ⟨0, _⟩ =>
    rw [operandIdx_named _ _ _ _ (by decide +revert) (by decide +revert) (by decide +revert)]
    refine clamp_word (n := 1023) (k := k.val) (Nat.le_of_lt_succ k.isLt) (by norm_num) (Eq.trans (congrArg ix ?_) hk)
    funext b
    match b with
    | ⟨0, _⟩ => rfl
    | ⟨1, _⟩ => rfl
  | ⟨1, _⟩ =>
    rw [operandIdx_whole _ _ _ _ (by decide +revert) (by decide +revert) (by decide +revert)]
    rfl

/-- An emission by its step, sequence and tag. -/
theorem gather_em (em : FVec Ideal S20x4x1024 .f32) (ix : IVec S4x3 32) (b : Fin 4) (i : Fin 20) (q : Fin 4) (k : Fin 1024)
    (hi : ix (ix2 b 0) = BitVec.ofNat 32 i.val) (hq : ix (ix2 b 1) = BitVec.ofNat 32 q.val)
    (hk : ix (ix2 b 2) = BitVec.ofNat 32 k.val) :
    Host.gather gather_S20x4x1024_S4x3_S4_n_012_n_n_012_1_111 em ix (ix1 b) = em (ix3 i q k) := by
  refine congrArg em (funext fun a => Fin.ext ?_)
  match a with
  | ⟨0, _⟩ =>
    rw [operandIdx_named _ _ _ _ (by decide +revert) (by decide +revert) (by decide +revert)]
    refine clamp_word (n := 19) (k := i.val) (Nat.le_of_lt_succ i.isLt) (by norm_num) (Eq.trans (congrArg ix ?_) hi)
    funext b
    match b with
    | ⟨0, _⟩ => rfl
    | ⟨1, _⟩ => rfl
  | ⟨1, _⟩ =>
    rw [operandIdx_named _ _ _ _ (by decide +revert) (by decide +revert) (by decide +revert)]
    refine clamp_word (n := 3) (k := q.val) (Nat.le_of_lt_succ q.isLt) (by norm_num) (Eq.trans (congrArg ix ?_) hq)
    funext b
    match b with
    | ⟨0, _⟩ => rfl
    | ⟨1, _⟩ => rfl
  | ⟨2, _⟩ =>
    rw [operandIdx_named _ _ _ _ (by decide +revert) (by decide +revert) (by decide +revert)]
    refine clamp_word (n := 1023) (k := k.val) (Nat.le_of_lt_succ k.isLt) (by norm_num) (Eq.trans (congrArg ix ?_) hk)
    funext b
    match b with
    | ⟨0, _⟩ => rfl
    | ⟨1, _⟩ => rfl

end Cert.Crf

end
-- ==== Proof.Beam.lean ====
/-
  The five greatest entries of a row of extended reals: taking the maximum and removing it, five times, names
  them when the five are decreasing and every other entry is below them.
-/
module

public import Mathlib.Data.EReal.Basic
public import Mathlib.Data.EReal.Operations
public import Mathlib.Algebra.BigOperators.Fin

@[expose] public section

noncomputable section

namespace Cert.Crf

variable {ι : Type} [Fintype ι] [DecidableEq ι]

/-- A row's greatest entry. -/
def top (x : ι → EReal) : EReal := Finset.univ.sup x

/-- A row with its greatest entries removed. -/
def dropTop (x : ι → EReal) : ι → EReal := fun k => if x k = top x then ⊥ else x k

/-- One at a row's greatest entries. -/
def markTop (x : ι → EReal) : ι → EReal := fun k => if x k = top x then 1 else 0

/-- The marks of five rounds of taking the greatest entry and removing it. -/
def marks (x : ι → EReal) : ι → EReal := fun k => ∑ r : Fin 5, markTop (dropTop^[r.val] x) k

/-- `s` names the five greatest entries of `x`, in decreasing order and with no ties, none of them `⊥`. -/
structure Beam (x : ι → EReal) (s : Fin 5 → ι) : Prop where
  lt : ∀ i j, i < j → x (s j) < x (s i)
  rest : ∀ k, (∀ i, k ≠ s i) → x k < x (s 4)
  pos : ⊥ < x (s 4)

omit [DecidableEq ι] in
theorem top_eq_of_lt {x : ι → EReal} {i : ι} (h : ∀ k, k ≠ i → x k < x i) : top x = x i := by
  refine le_antisymm (Finset.sup_le fun k _ => ?_) (Finset.le_sup (f := x) (Finset.mem_univ i))
  by_cases hk : k = i
  · rw [hk]
  · exact (h k hk).le

theorem markTop_of_lt {x : ι → EReal} {i : ι} (h : ∀ k, k ≠ i → x k < x i) (k : ι) :
    markTop x k = if k = i then 1 else 0 := by
  unfold markTop
  rw [top_eq_of_lt h]
  by_cases hk : k = i
  · simp [hk]
  · simp [hk, (h k hk).ne]

omit [DecidableEq ι] in
/-- Some entry is the greatest. -/
theorem exists_top [Nonempty ι] (x : ι → EReal) : ∃ k, top x = x k := by
  obtain ⟨k, _, hk⟩ := Finset.exists_mem_eq_sup Finset.univ Finset.univ_nonempty x
  exact ⟨k, hk⟩

omit [DecidableEq ι] in
theorem le_top' (x : ι → EReal) (k : ι) : x k ≤ top x := Finset.le_sup (f := x) (Finset.mem_univ k)

namespace Beam

variable {x : ι → EReal} {s : Fin 5 → ι}

omit [Fintype ι] [DecidableEq ι] in
theorem pos_at (h : Beam x s) (i : Fin 5) : ⊥ < x (s i) := by
  by_cases hi : i = 4
  · rw [hi]; exact h.pos
  · exact h.pos.trans (h.lt i 4 (by omega))

omit [Fintype ι] [DecidableEq ι] in
theorem inj (h : Beam x s) : Function.Injective s := by
  intro i j hij
  rcases lt_trichotomy i j with hl | he | hl
  · exact absurd (h.lt i j hl) (by rw [hij]; exact lt_irrefl _)
  · exact he
  · exact absurd (h.lt j i hl) (by rw [hij]; exact lt_irrefl _)

omit [Fintype ι] [DecidableEq ι] in
theorem le_at (h : Beam x s) (i : Fin 5) : x (s 4) ≤ x (s i) := by
  by_cases hi : i = 4
  · rw [hi]
  · exact (h.lt i 4 (by omega)).le

/-- In a round the next named entry is above all the others. -/
theorem round (h : Beam x s) (r : Fin 5)
    (ih : dropTop^[r.val] x = fun k => if ∃ i : Fin 5, i.val < r.val ∧ k = s i then ⊥ else x k) :
    ∀ k, k ≠ s r → dropTop^[r.val] x k < dropTop^[r.val] x (s r) := by
  intro k hk
  have hr : dropTop^[r.val] x (s r) = x (s r) := by
    rw [ih]
    refine if_neg ?_
    rintro ⟨i, hi, he⟩
    have := h.inj he
    omega
  rw [hr, ih]
  dsimp only
  split_ifs with hx
  · exact h.pos_at r
  · by_cases hm : ∃ i, k = s i
    · obtain ⟨i, rfl⟩ := hm
      have : ¬ i.val < r.val := fun hi => hx ⟨i, hi, rfl⟩
      refine h.lt r i (lt_of_le_of_ne (not_lt.mp this) ?_)
      rintro rfl
      exact hk rfl
    · exact (h.rest k fun i hi => hm ⟨i, hi⟩).trans_le (h.le_at r)

/-- After `r` rounds the first `r` named entries are gone and the rest are as they were. -/
theorem dropped (h : Beam x s) : ∀ r, r ≤ 5 →
    dropTop^[r] x = fun k => if ∃ i : Fin 5, i.val < r ∧ k = s i then ⊥ else x k
  | 0, _ => by simp
  | r + 1, hr => by
    have ih := h.dropped r (by omega)
    have hl := h.round ⟨r, by omega⟩ ih
    rw [Function.iterate_succ_apply']
    funext k
    show (if dropTop^[r] x k = top (dropTop^[r] x) then ⊥ else dropTop^[r] x k) = _
    rw [top_eq_of_lt hl]
    dsimp only
    by_cases hk : k = s ⟨r, by omega⟩
    · rw [hk, if_pos rfl, if_pos ⟨⟨r, by omega⟩, by simp, rfl⟩]
    · rw [if_neg (hl k hk).ne, ih]
      refine if_congr ?_ rfl rfl
      constructor
      · rintro ⟨i, hi, rfl⟩; exact ⟨i, by omega, rfl⟩
      · rintro ⟨i, hi, rfl⟩
        refine ⟨i, ?_, rfl⟩
        rcases Nat.lt_or_ge i.val r with h1 | h1
        · exact h1
        · exact absurd (congrArg s (Fin.ext (show i.val = (⟨r, by omega⟩ : Fin 5).val by simp; omega))) hk

theorem round_lt (h : Beam x s) (r : Fin 5) : ∀ k, k ≠ s r → dropTop^[r.val] x k < dropTop^[r.val] x (s r) :=
  h.round r (h.dropped r.val (by omega))

/-- The maximum of each round is the named entry. -/
theorem top_round (h : Beam x s) (r : Fin 5) : top (dropTop^[r.val] x) = x (s r) := by
  rw [top_eq_of_lt (h.round_lt r), h.dropped r.val (by omega)]
  refine if_neg ?_
  rintro ⟨i, hi, he⟩
  have := h.inj he
  omega

theorem top_eq (h : Beam x s) : top x = x (s 0) := h.top_round 0

/-- The marks are ones at the five named entries. -/
theorem marks_eq (h : Beam x s) (k : ι) : marks x k = ∑ r : Fin 5, if k = s r then 1 else 0 :=
  Finset.sum_congr rfl fun r _ => markTop_of_lt (h.round_lt r) k

/-- The marks against a column add up the five named entries of it. -/
theorem marks_dot (h : Beam x s) (a : ι → EReal) : ∑ k, marks x k * a k = ∑ r : Fin 5, a (s r) := by
  have hk : ∀ k, marks x k * a k = ∑ r : Fin 5, if k = s r then a k else 0 := by
    intro k
    rw [h.marks_eq k]
    by_cases hm : ∃ i, k = s i
    · obtain ⟨i, rfl⟩ := hm
      have e1 : ∀ (c : EReal), (∑ r : Fin 5, if s i = s r then c else 0) = c := fun c => by
        rw [Finset.sum_eq_single i]
        · simp
        · intro j _ hj; exact if_neg fun he => hj (h.inj he).symm
        · simp
      rw [e1, e1, one_mul]
    · have e0 : ∀ (c : EReal), (∑ r : Fin 5, if k = s r then c else 0) = 0 := fun c =>
        Finset.sum_eq_zero fun r _ => if_neg fun he => hm ⟨r, he⟩
      rw [e0, e0, zero_mul]
  simp_rw [hk]
  rw [Finset.sum_comm]
  refine Finset.sum_congr rfl fun r _ => ?_
  simp

/-- A map that keeps the order keeps the five greatest. -/
theorem map (h : Beam x s) {y : ι → EReal} (hy : ∀ k l, x k < x l → y k < y l) (hp : ⊥ < y (s 4)) : Beam y s where
  lt i j hij := hy _ _ (h.lt i j hij)
  rest k hk := hy _ _ (h.rest k hk)
  pos := hp

end Beam

end Cert.Crf

end
-- ==== Proof.TopK.lean ====
/-
  `lax.top_k` of a row, over the extended reals: the values and positions it gives, and that where its first six
  values are strictly decreasing its first five positions name the row's five greatest entries.
-/
module

public import proofs.«01_k».proof.Proof.Beam
public import proofs.«01_k».proof.ReferenceIdeal
public import proofs.«01_k».proof.Proof.Gen.ReferenceIdeal
public import Idealize.ShloMosaic.Lib.Pointwise
public import Idealize.ShloMosaic.Lib.SortFacts

@[expose] public section

set_option maxRecDepth 16384

noncomputable section

namespace Cert.Crf

open Idealize.ShloMosaic Cert.ReferenceIdeal Cert.ReferenceIdeal.Gen Idealize.ShloMosaic.Pointwise

/-- The position the `r`-th greatest entry of a row comes from. -/
def rank (v : Fin 1024 → EReal) (r : Fin 1024) : Fin 1024 := sortedFrom (fun k k' => decide (v k' < v k)) r

theorem rank_injective (v : Fin 1024 → EReal) : Function.Injective (rank v) := sortedFrom_injective _
theorem rank_surjective (v : Fin 1024 → EReal) : Function.Surjective (rank v) := sortedFrom_surjective _

/-- The sorted row does not increase. -/
theorem rank_antitone (v : Fin 1024 → EReal) {i j : Fin 1024} (h : i < j) : v (rank v j) ≤ v (rank v i) := by
  have := sortedFrom_noInversion (fun k k' => decide (v k' < v k)) (fun k k' => decide (v k' < v k))
    (fun a b h => by simp only [decide_eq_true_eq, decide_eq_false_iff_not, not_lt] at h ⊢; exact h.le)
    (fun a b h => h)
    (fun a b c h1 h2 => by
      simp only [decide_eq_false_iff_not, not_lt] at h1 h2 ⊢; exact h1.trans h2) i j h
  simp only [decide_eq_false_iff_not, not_lt] at this
  exact this

theorem along_one {b : Fin 4} {r k : Fin 1024} : (ix2 b r : S4x1024.Idx).along 1 k = ix2 b k := by
  funext a
  match a with
  | ⟨0, _⟩ => rfl
  | ⟨1, _⟩ => rfl

/-- The comparison the sort makes. -/
theorem gt_total (x y : EReal) : (FloatOps.cmpfTotal (F := Ideal) (φ := .f32) .gt x y == 1#1) = decide (y < x) := by
  rw [Ideal.cmpfTotal_def]
  simp only [CmpDirection.ordered, Ideal.cmp]
  by_cases h : y < x <;> simp [h]

/-- The first `n` positions of a row. -/
abbrev place {n : ℕ} (h : n ≤ 1024) (r : Fin n) : Fin 1024 := r.castLE h

theorem topK5_val (x : FVec Ideal S4x1024 .f32) (b : Fin 4) (r : Fin 5) :
    (Host.topK S4x5 1 (FloatOps.cmpfTotal .gt) x sliceFits_S4x1024_S4x5).1 (ix2 b r)
      = x (ix2 b (rank (fun k => x (ix2 b k)) (place (by norm_num) r))) := by
  unfold Host.topK Host.sort2
  pointwise
  simp only [along_one, gt_total]
  rfl

theorem topK5_idx (x : FVec Ideal S4x1024 .f32) (b : Fin 4) (r : Fin 5) :
    (Host.topK S4x5 1 (FloatOps.cmpfTotal .gt) x sliceFits_S4x1024_S4x5).2 (ix2 b r)
      = BitVec.ofNat 32 (rank (fun k => x (ix2 b k)) (place (by norm_num) r)).val := by
  unfold Host.topK Host.sort2
  pointwise
  simp only [along_one, gt_total]
  rfl

theorem topK6_val {h : S4x1024.Slices (fun _ => 0) (⟨2, ![4, 6]⟩ : Shape)} (x : FVec Ideal S4x1024 .f32) (b : Fin 4) (r : Fin 6) :
    (Host.topK (⟨2, ![4, 6]⟩ : Shape) 1 (FloatOps.cmpfTotal .gt) x h).1 (ix2 b r)
      = x (ix2 b (rank (fun k => x (ix2 b k)) (place (by norm_num) r))) := by
  unfold Host.topK Host.sort2
  pointwise
  simp only [along_one, gt_total]
  rfl

/-- The five positions. -/
abbrev five (v : Fin 1024 → EReal) : Fin 5 → Fin 1024 := fun r => rank v (place (by norm_num) r)

/-- Six strictly decreasing values at the head of the sorted row make the five positions the row's beam. -/
theorem beam_five {v : Fin 1024 → EReal}
    (h : ∀ r : Fin 5, v (rank v (place (by norm_num) r.succ)) < v (rank v (place (by norm_num) r.castSucc))) :
    Beam v (five v) := by
  have step : ∀ r : ℕ, ∀ hr : r < 5, v (rank v ⟨r + 1, by omega⟩) < v (rank v ⟨r, by omega⟩) := fun r hr => h ⟨r, hr⟩
  refine ⟨fun i j hij => ?_, fun k hk => ?_, lt_of_le_of_lt bot_le (step 4 (by norm_num))⟩
  · have h1 : v (rank v ⟨j.val, by omega⟩) ≤ v (rank v ⟨i.val + 1, by omega⟩) := by
      rcases Nat.lt_or_ge (i.val + 1) j.val with hl | hl
      · exact rank_antitone v (show (⟨i.val + 1, by omega⟩ : Fin 1024) < ⟨j.val, by omega⟩ from hl)
      · have : i.val + 1 = j.val := by have : i.val < j.val := hij; omega
        simp only [this, le_refl]
    exact h1.trans_lt (step i.val (by have : i.val < j.val := hij; omega))
  · obtain ⟨q, rfl⟩ := rank_surjective v k
    have hq : 5 ≤ q.val := by
      by_contra hc
      exact hk ⟨q.val, by omega⟩ rfl
    have h1 : v (rank v q) ≤ v (rank v ⟨5, by norm_num⟩) := by
      rcases Nat.lt_or_ge 5 q.val with hl | hl
      · exact rank_antitone v (show (⟨5, by norm_num⟩ : Fin 1024) < q from hl)
      · have : q = ⟨5, by norm_num⟩ := Fin.ext (by show q.val = 5; omega)
        rw [this]
    exact h1.trans_lt (step 4 (by norm_num))

end Cert.Crf

end
-- ==== Proof.Reals.lean ====
/-
  Extended reals that are reals: sums and maxima of finitely many are reals, the exponential and the logarithm
  agree with the real ones, and the logarithm of a sum of exponentials may be shifted.
-/
module

public import proofs.«01_k».proof.Proof.Beam
public import Idealize.ShloMosaic.PureOps.Ideal
public import Mathlib.Analysis.SpecialFunctions.Log.Basic

@[expose] public section

noncomputable section

namespace Cert.Crf

open Idealize.ShloMosaic

variable {ι : Type} [Fintype ι] [DecidableEq ι]

omit [Fintype ι] [DecidableEq ι] in
theorem coe_sum (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem log_pos {r : ℝ} (h : 0 < r) : Ideal.log (r : EReal) = (Real.log r : EReal) := by
  rw [Ideal.log_coe, if_neg (not_le.mpr h)]

theorem div_real (x : ℝ) {y : ℝ} (h : y ≠ 0) : Ideal.div (x : EReal) (y : EReal) = ((x / y : ℝ) : EReal) := by
  rw [Ideal.div_coe h, ← EReal.coe_mul]
  congr 1
  ring

omit [DecidableEq ι] in
/-- The maximum of a row of reals is a real, one of them. -/
theorem top_real [Nonempty ι] (f : ι → ℝ) : ∃ r : ℝ, top (fun k => (f k : EReal)) = (r : EReal) ∧ (∃ k, r = f k) := by
  obtain ⟨k, hk⟩ := exists_top (fun k => (f k : EReal))
  exact ⟨f k, hk, k, rfl⟩

/-- An exponential as a real number, and what the values below `⊤` look like. -/
theorem exp_real {x : EReal} (h : x ≠ ⊤) : ∃ p : ℝ, 0 ≤ p ∧ Ideal.exp x = (p : EReal) ∧ (x ≠ ⊥ → 0 < p) ∧
    (x = ⊥ → p = 0) ∧ ∀ c : ℝ, Ideal.exp (x + (c : EReal)) = ((p * Real.exp c : ℝ) : EReal) := by
  induction x using EReal.rec with
  | bot => exact ⟨0, le_rfl, by simp, fun h => absurd rfl h, fun _ => rfl, fun c => by simp⟩
  | top => exact absurd rfl h
  | coe r =>
    refine ⟨Real.exp r, (Real.exp_pos r).le, by simp, fun _ => Real.exp_pos r, fun h => ?_, fun c => ?_⟩
    · exact absurd h (EReal.coe_ne_bot r)
    · rw [← EReal.coe_add, Ideal.exp_coe, Real.exp_add]

/-- The logarithm of a sum of exponentials, as the reference writes it: shifted by the maximum where that is a
    real. -/
theorem shifted_lse [Nonempty ι] (x : ι → EReal) (h : ∀ k, x k ≠ ⊤) (c : EReal)
    (hc : c = if max (top x) (-top x) < ⊤ then top x else 0) :
    Ideal.log (∑ k, Ideal.exp (x k - c)) + c = Ideal.log (∑ k, Ideal.exp (x k)) := by
  obtain ⟨m, hm⟩ := exists_top x
  have hreal : ∃ r : ℝ, c = (r : EReal) ∧ (top x = ⊥ → r = 0) := by
    rw [hc]
    have := h m
    rw [← hm] at this
    generalize top x = t at *
    induction t using EReal.rec with
    | bot => exact ⟨0, by simp⟩
    | top => exact absurd rfl this
    | coe r =>
      refine ⟨r, if_pos ?_, fun h => absurd h (EReal.coe_ne_bot r)⟩
      rw [max_lt_iff]
      exact ⟨EReal.coe_lt_top r, by rw [← EReal.coe_neg]; exact EReal.coe_lt_top _⟩
  obtain ⟨r, hr, hr0⟩ := hreal
  choose p hp0 hp hpos hbot hpc using fun k => exp_real (h k)
  have e1 : ∀ k, Ideal.exp (x k - c) = ((p k * Real.exp (-r) : ℝ) : EReal) := fun k => by
    rw [hr, sub_eq_add_neg, ← EReal.coe_neg, hpc]
  simp_rw [e1, hp]
  rw [coe_sum, coe_sum, hr, ← Finset.sum_mul]
  by_cases hb : top x = ⊥
  · have : ∀ k, p k = 0 := fun k => hbot k (by
      have := le_top' x k
      rw [hb] at this
      exact le_bot_iff.mp this)
    simp [this, hr0 hb]
  · have hS : 0 < ∑ k, p k := by
      refine Finset.sum_pos' (fun k _ => hp0 k) ⟨m, Finset.mem_univ m, hpos m ?_⟩
      rw [← hm]; exact hb
    rw [log_pos (mul_pos hS (Real.exp_pos _)), log_pos hS, ← EReal.coe_add, Real.log_mul hS.ne' (Real.exp_pos _).ne', Real.log_exp]
    congr 1
    ring

end Cert.Crf

end
-- ==== Proof.Step.lean ====
/-
  One step of the forward recursion on a row: the reference's step on the scores, the kernel's exact step, which
  is the same, and the kernel's scaled step, which carries the exponentials of the same scores over a scale.
-/
module

public import proofs.«01_k».proof.Proof.Reals

@[expose] public section

noncomputable section

namespace Cert.Crf

open Idealize.ShloMosaic

variable {ι : Type} [Fintype ι] [DecidableEq ι]

/-- The reference's step: `t k j` is the transition from `k` to `j`, `e j` the emission at `j`, and a tag that
    none of the beam `s` can reach is left at `⊥`. -/
def refStep (A : ι → ι → EReal) (t : ι → ι → ℝ) (e : ι → ℝ) (s : Fin 5 → ι) (x : ι → EReal) : ι → EReal :=
  fun j => if ∑ r, A (s r) j ≠ 0 then Ideal.log (∑ k, Ideal.exp (x k + (t k j : EReal) + (e j : EReal))) else ⊥

/-- The kernel's exact step, from the scaled exponentials `W` of the transitions and `er`, the emissions with
    the greatest transitions added. -/
def exactStep (W A : ι → ι → EReal) (er x : ι → EReal) : ι → EReal := fun j =>
  if ∑ k, marks x k * A k j ≠ 0 then
    er j + top x + Ideal.log (∑ k, (if x k = ⊥ then 0 else Ideal.exp (x k - top x)) * W k j)
  else ⊥

/-- The kernel's scaled step. -/
def fastStep (W : ι → ι → EReal) (er V : ι → EReal) : ι → EReal := fun j =>
  (∑ k, V k * W k j) * Ideal.exp (er j - top er) * (if 0 < top V then Ideal.div 1 (top V) else 0)

omit [DecidableEq ι] in
theorem refStep_ne_top (A : ι → ι → EReal) (t : ι → ι → ℝ) (e : ι → ℝ) (s : Fin 5 → ι) {x : ι → EReal}
    (h : ∀ k, x k ≠ ⊤) (j : ι) : refStep A t e s x j ≠ ⊤ := by
  unfold refStep
  choose p hp0 hp hpos hbot hpc using fun k => exp_real (h k)
  split_ifs
  · have : ∀ k, Ideal.exp (x k + (t k j : EReal) + (e j : EReal)) = ((p k * Real.exp (t k j + e j) : ℝ) : EReal) := fun k => by
      rw [add_assoc, ← EReal.coe_add, hpc]
    simp_rw [this]
    rw [coe_sum, Ideal.log_coe]
    split_ifs
    · exact bot_ne_top
    · exact EReal.coe_ne_top _
  · exact bot_ne_top

/-- The kernel's exact step is the reference's. -/
theorem exactStep_eq {A W : ι → ι → EReal} {t : ι → ι → ℝ} {e r : ι → ℝ} {er : ι → EReal}
    (hW : ∀ k j, W k j = ((Real.exp (t k j - r j) : ℝ) : EReal)) (her : ∀ j, er j = ((e j + r j : ℝ) : EReal))
    {x : ι → EReal} {s : Fin 5 → ι} (hs : Beam x s) (h : ∀ k, x k ≠ ⊤) :
    exactStep W A er x = refStep A t e s x := by
  funext j
  unfold exactStep refStep
  rw [hs.marks_dot fun k => A k j, hs.top_eq]
  refine if_congr Iff.rfl ?_ rfl
  choose p hp0 hp hpos hbot hpc using fun k => exp_real (h k)
  have hb : x (s 0) ≠ ⊥ := (hs.pos_at 0).ne'
  obtain ⟨M, hM⟩ : ∃ M : ℝ, x (s 0) = (M : EReal) := ⟨(x (s 0)).toReal, (EReal.coe_toReal (h _) hb).symm⟩
  have e1 : ∀ k, (if x k = ⊥ then 0 else Ideal.exp (x k - x (s 0))) * W k j
      = ((p k * Real.exp (t k j) * Real.exp (-M - r j) : ℝ) : EReal) := fun k => by
    have : (if x k = ⊥ then 0 else Ideal.exp (x k - x (s 0))) = ((p k * Real.exp (-M) : ℝ) : EReal) := by
      split_ifs with hk
      · rw [hbot k hk]; simp
      · rw [hM, sub_eq_add_neg, ← EReal.coe_neg, hpc]
    rw [this, hW, ← EReal.coe_mul]
    congr 1
    rw [mul_assoc, mul_assoc, ← Real.exp_add, ← Real.exp_add]
    congr 2
    ring
  have e2 : ∀ k, Ideal.exp (x k + (t k j : EReal) + (e j : EReal)) = ((p k * Real.exp (t k j) * Real.exp (e j) : ℝ) : EReal) :=
    fun k => by rw [add_assoc, ← EReal.coe_add, hpc, Real.exp_add, mul_assoc]
  simp_rw [e1, e2]
  rw [coe_sum, coe_sum, ← Finset.sum_mul, ← Finset.sum_mul]
  have hS : 0 < ∑ k, p k * Real.exp (t k j) :=
    Finset.sum_pos' (fun k _ => mul_nonneg (hp0 k) (Real.exp_pos _).le)
      ⟨s 0, Finset.mem_univ _, mul_pos (hpos _ hb) (Real.exp_pos _)⟩
  rw [log_pos (mul_pos hS (Real.exp_pos _)), log_pos (mul_pos hS (Real.exp_pos _)), Real.log_mul hS.ne' (Real.exp_pos _).ne',
    Real.log_mul hS.ne' (Real.exp_pos _).ne', Real.log_exp, Real.log_exp, her, hM, ← EReal.coe_add, ← EReal.coe_add]
  congr 1
  ring

/-- The unrestricted step on real scores. -/
def realStep (t : ι → ι → ℝ) (e : ι → ℝ) (u : ι → ℝ) : ι → ℝ := fun j =>
  Real.log (∑ k, Real.exp (u k + t k j + e j))

omit [DecidableEq ι] in
/-- Where the beam reaches every tag the reference's step on real scores is the unrestricted one. -/
theorem refStep_real [Nonempty ι] {A : ι → ι → EReal} (t : ι → ι → ℝ) (e : ι → ℝ) {s : Fin 5 → ι} {x : ι → EReal} {u : ι → ℝ}
    (hx : ∀ k, x k = (u k : EReal)) (hA : ∀ j, ∑ r, A (s r) j ≠ 0) (j : ι) :
    refStep A t e s x j = (realStep t e u j : EReal) := by
  unfold refStep realStep
  rw [if_pos (hA j)]
  simp_rw [hx, ← EReal.coe_add, Ideal.exp_coe]
  rw [coe_sum, log_pos]
  exact Finset.sum_pos (fun k _ => Real.exp_pos _) Finset.univ_nonempty

omit [DecidableEq ι] in
/-- The scaled step keeps the exponentials of the unrestricted scores, its scale growing by the maximum it
    divides by and the maximum it subtracts. -/
theorem fastStep_eq [Nonempty ι] {W : ι → ι → EReal} {t : ι → ι → ℝ} {e r : ι → ℝ} {er : ι → EReal}
    (hW : ∀ k j, W k j = ((Real.exp (t k j - r j) : ℝ) : EReal)) (her : ∀ j, er j = ((e j + r j : ℝ) : EReal))
    {u : ι → ℝ} {β : ℝ} {V : ι → EReal} (hV : ∀ k, V k = ((Real.exp (u k - β) : ℝ) : EReal)) :
    ∃ β' : ℝ, (β : EReal) + Ideal.log (top V) + top er = (β' : EReal) ∧
      ∀ j, fastStep W er V j = ((Real.exp (realStep t e u j - β') : ℝ) : EReal) := by
  obtain ⟨m, hm, km, hkm⟩ := top_real fun k => Real.exp (u k - β)
  obtain ⟨x, hx, -⟩ := top_real fun j => e j + r j
  rw [← show V = fun k => ((Real.exp (u k - β) : ℝ) : EReal) from funext hV] at hm
  rw [← show er = fun j => ((e j + r j : ℝ) : EReal) from funext her] at hx
  have hm0 : 0 < m := by rw [hkm]; exact Real.exp_pos _
  refine ⟨β + Real.log m + x, by rw [hm, hx, log_pos hm0, ← EReal.coe_add, ← EReal.coe_add], fun j => ?_⟩
  unfold fastStep realStep
  have h1 : (1 : EReal) = ((1 : ℝ) : EReal) := rfl
  rw [hm, hx, if_pos (by exact_mod_cast hm0), h1, div_real 1 hm0.ne', her, ← EReal.coe_sub, Ideal.exp_coe]
  simp_rw [hV, hW, ← EReal.coe_mul]
  rw [coe_sum, ← EReal.coe_mul, ← EReal.coe_mul]
  congr 1
  have hS : 0 < ∑ k, Real.exp (u k + t k j + e j) := Finset.sum_pos (fun k _ => Real.exp_pos _) Finset.univ_nonempty
  have hexp : Real.exp (Real.log (∑ k, Real.exp (u k + t k j + e j)) - (β + Real.log m + x))
      = (∑ k, Real.exp (u k + t k j + e j)) * Real.exp (-β - x) * (1 / m) := by
    rw [show Real.log (∑ k, Real.exp (u k + t k j + e j)) - (β + Real.log m + x)
        = Real.log (∑ k, Real.exp (u k + t k j + e j)) + (-β - x) + -Real.log m by ring, Real.exp_add, Real.exp_add,
      Real.exp_log hS, Real.exp_neg, Real.exp_log hm0, one_div]
  rw [hexp]
  congr 1
  rw [Finset.sum_mul, Finset.sum_mul]
  refine Finset.sum_congr rfl fun k _ => ?_
  rw [← Real.exp_add, ← Real.exp_add, ← Real.exp_add]
  congr 1
  ring

end Cert.Crf

end
-- ==== Proof.KIdx.lean ====
/-
  The kernel's functions read a row at a time, over the extended reals.
-/
module

public import proofs.«01_k».proof.Proof.Model
public import proofs.«01_k».proof.Proof.Step
public import Idealize.ShloMosaic.Lib.Pointwise
public import Idealize.ShloMosaic.Lib.Pipeline.Value

@[expose] public section

set_option maxRecDepth 16384

noncomputable section

namespace Cert.Crf

open Idealize.ShloMosaic Cert.KernelIdeal Cert.KernelIdeal.Gen Idealize.ShloMosaic.Pointwise

/-! ## The constants -/

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-- A mark as a number. -/
theorem mark_num (p : Prop) [Decidable p] :
    (FloatOps.sitofp .f32 (BitVec.setWidth 32 (BitVec.ofBool (decide p))) : Ideal .f32) = if p then 1 else 0 := by
  show ((((BitVec.setWidth 32 (BitVec.ofBool (decide p))).toInt : ℤ) : ℝ) : EReal) = _
  by_cases h : p <;> simp [h]

theorem select_ofBool {α : Type} (p : Prop) [Decidable p] (a b : α) :
    Scalar.select (BitVec.ofBool (decide p)) a b = if p then a else b := by
  by_cases h : p <;> simp [h, Scalar.select]

/-! ## Rows -/

/-- A step of a sequence as one of the eighty positions. -/
abbrev pos (b : Fin 4) (i : Fin 20) : Fin 80 := ⟨20 * b.val + i.val, by omega⟩

/-- A row of a four-row array. -/
abbrev row4 (x : FVec Ideal S4x1024 .f32) (b : Fin 4) : Fin 1024 → EReal := fun k => x (ix2 b k)
/-- A row of an eighty-row array. -/
abbrev row80 (x : FVec Ideal S80x1024 .f32) (q : Fin 80) : Fin 1024 → EReal := fun k => x (ix2 q k)
/-- A square array by row and column. -/
abbrev mat {φ : FTy} (x : FVec Ideal S1024x1024 φ) : Fin 1024 → Fin 1024 → EReal := fun k j => x (ix2 k j)

theorem rowMax4_apply (x : FVec Ideal S4x1024 .f32) (b : Fin 4) : rowMax4 x (ix2 b 0) = top (row4 x b) := by
  pointwise [rowMax4]
  rw [ofBits_bot]
  rfl

theorem wide4_apply (x : FVec Ideal S4x1 .f32) (b : Fin 4) (k : Fin 1024) : wide4 x (ix2 b k) = x (ix2 b 0) := by
  pointwise [wide4]

theorem pick4_apply (x : FVec Ideal S4x1024 .f32) (b : Fin 4) (k : Fin 1024) :
    pick4 x (ix2 b k) = BitVec.ofBool (decide (row4 x b k = top (row4 x b))) := by
  pointwise [pick4, wide4]
  rw [rowMax4_apply]

theorem drop4_row (x : FVec Ideal S4x1024 .f32) (b : Fin 4) : row4 (drop4 x) b = dropTop (row4 x b) := by
  funext k
  show drop4 x (ix2 b k) = _
  pointwise [drop4]
  rw [pick4_apply, ofBits_bot, select_ofBool]
  rfl

theorem mark4_apply (s x : FVec Ideal S4x1024 .f32) (b : Fin 4) (k : Fin 1024) :
    mark4 s x (ix2 b k) = s (ix2 b k) + markTop (row4 x b) k := by
  pointwise [mark4]
  rw [pick4_apply, mark_num]
  rfl

theorem sel4_apply (x : FVec Ideal S4x1024 .f32) (b : Fin 4) (k : Fin 1024) : sel4 x (ix2 b k) = marks (row4 x b) k := by
  unfold sel4 marks
  simp only [mark4_apply, drop4_row]
  rw [Fin.sum_univ_five]
  pointwise
  rfl

theorem rowMax80_apply (x : FVec Ideal S80x1024 .f32) (b : Fin 80) : rowMax80 x (ix2 b 0) = top (row80 x b) := by
  pointwise [rowMax80]
  rw [ofBits_bot]
  rfl

theorem pick80_apply (x : FVec Ideal S80x1024 .f32) (b : Fin 80) (k : Fin 1024) :
    pick80 x (ix2 b k) = BitVec.ofBool (decide (row80 x b k = top (row80 x b))) := by
  pointwise [pick80]
  rw [rowMax80_apply]

theorem drop80_row (x : FVec Ideal S80x1024 .f32) (b : Fin 80) : row80 (drop80 x) b = dropTop (row80 x b) := by
  funext k
  show drop80 x (ix2 b k) = _
  pointwise [drop80]
  rw [pick80_apply, ofBits_bot, select_ofBool]
  rfl

theorem mark80_apply (s x : FVec Ideal S80x1024 .f32) (b : Fin 80) (k : Fin 1024) :
    mark80 s x (ix2 b k) = s (ix2 b k) + markTop (row80 x b) k := by
  pointwise [mark80]
  rw [pick80_apply, mark_num]
  rfl

theorem sel80_apply (x : FVec Ideal S80x1024 .f32) (b : Fin 80) (k : Fin 1024) : sel80 x (ix2 b k) = marks (row80 x b) k := by
  unfold sel80 marks
  simp only [mark80_apply, drop80_row]
  rw [Fin.sum_univ_five]
  pointwise
  rfl

/-! ## The prepared arrays -/

theorem trt_apply (E : FVec Ideal S1024x128 .f32) (A : FVec Ideal S1024x1024 .f32) (k j : Fin 1024) :
    trt E A (ix2 k j) = max (A (ix2 j k) * ∑ d : Fin 128, E (ix2 k d) * E (ix2 j d)) 0 := by
  pointwise [trt]

theorem colMax_apply (T : FVec Ideal S1024x1024 .f32) (j : Fin 1024) : colMax T (ix2 0 j) = top fun k => T (ix2 k j) := by
  pointwise [colMax]
  rw [ofBits_bot]
  rfl

theorem wexp_apply (T : FVec Ideal S1024x1024 .f32) (k j : Fin 1024) :
    wexp T (ix2 k j) = Ideal.exp (T (ix2 k j) - top fun k => T (ix2 k j)) := by
  pointwise [wexp]
  rw [colMax_apply]

theorem emStep_apply (EM : FVec Ideal S80x1024 .f32) (i : Fin 20) (b : Fin 4) (k : Fin 1024) :
    emStep EM i (ix2 b k) = EM (ix2 (pos b i) k) := by
  show _ = EM (ix2 ⟨20 * b.val + i.val, _⟩ k)
  pointwise [emStep]
  fin_vals b with hb
  all_goals simp only [hb, Nat.reduceSub, Nat.reduceLT, ↓reduceDIte]
  all_goals congr 3
  all_goals simp

theorem erStep_apply (EM : FVec Ideal S80x1024 .f32) (r : FVec Ideal S1x1024 .f32) (n : ℕ) (b : Fin 4) (j : Fin 1024) :
    erStep EM r n (ix2 b j) = emStep EM (Fin.ofNat 20 (n + 1)) (ix2 b j) + r (ix2 0 j) := by
  pointwise [erStep]

/-! ## The steps -/

theorem vnext_row (W : FVec Ideal S1024x1024 .bf16) (er V : FVec Ideal S4x1024 .f32) (b : Fin 4) :
    row4 (vnext W er V) b = fastStep (mat W) (row4 er b) (row4 V b) := by
  funext j
  show vnext W er V (ix2 b j) = _
  pointwise [vnext]
  rw [wide4_apply, wide4_apply]
  pointwise
  rw [rowMax4_apply, rowMax4_apply]
  rfl

theorem snext_row (W : FVec Ideal S1024x1024 .bf16) (A : FVec Ideal S1024x1024 .f32) (er s : FVec Ideal S4x1024 .f32) (b : Fin 4) :
    row4 (snext W A er s) b = exactStep (mat W) (mat A) (row4 er b) (row4 s b) := by
  funext j
  show snext W A er s (ix2 b j) = _
  pointwise [snext]
  simp only [wide4_apply, rowMax4_apply, sel4_apply, ofBits_bot]
  rfl

theorem sum4_apply (x : FVec Ideal S4x1 .f32) : sum4 x = ∑ b : Fin 4, x (ix2 b 0) := by
  pointwise [sum4]
  exact Finset.sum_congr rfl fun b _ => by simp

theorem sum80_apply (x : FVec Ideal S80x1 .f32) : sum80 x = ∑ q : Fin 80, x (ix2 q 0) := by
  pointwise [sum80]
  exact Finset.sum_congr rfl fun b _ => by simp

/-- The scaled pass is answered by where the marks reach every tag at every step but the last. -/
theorem fastOk_iff (SV : FVec Ideal S80x1024 .f32) (A : FVec Ideal S1024x1024 .f32) :
    fastOk SV A = 1#1 ↔ ∀ (q : Fin 76) (j : Fin 1024), 0 < ∑ k, marks (row80 SV ⟨q.val, by omega⟩) k * A (ix2 k j) := by
  pointwise [fastOk]
  simp only [sel80_apply, ofBits_top]
  have h1 : ∀ p : Prop, ∀ [Decidable p], (BitVec.ofBool (decide p) = 1#1 ↔ p) := fun p _ => by by_cases h : p <;> simp [h]
  rw [h1]
  rw [Finset.lt_fold_min]
  simp

theorem lse5_apply (x : FVec Ideal S4x1024 .f32) (b : Fin 4) :
    lse5 x (ix2 b 0) = top (row4 x b) + Ideal.log (1 + (∑ r : Fin 4,
      if top (dropTop^[r.val + 1] (row4 x b)) = ⊥ then 0
      else Ideal.exp (top (dropTop^[r.val + 1] (row4 x b)) - top (row4 x b)))) := by
  pointwise [lse5, lseTerm]
  simp only [rowMax4_apply, drop4_row, ofBits_bot]
  rw [Fin.sum_univ_four]
  simp only [add_assoc]
  rfl

theorem vsum_apply (x : FVec Ideal S80x1024 .f32) (b : Fin 4) :
    vsum x (ix2 b 0) = top (row80 x ⟨76 + b.val, by omega⟩) + ∑ r : Fin 4, max (top (dropTop^[r.val + 1] (row80 x ⟨76 + b.val, by omega⟩))) 0 := by
  pointwise [vsum, lastPos]
  simp only [rowMax80_apply, drop80_row]
  rw [Fin.sum_univ_four]
  simp only [add_assoc]
  rfl

theorem onehot_apply (tg : IVec S80x1 32) (q : Fin 80) (k : Fin 1024) :
    onehot (F := Ideal) tg (ix2 q k) = if BitVec.ofNat 32 k.val = tg (ix2 q 0) then 1 else 0 := by
  pointwise [onehot]
  exact mark_num _

theorem rowSum80_apply (x : FVec Ideal S80x1024 .f32) (q : Fin 80) : rowSum80 x (ix2 q 0) = ∑ k, x (ix2 q k) := by
  pointwise [rowSum80]

theorem pathTrans_apply (tg : IVec S80x1 32) (T : FVec Ideal S1024x1024 .f32) (q : Fin 80) (hq : q.val ≠ 0) :
    pathTrans tg T (ix2 q 0) = ∑ j, (∑ k, onehot (F := Ideal) tg (ix2 q k) * T (ix2 k j)) * onehot (F := Ideal) tg (ix2 ⟨q.val - 1, by omega⟩ j) := by
  unfold pathTrans
  rw [rowSum80_apply]
  refine Finset.sum_congr rfl fun j _ => ?_
  pointwise
  rw [dif_neg (by omega)]

theorem stacked_row (v : ℕ → FVec Ideal S4x1024 .f32) (i : Fin 20) (b : Fin 4) :
    row80 (stacked v) ⟨4 * i.val + b.val, by omega⟩ = row4 (v i.val) b := by
  funext k
  show stacked v (ix2 ⟨4 * i.val + b.val, by omega⟩ k) = v i.val (ix2 b k)
  have he : stacked v = concatenate S80x1024 0 (List.ofFn fun n : Fin 20 => (⟨S4x1024, v n.val⟩ : (s : Shape) × (s.Idx → EReal)))
      concatenates_S4x1024_S4x1024_S4x1024_S4x1024_S4x1024_S4x1024_S4x1024_S4x1024_S4x1024_S4x1024_S4x1024_S4x1024_S4x1024_S4x1024_S4x1024_S4x1024_S4x1024_S4x1024_S4x1024_S4x1024_S80x1024_d0 := rfl
  rw [he]
  refine concatenate_ofFn_apply (0 : Fin S80x1024.rank) (fun n : Fin 20 => v n.val) _ rfl 4 rfl _ i ?_ (ix2 b k) ?_ ?_
  · show (4 * i.val + b.val) / 4 = i.val
    omega
  · show b.val = (4 * i.val + b.val) % 4
    omega
  · intro a ha
    match a with
    | ⟨0, _⟩ => exact absurd rfl ha
    | ⟨1, _⟩ => rfl

theorem starts_apply (q : Fin 80) : starts (ix2 q 0) = BitVec.ofBool (decide (q.val % 20 = 0)) := by
  pointwise [starts]
  revert q
  decide

end Cert.Crf

end
-- ==== Proof.RefIdx.lean ====
/-
  The reference's functions read a row at a time, over the extended reals.
-/
module

public import proofs.«01_k».proof.Proof.RefModel
public import proofs.«01_k».proof.Proof.RefGather
public import proofs.«01_k».proof.Proof.TopK
public import proofs.«01_k».proof.Proof.KIdx
public import Idealize.ShloMosaic.Lib.Routing.OpsPair

@[expose] public section

set_option maxRecDepth 16384

noncomputable section

namespace Cert.Crf.Ref

open Idealize.ShloMosaic Cert.ReferenceIdeal Cert.ReferenceIdeal.Gen Idealize.ShloMosaic.Pointwise

/-! ## The forward step -/

theorem trans_apply (E : FVec Ideal S1024x128 .f32) (A : FVec Ideal S1024x1024 .f32) (j k : Fin 1024) :
    trans E A (ix2 j k) = max (A (ix2 j k) * ∑ d, E (ix2 j d) * E (ix2 k d)) 0 := by
  pointwise [trans]

/-- A small word is not below zero. -/
theorem small_word {k n : ℕ} (h : k < n) (hn : n ≤ 1024) (w : BitVec 32) :
    Scalar.select (IntOp.cmpi .slt (BitVec.ofNat 32 k) 0#32) w (BitVec.ofNat 32 k) = BitVec.ofNat 32 k :=
  Routing.wrap_of_lt _ _ (by rw [BitVec.toNat_ofNat, Nat.mod_eq_of_lt (by omega)]; omega)

theorem beamIdx_apply (x : FVec Ideal S4x1024 .f32) (b : Fin 4) (r : Fin 5) :
    beamIdx x (ix2 b r) = BitVec.ofNat 32 (five (row4 x b) r).val := by
  pointwise [beamIdx]
  rw [topK5_idx]
  exact small_word (five (row4 x b) r).isLt le_rfl _

theorem reach_apply (x : FVec Ideal S4x1024 .f32) (A : FVec Ideal S1024x1024 .f32) (b : Fin 4) (j : Fin 1024) :
    reach x A (ix2 b j) = ∑ r, A (ix2 (five (row4 x b) r) j) := by
  pointwise [reach]
  refine Finset.sum_congr rfl fun r _ => gather_beam A _ b r j _ ?_
  pointwise
  exact beamIdx_apply x b r

theorem paths_apply (x e : FVec Ideal S4x1024 .f32) (T : FVec Ideal S1024x1024 .f32) (b : Fin 4) (j k : Fin 1024) :
    paths x e T (ix3 b j k) = x (ix2 b k) + T (ix2 j k) + e (ix2 b j) := by
  pointwise [paths]

theorem topOf_apply (z : FVec Ideal S4x1024x1024 .f32) (b : Fin 4) (j : Fin 1024) :
    topOf z (ix3 b j 0) = top fun k => z (ix3 b j k) := by
  pointwise [topOf]
  rw [ofBits_bot]
  rfl

theorem shiftOf_apply (t : FVec Ideal S4x1024x1 .f32) (b : Fin 4) (j : Fin 1024) :
    shiftOf t (ix3 b j 0) = if max (t (ix3 b j 0)) (-t (ix3 b j 0)) < ⊤ then t (ix3 b j 0) else 0 := by
  pointwise [shiftOf]
  rw [ofBits_top]
  exact if_congr Iff.rfl rfl Ideal.ofBits_zero_f32

theorem lse_apply (z : FVec Ideal S4x1024x1024 .f32) (b : Fin 4) (j : Fin 1024) (h : ∀ k, z (ix3 b j k) ≠ ⊤) :
    lse z (ix2 b j) = Ideal.log (∑ k, Ideal.exp (z (ix3 b j k))) := by
  rw [← shifted_lse (fun k => z (ix3 b j k)) h (shiftOf (topOf z) (ix3 b j 0)) (by rw [shiftOf_apply, topOf_apply])]
  pointwise [lse]

/-- The reference's step on a row. -/
theorem nextScore_row (x e : FVec Ideal S4x1024 .f32) (T A : FVec Ideal S1024x1024 .f32) {t : Fin 1024 → Fin 1024 → ℝ}
    (hT : ∀ k j, T (ix2 j k) = (t k j : EReal)) (b : Fin 4) {ev : Fin 1024 → ℝ} (he : ∀ j, e (ix2 b j) = (ev j : EReal))
    (hx : ∀ k, x (ix2 b k) ≠ ⊤) :
    row4 (nextScore x e T A) b = refStep (mat A) t ev (five (row4 x b)) (row4 x b) := by
  funext j
  have hz : ∀ k, paths x e T (ix3 b j k) = x (ix2 b k) + (t k j : EReal) + (ev j : EReal) := fun k => by
    rw [paths_apply, hT, he]
  have hz' : ∀ k, paths x e T (ix3 b j k) ≠ ⊤ := fun k => by
    rw [hz, add_assoc, ← EReal.coe_add]
    exact EReal.add_ne_top (hx k) (EReal.coe_ne_top _)
  show nextScore x e T A (ix2 b j) = _
  pointwise [nextScore]
  rw [reach_apply, lse_apply _ _ _ hz']
  simp_rw [hz]
  exact if_congr Iff.rfl rfl ofBits_bot

/-! ## The normaliser -/

theorem topBest_apply (z : FVec Ideal S4x5 .f32) (b : Fin 4) : topBest z (ix2 b 0) = top fun r => z (ix2 b r) := by
  pointwise [topBest]
  rw [ofBits_bot]
  rfl

theorem shiftBest_apply (t : FVec Ideal S4x1 .f32) (b : Fin 4) :
    shiftBest t (ix2 b 0) = if max (t (ix2 b 0)) (-t (ix2 b 0)) < ⊤ then t (ix2 b 0) else 0 := by
  pointwise [shiftBest]
  rw [ofBits_top]
  exact if_congr Iff.rfl rfl Ideal.ofBits_zero_f32

theorem lseBest_apply (z : FVec Ideal S4x5 .f32) (b : Fin 4) (h : ∀ r, z (ix2 b r) ≠ ⊤) :
    lseBest z (ix1 b) = Ideal.log (∑ r, Ideal.exp (z (ix2 b r))) := by
  rw [← shifted_lse (fun r => z (ix2 b r)) h (shiftBest (topBest z) (ix2 b 0)) (by rw [shiftBest_apply, topBest_apply])]
  pointwise [lseBest]

/-- The normaliser of a sequence. -/
theorem denom_apply (x : FVec Ideal S4x1024 .f32) (b : Fin 4) (hx : ∀ k, x (ix2 b k) ≠ ⊤) :
    denom x (ix1 b) = Ideal.log (∑ r, Ideal.exp (x (ix2 b (five (row4 x b) r)))) + Ideal.ofBits .f32 0x40AA4E1A#32 := by
  pointwise [denom]
  have hb : ∀ r, best x (ix2 b r) = x (ix2 b (five (row4 x b) r)) := fun r => topK5_val x b r
  rw [lseBest_apply _ _ fun r => by rw [hb]; exact hx _]
  simp_rw [hb]

theorem mean_apply (n d : FVec Ideal S4 .f32) (k : IVec S4x20 1) (i : S_.Idx) :
    mean n d k i = Ideal.div (∑ b, (n (ix1 b) - d (ix1 b))) (∑ b, ∑ i, (((k (ix2 b i)).toNat : ℝ) : EReal)) := by
  pointwise [mean]
  rfl

/-! ## The loop's reads -/

/-- A small index read as a start. -/
theorem wrapAt_toInt {k : ℕ} (hk : k < 1024) (c : BitVec 32) (w : IVec S_ 32) (hw : ∀ p, w p = BitVec.ofNat 32 k) (p : S_.Idx) :
    (wrapAt c w p).toInt = (k : ℤ) := by
  show (Scalar.select (IntOp.cmpi .slt (w p) 0#32) (IntOp.addi (w p) c) (w p)).toInt = _
  rw [hw, small_word hk le_rfl, BitVec.toInt_eq_toNat_of_lt] <;> rw [BitVec.toNat_ofNat, Nat.mod_eq_of_lt (by omega)]
  omega

/-- A slice of one row starts at the row it is told. -/
theorem start_row (h : S1x4.rank = S20x4.rank) (v : Fin 2 → IVec S_ 32) (p : S_.Idx) (i : Fin 20) (hi : (v 0 p).toInt = (i.val : ℤ)) :
    Host.clampedStart S20x4 S1x4 h (fun k => (v k p).toInt) 0 = i.val :=
  Host.clampedStart_of_le h _ 0 i.val hi i.isLt

theorem start_seq (h : S1x4.rank = S20x4.rank) (v : Fin 2 → IVec S_ 32) (p : S_.Idx) (hi : (v 1 p).toInt = ((0 : ℕ) : ℤ)) :
    Host.clampedStart S20x4 S1x4 h (fun k => (v k p).toInt) 1 = 0 :=
  Host.clampedStart_of_le h _ 1 0 hi (show 0 + 4 ≤ 4 by omega)

theorem rowAt_apply {α : Type} (x : S20x4.Idx → α) (w : IVec S_ 32) (i : Fin 20) (hw : ∀ p, w p = BitVec.ofNat 32 i.val) (b : Fin 4) :
    rowAt x w (ix1 b) = x (ix2 i b) := by
  pointwise [rowAt]
  have h0 := start_row rfl ![wrapAt 20#32 w, wrapAt 4#32 (constantI S_ 32 0#32)] (Shape.Idx.first h_S_) i
    (wrapAt_toInt (k := i.val) (by omega) 20#32 w hw (Shape.Idx.first h_S_))
  have h1 := start_seq rfl ![wrapAt 20#32 w, wrapAt 4#32 (constantI S_ 32 0#32)] (Shape.Idx.first h_S_)
    (wrapAt_toInt (k := 0) (by omega) 4#32 (constantI S_ 32 0#32) (fun _ => rfl) (Shape.Idx.first h_S_))
  simp only [h0, h1, Nat.zero_add, Fin.eta]

theorem start_step (h : S1x4x1024.rank = S20x4x1024.rank) (v : Fin 3 → IVec S_ 32) (p : S_.Idx) (i : Fin 20) (hi : (v 0 p).toInt = (i.val : ℤ)) :
    Host.clampedStart S20x4x1024 S1x4x1024 h (fun k => (v k p).toInt) 0 = i.val :=
  Host.clampedStart_of_le h _ 0 i.val hi i.isLt

theorem start_four (h : S1x4x1024.rank = S20x4x1024.rank) (v : Fin 3 → IVec S_ 32) (p : S_.Idx) (hi : (v 1 p).toInt = ((0 : ℕ) : ℤ)) :
    Host.clampedStart S20x4x1024 S1x4x1024 h (fun k => (v k p).toInt) 1 = 0 :=
  Host.clampedStart_of_le h _ 1 0 hi (show 0 + 4 ≤ 4 by omega)

theorem start_tag (h : S1x4x1024.rank = S20x4x1024.rank) (v : Fin 3 → IVec S_ 32) (p : S_.Idx) (hi : (v 2 p).toInt = ((0 : ℕ) : ℤ)) :
    Host.clampedStart S20x4x1024 S1x4x1024 h (fun k => (v k p).toInt) 2 = 0 :=
  Host.clampedStart_of_le h _ 2 0 hi (show 0 + 1024 ≤ 1024 by omega)

theorem emAt_apply (em : FVec Ideal S20x4x1024 .f32) (w : IVec S_ 32) (i : Fin 20) (hw : ∀ p, w p = BitVec.ofNat 32 i.val) (b : Fin 4) (j : Fin 1024) :
    emAt em w (ix2 b j) = em (ix3 i b j) := by
  pointwise [emAt]
  have h0 := start_step rfl ![wrapAt 20#32 w, wrapAt 4#32 (constantI S_ 32 0#32), wrapAt 1024#32 (constantI S_ 32 0#32)] (Shape.Idx.first h_S_) i
    (wrapAt_toInt (k := i.val) (by omega) 20#32 w hw (Shape.Idx.first h_S_))
  have h1 := start_four rfl ![wrapAt 20#32 w, wrapAt 4#32 (constantI S_ 32 0#32), wrapAt 1024#32 (constantI S_ 32 0#32)] (Shape.Idx.first h_S_)
    (wrapAt_toInt (k := 0) (by omega) 4#32 (constantI S_ 32 0#32) (fun _ => rfl) (Shape.Idx.first h_S_))
  have h2 := start_tag rfl ![wrapAt 20#32 w, wrapAt 4#32 (constantI S_ 32 0#32), wrapAt 1024#32 (constantI S_ 32 0#32)] (Shape.Idx.first h_S_)
    (wrapAt_toInt (k := 0) (by omega) 1024#32 (constantI S_ 32 0#32) (fun _ => rfl) (Shape.Idx.first h_S_))
  simp only [h0, h1, h2, Nat.zero_add, Fin.eta]

theorem maskStep_apply (m : IVec S4 1) (y x : FVec Ideal S4x1024 .f32) (b : Fin 4) (j : Fin 1024) (hm : m (ix1 b) = 1#1) :
    maskStep m y x (ix2 b j) = y (ix2 b j) := by
  pointwise [maskStep]
  rw [hm]
  rfl

/-! ## The given path -/

theorem wrap4_apply (n : BitVec 32) (w : IVec S4 32) (b : Fin 4) {k : ℕ} (hk : k < 1024) (hw : w (ix1 b) = BitVec.ofNat 32 k) :
    wrap4 n w (ix1 b) = BitVec.ofNat 32 k := by
  pointwise [wrap4]
  rw [hw]
  exact small_word hk le_rfl _

theorem col_apply (w : IVec S4 32) (b : Fin 4) : col w (ix2 b 0) = w (ix1 b) := by
  pointwise [col]

theorem roads_apply (E : FVec Ideal S1024x128 .f32) (t : IVec S4 32) (b : Fin 4) (d : Fin 128) (k : Fin 1024) (hk : t (ix1 b) = BitVec.ofNat 32 k.val) :
    roads E t (ix2 b d) = E (ix2 k d) :=
  gather_road E _ b d k ((col_apply _ b).trans (wrap4_apply _ t b k.isLt hk))

theorem pathStep_apply (E : FVec Ideal S1024x128 .f32) (A : FVec Ideal S1024x1024 .f32) (t1 t2 : IVec S4 32) (b : Fin 4) (k j : Fin 1024)
    (hk : t1 (ix1 b) = BitVec.ofNat 32 k.val) (hj : t2 (ix1 b) = BitVec.ofNat 32 j.val) :
    pathStep E A t1 t2 (ix1 b) = A (ix2 k j) * max (∑ d, E (ix2 k d) * E (ix2 j d)) 0 := by
  pointwise [pathStep]
  rw [gather_pair A _ b k j ?_ ?_]
  · simp_rw [roads_apply E t1 b _ k hk, roads_apply E t2 b _ j hj]
  · pointwise
    rw [col_apply]
    exact wrap4_apply _ t1 b k.isLt hk
  · pointwise
    rw [col_apply]
    exact wrap4_apply _ t2 b j.isLt hj

theorem pathEm_apply (em : FVec Ideal S20x4x1024 .f32) (w : IVec S_ 32) (bi t : IVec S4 32) (b : Fin 4) (i : Fin 20) (k : Fin 1024)
    (hw : ∀ p, w p = BitVec.ofNat 32 i.val) (hb : bi (ix1 b) = BitVec.ofNat 32 b.val) (hk : t (ix1 b) = BitVec.ofNat 32 k.val) :
    pathEm em w bi t (ix1 b) = em (ix3 i b k) := by
  unfold pathEm
  refine gather_em em _ b i b k ?_ ?_ ?_
  · pointwise
    rw [col_apply]
    pointwise
    exact hw _
  · pointwise
    rw [col_apply]
    exact wrap4_apply _ bi b (by omega) hb
  · pointwise
    rw [col_apply]
    exact wrap4_apply _ t b k.isLt hk

theorem numStep_apply (n p e m : FVec Ideal S4 .f32) (b : Fin 4) (hm : m (ix1 b) = 1) :
    numStep n p e m (ix1 b) = n (ix1 b) + p (ix1 b) + e (ix1 b) := by
  pointwise [numStep]
  rw [hm, mul_one, mul_one]

end Cert.Crf.Ref

end
-- ==== Proof.Pass.lean ====
/-
  The kernel's two forward passes against the reference's: the exact pass has the reference's scores, the scaled
  pass their exponentials over a scale whose logarithm it keeps; and the normaliser of either is the reference's.
-/
module

public import proofs.«01_k».proof.Proof.KIdx
public import proofs.«01_k».proof.Proof.TopK

@[expose] public section

set_option maxRecDepth 16384

noncomputable section

namespace Cert.Crf

open Idealize.ShloMosaic Cert.KernelIdeal Cert.KernelIdeal.Gen Idealize.ShloMosaic.Pointwise

/-- A sequence's forward scores, as the reference makes them: `e n` are the emissions of step `n`. -/
def fwd (A : Fin 1024 → Fin 1024 → EReal) (t : Fin 1024 → Fin 1024 → ℝ) (e : ℕ → Fin 1024 → ℝ) (n : ℕ) : Fin 1024 → EReal :=
  Nat.rec (fun k => (e 0 k : EReal)) (fun n x => refStep A t (e (n + 1)) (five x) x) n

theorem fwd_succ (A : Fin 1024 → Fin 1024 → EReal) (t : Fin 1024 → Fin 1024 → ℝ) (e : ℕ → Fin 1024 → ℝ) (n : ℕ) :
    fwd A t e (n + 1) = refStep A t (e (n + 1)) (five (fwd A t e n)) (fwd A t e n) := rfl

theorem fwd_ne_top (A : Fin 1024 → Fin 1024 → EReal) (t : Fin 1024 → Fin 1024 → ℝ) (e : ℕ → Fin 1024 → ℝ) :
    ∀ n k, fwd A t e n k ≠ ⊤
  | 0, _ => EReal.coe_ne_top _
  | n + 1, k => refStep_ne_top A t _ _ (fwd_ne_top A t e n) k

/-- The logarithm of the sum of the exponentials of a row's five greatest entries. -/
abbrev bestLse (x : Fin 1024 → EReal) : EReal := Ideal.log (∑ r : Fin 5, Ideal.exp (x (five x r)))

/-- The beam's entries are real numbers. -/
theorem beam_real {x : Fin 1024 → EReal} {s : Fin 5 → Fin 1024} (hs : Beam x s) (h : ∀ k, x k ≠ ⊤) :
    ∃ y : Fin 5 → ℝ, ∀ r, x (s r) = (y r : EReal) :=
  ⟨fun r => (x (s r)).toReal, fun r => (EReal.coe_toReal (h _) (hs.pos_at r).ne').symm⟩

theorem bestLse_real {x : Fin 1024 → EReal} (hs : Beam x (five x)) {y : Fin 5 → ℝ} (hy : ∀ r, x (five x r) = (y r : EReal)) :
    bestLse x = (Real.log (∑ r, Real.exp (y r)) : EReal) := by
  unfold bestLse
  simp_rw [hy, Ideal.exp_coe]
  rw [coe_sum, log_pos (Finset.sum_pos (fun r _ => Real.exp_pos _) Finset.univ_nonempty)]

/-! ## What the passes start from -/

section
variable {EM : FVec Ideal S80x1024 .f32} {A T : FVec Ideal S1024x1024 .f32} {t : Fin 1024 → Fin 1024 → ℝ}
  {e : Fin 4 → ℕ → Fin 1024 → ℝ} (hT : ∀ k j, T (ix2 k j) = (t k j : EReal))
  (he : ∀ (b : Fin 4) (i : Fin 20) (k : Fin 1024), EM (ix2 (pos b i) k) = (e b i.val k : EReal))
include hT he

omit he in
/-- The greatest transition into a tag, and the scaled exponentials of the transitions. -/
theorem prepared : ∃ r : Fin 1024 → ℝ, (∀ j, colMax T (ix2 0 j) = (r j : EReal)) ∧
    ∀ k j, mat (wexp T) k j = ((Real.exp (t k j - r j) : ℝ) : EReal) := by
  choose r hr _ _ using fun j => top_real fun k => t k j
  refine ⟨r, fun j => ?_, fun k j => ?_⟩
  · rw [colMax_apply]
    simp_rw [hT]
    exact hr j
  · show wexp T (ix2 k j) = _
    rw [wexp_apply]
    simp_rw [hT]
    rw [hr, ← EReal.coe_sub, Ideal.exp_coe]

omit hT in
theorem em_row (i : Fin 20) (b : Fin 4) (k : Fin 1024) : emStep EM i (ix2 b k) = (e b i.val k : EReal) := by
  rw [emStep_apply, he]

omit hT in
theorem er_row {r : Fin 1024 → ℝ} (hr : ∀ j, colMax T (ix2 0 j) = (r j : EReal)) {n : ℕ} (hn : n < 19) (b : Fin 4) (j : Fin 1024) :
    row4 (erStep EM (colMax T) n) b j = ((e b (n + 1) j + r j : ℝ) : EReal) := by
  show erStep EM (colMax T) n (ix2 b j) = _
  rw [erStep_apply, em_row he, hr, ← EReal.coe_add]
  have : (Fin.ofNat 20 (n + 1)).val = n + 1 := Nat.mod_eq_of_lt (by omega)
  rw [this]

/-! ## The exact pass -/

/-- The exact pass has the reference's scores. -/
theorem scores_row (b : Fin 4) (hb : ∀ n < 19, Beam (fwd (mat A) t (e b) n) (five (fwd (mat A) t (e b) n))) :
    ∀ n ≤ 19, row4 (scores EM A T n) b = fwd (mat A) t (e b) n
  | 0, _ => funext fun k => em_row he 0 b k
  | n + 1, hn => by
    obtain ⟨r, hr, hW⟩ := prepared hT
    show row4 (snext (wexp T) A (erStep EM (colMax T) n) (scores EM A T n)) b = _
    rw [snext_row, scores_row b hb n (by omega), fwd_succ]
    exact exactStep_eq hW (er_row he hr (by omega) b) (hb n (by omega)) (fwd_ne_top _ _ _ n)

/-- The exact pass's normaliser is the reference's. -/
theorem exactDen_apply (b : Fin 4) (hb : ∀ n < 20, Beam (fwd (mat A) t (e b) n) (five (fwd (mat A) t (e b) n))) :
    exactDen EM A T (ix2 b 0) = bestLse (fwd (mat A) t (e b) 19) + Ideal.ofBits .f32 0x40AA4E1A#32 := by
  pointwise [exactDen]
  rw [lse5_apply, scores_row hT he b (fun n hn => hb n (by omega)) 19 le_rfl]
  have hs := hb 19 (by norm_num)
  have h0 := fwd_ne_top (mat A) t (e b) 19
  generalize fwd (mat A) t (e b) 19 = x at hs h0
  obtain ⟨y, hy⟩ := beam_real hs h0
  have hr : ∀ r : Fin 4, top (dropTop^[r.val + 1] x) = (y r.succ : EReal) := fun r => (hs.top_round r.succ).trans (hy _)
  congr 1
  rw [hs.top_eq, hy, bestLse_real hs hy]
  simp_rw [hr, EReal.coe_ne_bot, if_false, ← EReal.coe_sub, Ideal.exp_coe]
  rw [coe_sum, ← EReal.coe_one, ← EReal.coe_add, log_pos (add_pos_of_pos_of_nonneg one_pos (Finset.sum_nonneg fun r _ => (Real.exp_pos _).le)),
    ← EReal.coe_add]
  congr 1
  have hsum : ∑ r, Real.exp (y r) = Real.exp (y 0) * (1 + ∑ r : Fin 4, Real.exp (y r.succ - y 0)) := by
    rw [Fin.sum_univ_succ, mul_add, mul_one, Finset.mul_sum]
    congr 1
    refine Finset.sum_congr rfl fun r _ => ?_
    rw [← Real.exp_add]
    congr 1
    ring
  rw [hsum, Real.log_mul (Real.exp_pos _).ne' (add_pos_of_pos_of_nonneg one_pos (Finset.sum_nonneg fun r _ => (Real.exp_pos _).le)).ne',
    Real.log_exp]

/-! ## The scaled pass -/

omit hT he in
/-- Exponentials over a scale keep a beam. -/
theorem beam_scaled {x V : Fin 1024 → EReal} {u : Fin 1024 → ℝ} {β : ℝ} {s : Fin 5 → Fin 1024} (hs : Beam x s)
    (hx : ∀ k, x k = (u k : EReal)) (hV : ∀ k, V k = ((Real.exp (u k - β) : ℝ) : EReal)) : Beam V s := by
  refine hs.map (fun k l h => ?_) (by rw [hV]; exact EReal.bot_lt_coe _)
  rw [hx, hx, EReal.coe_lt_coe_iff] at h
  rw [hV, hV, EReal.coe_lt_coe_iff]
  exact Real.exp_lt_exp.mpr (by linarith)

/-- Where the beam reaches every tag at every step but the last, the scaled pass has the exponentials of the
    reference's scores. -/
theorem vees_row (b : Fin 4) (hb : ∀ n < 19, Beam (fwd (mat A) t (e b) n) (five (fwd (mat A) t (e b) n)))
    (hok : ∀ n < 19, ∀ j, 0 < ∑ k, marks (row4 (vees EM T n) b) k * A (ix2 k j)) :
    ∀ n ≤ 19, ∃ (u : Fin 1024 → ℝ) (β : ℝ), (∀ k, fwd (mat A) t (e b) n k = (u k : EReal)) ∧
      (∀ k, row4 (vees EM T n) b k = ((Real.exp (u k - β) : ℝ) : EReal)) ∧ blog EM T n (ix2 b 0) = (β : EReal)
  | 0, _ => by
    obtain ⟨β, hβ, -⟩ := top_real (e b 0)
    have hm : rowMax4 (emStep EM 0) (ix2 b 0) = (β : EReal) := by
      rw [rowMax4_apply, ← hβ]
      exact congrArg top (funext fun k => em_row he 0 b k)
    refine ⟨e b 0, β, fun k => rfl, fun k => ?_, hm⟩
    show exp (subf (emStep EM 0) (wide4 (rowMax4 (emStep EM 0)))) (ix2 b k) = _
    pointwise
    rw [wide4_apply, hm, em_row he, ← EReal.coe_sub, Ideal.exp_coe]
    rfl
  | n + 1, hn => by
    obtain ⟨r, hr, hW⟩ := prepared hT
    obtain ⟨u, β, hx, hV, hβ⟩ := vees_row b hb hok n (by omega)
    have hs := hb n (by omega)
    have hVs := beam_scaled hs hx hV
    have hA : ∀ j, ∑ r, mat A (five (fwd (mat A) t (e b) n) r) j ≠ 0 := fun j => by
      have := hok n (by omega) j
      rw [hVs.marks_dot fun k => A (ix2 k j)] at this
      exact this.ne'
    obtain ⟨β', hβ', hV'⟩ := fastStep_eq hW (er_row he hr (n := n) (by omega) b) hV
    refine ⟨realStep t (e b (n + 1)) u, β', fun k => ?_, fun k => ?_, ?_⟩
    · rw [fwd_succ]
      exact refStep_real t _ hx hA k
    · show row4 (vnext (wexp T) (erStep EM (colMax T) n) (vees EM T n)) b k = _
      rw [vnext_row]
      exact hV' k
    · show addf (addf (blog EM T n) (log (rowMax4 (vees EM T n)))) (rowMax4 (erStep EM (colMax T) n)) (ix2 b 0) = _
      pointwise
      rw [rowMax4_apply, rowMax4_apply, hβ]
      exact hβ'

/-- The scaled pass's normaliser is the reference's, where the kernel answers by it. -/
theorem fastDen_apply (b : Fin 4) (hb : ∀ n < 20, Beam (fwd (mat A) t (e b) n) (five (fwd (mat A) t (e b) n)))
    (hok : fastOk (stacked (vees EM T)) A = 1#1) :
    fastDen EM T (ix2 b 0) = bestLse (fwd (mat A) t (e b) 19) + Ideal.ofBits .f32 0x40AA4E1A#32 := by
  rw [fastOk_iff] at hok
  have hok' : ∀ n < 19, ∀ j, 0 < ∑ k, marks (row4 (vees EM T n) b) k * A (ix2 k j) := fun n hn j => by
    have := hok ⟨4 * n + b.val, by omega⟩ j
    rw [stacked_row (vees EM T) ⟨n, by omega⟩ b] at this
    exact this
  obtain ⟨u, β, hx, hV, hβ⟩ := vees_row hT he b (fun n hn => hb n (by omega)) hok' 19 le_rfl
  have hs := hb 19 (by norm_num)
  have hVs := beam_scaled hs hx hV
  have hrow : row80 (stacked (vees EM T)) ⟨76 + b.val, by omega⟩ = row4 (vees EM T 19) b :=
    stacked_row (vees EM T) 19 b
  pointwise [fastDen]
  rw [vsum_apply, hrow, hβ, bestLse_real hs fun r => hx _]
  have hr : ∀ r : Fin 4, max (top (dropTop^[r.val + 1] (row4 (vees EM T 19) b))) 0
      = ((Real.exp (u (five (fwd (mat A) t (e b) 19) r.succ) - β) : ℝ) : EReal) := fun r => by
    have h5 : top (dropTop^[r.val + 1] (row4 (vees EM T 19) b))
        = ((Real.exp (u (five (fwd (mat A) t (e b) 19) r.succ) - β) : ℝ) : EReal) := (hVs.top_round r.succ).trans (hV _)
    rw [h5, max_eq_left]
    exact_mod_cast (Real.exp_pos _).le
  congr 1
  simp_rw [hr]
  rw [hVs.top_eq, hV, coe_sum, ← EReal.coe_add, ← Fin.sum_univ_succ (f := fun r => Real.exp (u (five (fwd (mat A) t (e b) 19) r) - β)),
    log_pos (Finset.sum_pos (fun r _ => Real.exp_pos _) Finset.univ_nonempty), ← EReal.coe_add]
  congr 1
  have hsum : ∑ r, Real.exp (u (five (fwd (mat A) t (e b) 19) r) - β) = (∑ r, Real.exp (u (five (fwd (mat A) t (e b) 19) r))) * Real.exp (-β) := by
    rw [Finset.sum_mul]
    refine Finset.sum_congr rfl fun r _ => ?_
    rw [← Real.exp_add]
    congr 1
  rw [hsum, Real.log_mul (Finset.sum_pos (fun r _ => Real.exp_pos _) Finset.univ_nonempty).ne' (Real.exp_pos _).ne', Real.log_exp]
  ring

end

end Cert.Crf

end
-- ==== Proof.Given.lean ====
/-
  The arguments the precondition admits, as real numbers and tags, and what is made of them: the transition scores
  and the gain of each step of the given path.
-/
module

public import proofs.«01_k».proof.Proof.Pass

@[expose] public section

noncomputable section

namespace Cert.Crf

open Idealize.ShloMosaic Idealize.ShloMosaic.Pointwise

/-- The arguments' values: emissions `e`, embeddings `v`, adjacency `a`, tags `tag`; the mask is on. -/
structure Given (EM : FVec Ideal ⟨3, ![4, 20, 1024]⟩ .f32) (tg : IVec ⟨2, ![4, 20]⟩ 32) (E : FVec Ideal ⟨2, ![1024, 128]⟩ .f32)
    (A : FVec Ideal ⟨2, ![1024, 1024]⟩ .f32) (k : IVec ⟨2, ![4, 20]⟩ 1) where
  e : Fin 4 → Fin 20 → Fin 1024 → ℝ
  v : Fin 1024 → Fin 128 → ℝ
  a : Fin 1024 → Fin 1024 → ℝ
  tag : Fin 4 → Fin 20 → Fin 1024
  hEM : ∀ b i j, EM (ix3 b i j) = (e b i j : EReal)
  hE : ∀ j d, E (ix2 j d) = (v j d : EReal)
  hA : ∀ j j', A (ix2 j j') = (a j j' : EReal)
  nonneg : ∀ j j', 0 ≤ a j j'
  hTag : ∀ b i, tg (ix2 b i) = BitVec.ofNat 32 (tag b i).val
  hMask : ∀ b i, k (ix2 b i) = 1#1

namespace Given

variable {EM : FVec Ideal ⟨3, ![4, 20, 1024]⟩ .f32} {tg : IVec ⟨2, ![4, 20]⟩ 32} {E : FVec Ideal ⟨2, ![1024, 128]⟩ .f32}
  {A : FVec Ideal ⟨2, ![1024, 1024]⟩ .f32} {k : IVec ⟨2, ![4, 20]⟩ 1} (g : Given EM tg E A k)

/-- The likeness of two roads. -/
def dot (k j : Fin 1024) : ℝ := ∑ d, g.v k d * g.v j d

theorem dot_comm (k j : Fin 1024) : g.dot k j = g.dot j k := Finset.sum_congr rfl fun d _ => mul_comm _ _

theorem dot_coe (k j : Fin 1024) : ∑ d, E (ix2 k d) * E (ix2 j d) = (g.dot k j : EReal) := by
  simp_rw [g.hE, ← EReal.coe_mul]
  rw [coe_sum]
  rfl

/-- The transition score from `k` to `j`. -/
def t (k j : Fin 1024) : ℝ := max (g.a j k * g.dot k j) 0

/-- The emissions of step `n`. -/
def es (b : Fin 4) (n : ℕ) : Fin 1024 → ℝ := g.e b (Fin.ofNat 20 n)
/-- The tag of step `n`. -/
def tags (b : Fin 4) (n : ℕ) : Fin 1024 := g.tag b (Fin.ofNat 20 n)

theorem ofNat_val (i : Fin 20) : Fin.ofNat 20 i.val = i := Fin.ext (Nat.mod_eq_of_lt i.isLt)

/-- The gain of the transition into step `n` of the path. -/
def hop (b : Fin 4) (n : ℕ) : ℝ := if n = 0 then 0 else g.a (g.tags b (n - 1)) (g.tags b n) * max (g.dot (g.tags b (n - 1)) (g.tags b n)) 0

/-- The gain of step `n` of the path. -/
def gain (b : Fin 4) (n : ℕ) : ℝ := g.hop b n + g.es b n (g.tags b n)

/-- The forward scores of a sequence after `n` steps. -/
abbrev fw (b : Fin 4) (n : ℕ) : Fin 1024 → EReal := fwd (mat A) g.t (g.es b) n

theorem coe_max (x y : ℝ) : max (x : EReal) (y : EReal) = ((max x y : ℝ) : EReal) := (EReal.coe_strictMono.monotone.map_max).symm

/-- The rectification passes over a factor that is not negative. -/
theorem relu_mul {x : ℝ} (hx : 0 ≤ x) (y : ℝ) : max (x * y) 0 = x * max y 0 := by
  rw [mul_max_of_nonneg _ _ hx, mul_zero]

end Given

end Cert.Crf

end
-- ==== Proof.RefLoop.lean ====
/-
  The reference's loop at the arguments the precondition admits: after `n` trips it holds the forward scores of
  step `n` and the gains of the path up to it; and the value it makes of them.
-/
module

public import proofs.«01_k».proof.Proof.RefEntry
public import proofs.«01_k».proof.Proof.RefIdx
public import proofs.«01_k».proof.Proof.Given

@[expose] public section

set_option maxRecDepth 16384

noncomputable section

namespace Cert.Crf.Ref

open Idealize.ShloMosaic Idealize.ShloMosaic.TcCoe Cert.ReferenceIdeal Cert.ReferenceIdeal.Gen Cert.ReferenceIdeal.Value Idealize.ShloMosaic.Pointwise
open Idealize.SL.Sem Idealize.ShloMosaic.StableHlo

/-- What a trip does not write stays as it was. -/
theorem iter_keep {F : FTy → Type} [FloatOps F] {r : DevRef τ sig} (h : ∀ V : Valuation τ sig (Elt F), STEP V r = V r) (V : Valuation τ sig (Elt F)) :
    ∀ n, (STEP^[n] V) r = V r
  | 0 => rfl
  | n + 1 => by rw [Function.iterate_succ_apply', h]; exact iter_keep h V n

variable (m : (ℓ : Loc nD τ sig) → Buf (Elt Ideal) ℓ) (c : Dev nD)

/-- The contents after `n` trips. -/
abbrev at' (n : ℕ) : Valuation τ sig (Elt Ideal) := STEP^[n] (entry m c)

theorem at_0 (n : ℕ) : at' m c n (Proc.devRef .tc main_v30_0) = byStep (m ((c.tc : Thread nD τ).loc main_arg1)) := (iter_keep STEP_main_v30_0 _ n).trans (entry_0 m c)
theorem at_1 (n : ℕ) : at' m c n (Proc.devRef .tc main_v30_1) = m ((c.tc : Thread nD τ).loc main_arg2) := (iter_keep STEP_main_v30_1 _ n).trans (entry_1 m c)
theorem at_2 (n : ℕ) : at' m c n (Proc.devRef .tc main_v30_2) = m ((c.tc : Thread nD τ).loc main_arg3) := (iter_keep STEP_main_v30_2 _ n).trans (entry_2 m c)
theorem at_3 (n : ℕ) : at' m c n (Proc.devRef .tc main_v30_3) = (uitofp .f32 (byStep (m ((c.tc : Thread nD τ).loc main_arg4))) : FVec Ideal S20x4 .f32) := (iter_keep STEP_main_v30_3 _ n).trans (entry_3 m c)
theorem at_4 (n : ℕ) : at' m c n (Proc.devRef .tc main_v30_4) = (iotaInDim S4 32 0 : IVec S4 32) := (iter_keep STEP_main_v30_4 _ n).trans (entry_4 m c)
theorem at_5 (n : ℕ) : at' m c n (Proc.devRef .tc main_v30_5) = emT (F := Ideal) (m ((c.tc : Thread nD τ).loc main_arg0)) := (iter_keep STEP_main_v30_5 _ n).trans (entry_5 m c)
theorem at_6 (n : ℕ) : at' m c n (Proc.devRef .tc main_v30_6) = trans (F := Ideal) (m ((c.tc : Thread nD τ).loc main_arg2)) (m ((c.tc : Thread nD τ).loc main_arg3)) := (iter_keep STEP_main_v30_6 _ n).trans (entry_6 m c)
theorem at_7 (n : ℕ) : at' m c n (Proc.devRef .tc main_v30_7) = byStep (m ((c.tc : Thread nD τ).loc main_arg4)) := (iter_keep STEP_main_v30_7 _ n).trans (entry_7 m c)

/-- The loop's index. -/
theorem at_9 : ∀ n, at' m c n (Proc.devRef .tc main_v30_9) = constantI S_ 32 (BitVec.ofNat 32 (n + 1))
  | 0 => entry_9 m c
  | n + 1 => by
    show (STEP^[n + 1] (entry m c)) (Proc.devRef .tc main_v30_9) = _
    rw [Function.iterate_succ_apply', STEP_main_v30_9]
    show addi (at' m c n (Proc.devRef .tc main_v30_9)) (constantI S_ 32 1#32) = _
    rw [at_9 n]
    funext i
    show BitVec.ofNat 32 (n + 1) + 1#32 = BitVec.ofNat 32 (n + 1 + 1)
    exact (BitVec.ofNat_add ..).symm

/-! ## At the given arguments -/

/-- An array by step read at a step. -/
theorem byStep_apply {α : Type} (x : S4x20.Idx → α) (i : Fin 20) (b : Fin 4) : byStep x (ix2 i b) = x (ix2 b i) := by
  pointwise [byStep]

theorem emT_apply (x : FVec Ideal S4x20x1024 .f32) (i : Fin 20) (b : Fin 4) (j : Fin 1024) : emT x (ix3 i b j) = x (ix3 b i j) := by
  pointwise [emT]

theorem tag0_apply (x : IVec S4x20 32) (b : Fin 4) : tag0 x (ix1 b) = x (ix2 b 0) := by
  pointwise [tag0, byStep]

theorem em0_apply (x : FVec Ideal S4x20x1024 .f32) (b : Fin 4) (j : Fin 1024) : em0 x (ix2 b j) = x (ix3 b 0 j) := by
  pointwise [em0, emT]

variable {m c}
variable (g : Given (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)))

/-- The transition scores. -/
theorem trans_real {EM : FVec Ideal S4x20x1024 .f32} {tg : IVec S4x20 32} {E : FVec Ideal S1024x128 .f32} {A : FVec Ideal S1024x1024 .f32}
    {k : IVec S4x20 1} (g : Given EM tg E A k) (k j : Fin 1024) : trans E A (ix2 j k) = (g.t k j : EReal) := by
  rw [trans_apply, g.dot_coe, g.hA, ← EReal.coe_mul, ← EReal.coe_zero, Given.coe_max, g.dot_comm]
  rfl

/-- The word of the loop's index names the step. -/
theorem step_word {n : ℕ} (hn : n < 19) (p : S_.Idx) :
    (constantI S_ 32 (BitVec.ofNat 32 (n + 1)) : IVec S_ 32) p = BitVec.ofNat 32 (Fin.ofNat 20 (n + 1)).val := by
  have : (Fin.ofNat 20 (n + 1)).val = n + 1 := Nat.mod_eq_of_lt (by omega)
  rw [this]
  rfl

include g in
/-- The forward scores after `n` trips. -/
theorem score_at (b : Fin 4) : ∀ n ≤ 19, row4 (at' m c n (Proc.devRef .tc main_v30_11)) b = g.fw b n
  | 0, _ => by
    funext j
    show (entry m c (Proc.devRef .tc main_v30_11) : FVec Ideal S4x1024 .f32) (ix2 b j) = _
    rw [entry_11, em0_apply, g.hEM]
    rfl
  | n + 1, hn => by
    have ih := score_at b n (by omega)
    rw [show at' m c (n + 1) = STEP (at' m c n) from Function.iterate_succ_apply' ..]
    rw [STEP_main_v30_11, score_step, at_7, at_9, at_5, at_6, at_2]
    have hw := step_word (n := n) (by omega)
    generalize constantI S_ 32 (BitVec.ofNat 32 (n + 1)) = w at hw
    generalize (at' m c n (Proc.devRef .tc main_v30_11)) = x at ih
    funext j
    show maskStep _ _ _ (ix2 b j) = _
    rw [maskStep_apply _ _ _ _ _ (by rw [rowAt_apply _ w _ hw, byStep_apply, g.hMask])]
    refine (congrFun (nextScore_row x _ _ _ (trans_real g) b (ev := g.es b (n + 1)) (fun j => ?_) (fun k => ?_)) j).trans ?_
    · rw [emAt_apply _ w _ hw, emT_apply, g.hEM]
      rfl
    · rw [show x (ix2 b k) = row4 x b k from rfl, ih]
      exact fwd_ne_top _ _ _ _ _
    · rw [ih]
      rfl

include g in
/-- The gains of the path after `n` trips. -/
theorem num_at (b : Fin 4) : ∀ n ≤ 19, (at' m c n (Proc.devRef .tc main_v30_10) : FVec Ideal S4 .f32) (ix1 b)
    = ((∑ i ∈ Finset.range (n + 1), g.gain b i : ℝ) : EReal)
  | 0, _ => by
    show (entry m c (Proc.devRef .tc main_v30_10) : FVec Ideal S4 .f32) (ix1 b) = _
    have hw : ∀ p, (constantI S_ 32 0#32 : IVec S_ 32) p = BitVec.ofNat 32 (0 : Fin 20).val := fun _ => rfl
    rw [entry_10, pathEm_apply _ _ _ _ b 0 (g.tags b 0) hw ?_ ?_, emT_apply, g.hEM]
    · simp [Given.gain, Given.hop, Given.es]
    · pointwise
    · rw [tag0_apply, g.hTag]
      rfl
  | n + 1, hn => by
    have ih := num_at b n (by omega)
    rw [show at' m c (n + 1) = STEP (at' m c n) from Function.iterate_succ_apply' ..]
    rw [STEP_main_v30_10, num_step, at_0, at_1, at_2, at_3, at_4, at_5, at_9]
    have hw := step_word (n := n) (by omega)
    have hw' : ∀ p, (subi (constantI S_ 32 (BitVec.ofNat 32 (n + 1))) (constantI S_ 32 1#32) : IVec S_ 32) p = BitVec.ofNat 32 (Fin.ofNat 20 n).val := fun p => by
      have h1 : (Fin.ofNat 20 n).val = n := Nat.mod_eq_of_lt (by omega)
      rw [h1]
      show BitVec.ofNat 32 (n + 1) - 1#32 = _
      rw [BitVec.ofNat_add]
      exact BitVec.add_sub_cancel _ _
    have hw2 : ∀ p, wrapAt 20#32 (constantI S_ 32 (BitVec.ofNat 32 (n + 1))) p = BitVec.ofNat 32 (Fin.ofNat 20 (n + 1)).val := fun p => by
      show Scalar.select (IntOp.cmpi .slt ((constantI S_ 32 (BitVec.ofNat 32 (n + 1)) : IVec S_ 32) p) 0#32) _ ((constantI S_ 32 (BitVec.ofNat 32 (n + 1)) : IVec S_ 32) p) = _
      rw [hw]
      exact small_word (n := 20) (Fin.isLt _) (by norm_num) _
    have ht : ∀ (w : IVec S_ 32) (i : Fin 20), (∀ p, w p = BitVec.ofNat 32 i.val) → rowAt (byStep (m ((c.tc : Thread nD τ).loc main_arg1))) w (ix1 b) = BitVec.ofNat 32 (g.tag b i).val := fun w i h => by
      rw [rowAt_apply _ w i h, byStep_apply, g.hTag]
    rw [numStep_apply _ _ _ _ b ?_, ih, pathStep_apply _ _ _ _ b (g.tags b n) (g.tags b (n + 1)) (ht _ _ hw') (ht _ _ hw),
      pathEm_apply _ _ _ _ b _ (g.tags b (n + 1)) hw2 ?_ (ht _ _ hw), emT_apply, g.hEM, g.dot_coe, g.hA, ← EReal.coe_zero, Given.coe_max,
      ← EReal.coe_mul, ← EReal.coe_add, ← EReal.coe_add]
    · congr 1
      rw [Finset.sum_range_succ _ (n + 1), add_assoc]
      rfl
    · pointwise
    · rw [rowAt_apply _ _ _ hw]
      pointwise
      rw [g.hMask]
      show ((((1#1 : BitVec 1).toNat : ℝ)) : EReal) = 1
      norm_num

/-- The reference's value. -/
def value (b : Fin 4 → ℝ) (d : Fin 4 → EReal) : EReal := Ideal.div (∑ q, ((b q : EReal) - d q)) ((80 : ℝ) : EReal)

include g in
/-- The reference's result. -/
theorem result_at (i : S_.Idx) : (out_main_v50 (at' m c 19) : FVec Ideal S_ .f32) i
    = value (fun b => ∑ i ∈ Finset.range 20, g.gain b i) (fun b => bestLse (g.fw b 19) + Ideal.ofBits .f32 0x40AA4E1A#32) := by
  rw [result_eq, mean_apply]
  unfold value
  congr 1
  · refine Finset.sum_congr rfl fun b _ => ?_
    rw [num_at g b 19 le_rfl, denom_apply _ _ fun k => ?_]
    · have := score_at g b 19 le_rfl
      rw [this]
      congr 2
      refine congrArg Ideal.log (Finset.sum_congr rfl fun r _ => ?_)
      exact congrArg Ideal.exp (congrFun this _)
    · rw [show (at' m c 19 (Proc.devRef .tc main_v30_11) : FVec Ideal S4x1024 .f32) (ix2 b k) = row4 (at' m c 19 (Proc.devRef .tc main_v30_11)) b k from rfl,
        score_at g b 19 le_rfl]
      exact fwd_ne_top _ _ _ _ _
  · have hk : ∀ b i, (at' m c 19 (Proc.devRef .tc main_arg4) : IVec S4x20 1) (ix2 b i) = 1#1 := fun b i => by
      exact (congrFun (iter_main_arg4 m c 19) _).trans (g.hMask b i)
    simp_rw [hk]
    have : ∀ (x : Fin 4) (y : Fin 20), (((1#1 : BitVec 1).toNat : ℝ) : EReal) = ((1 : ℝ) : EReal) := fun _ _ => by norm_num
    simp_rw [this 0 0, coe_sum]
    norm_num

end Cert.Crf.Ref

end
-- ==== Proof.PreRead.lean ====
/-
  What the precondition says of the arguments: they are real numbers, tags and a mask that is on (`Given`), and at
  every step the five greatest forward scores of a sequence are told apart, from each other and from the rest.
-/
module

public import proofs.«01_k».proof.Proof.PreEq
public import proofs.«01_k».proof.Proof.RefLoop
public import Idealize.ShloMosaic.Lib.ReduceAll
public import Idealize.ShloMosaic.Lib.StableHlo.Predicate

@[expose] public section

set_option maxRecDepth 16384

noncomputable section

namespace Cert.Crf.Pre

open Idealize.ShloMosaic Cert.ReferenceIdeal Cert.ReferenceIdeal.Gen Cert.Crf.Ref Idealize.ShloMosaic.Pointwise

theorem ofBool_one {p : Prop} [Decidable p] (h : BitVec.ofBool (decide p) = 1#1) : p := by
  by_contra hn
  simp [hn] at h

/-- A value whose magnitude is below `⊤` is a real number. -/
theorem real_of_abs {x : EReal} (h : max x (-x) < ⊤) : ∃ r : ℝ, x = (r : EReal) := by
  induction x using EReal.rec with
  | bot => simp at h
  | coe r => exact ⟨r, rfl⟩
  | top => simp at h

variable {EM : FVec Ideal S4x20x1024 .f32} {tg : IVec S4x20 32} {E : FVec Ideal S1024x128 .f32} {A : FVec Ideal S1024x1024 .f32}
  {k : IVec S4x20 1}

instance : Subsingleton S_.Idx := ⟨fun a b => funext fun i => i.elim0⟩

theorem em_real {p : S_.Idx} (h : emFinite EM p = 1#1) (b : Fin 4) (i : Fin 20) (j : Fin 1024) : ∃ r : ℝ, EM (ix3 b i j) = (r : EReal) := by
  have := Host.reduce_andi_all _ _ _ _ _ h (ix3 b i j)
  pointwise at this
  rw [ofBits_top] at this
  exact real_of_abs (ofBool_one this)

theorem roads_real {p : S_.Idx} (h : roadsFinite E p = 1#1) (j : Fin 1024) (d : Fin 128) : ∃ r : ℝ, E (ix2 j d) = (r : EReal) := by
  have := Host.reduce_andi_all _ _ _ _ _ h (ix2 j d)
  pointwise at this
  rw [ofBits_top] at this
  exact real_of_abs (ofBool_one this)

theorem adj_real {p : S_.Idx} (h : adjDrawn A p = 1#1) (j j' : Fin 1024) : ∃ r : ℝ, 0 ≤ r ∧ A (ix2 j j') = (r : EReal) := by
  have := Host.reduce_andi_all _ _ _ _ _ h (ix2 j j')
  pointwise at this
  rw [ofBits_top] at this
  obtain ⟨h1, h2⟩ := IntOp.andi_eq_one.1 this
  have h1 := ofBool_one h1
  have h2 := ofBool_one h2
  obtain ⟨r, hr⟩ : ∃ r : ℝ, A (ix2 j j') = (r : EReal) :=
    ⟨(A (ix2 j j')).toReal, (EReal.coe_toReal h2.ne ((EReal.bot_lt_coe 0).trans_le h1).ne').symm⟩
  rw [hr] at h1
  exact ⟨r, EReal.coe_nonneg.1 h1, hr⟩

/-- A word that is at least 0 and below 1024, read as signed, is a tag. -/
theorem tag_of_word {w : BitVec 32} (h : IntOp.andi (IntOp.cmpi .sge w 0#32) (IntOp.cmpi .slt w 1024#32) = 1#1) :
    ∃ r : Fin 1024, w = BitVec.ofNat 32 r.val := by
  obtain ⟨h1, h2⟩ := IntOp.andi_eq_one.1 h
  have h1 : (0#32).sle w = true := by
    by_contra hn
    have h1 : BitVec.ofBool ((0#32).sle w) = 1#1 := h1
    rw [Bool.eq_false_iff.2 hn] at h1
    exact absurd h1 (by decide)
  have h2 : w.slt 1024#32 = true := by
    by_contra hn
    have h2 : BitVec.ofBool (w.slt 1024#32) = 1#1 := h2
    rw [Bool.eq_false_iff.2 hn] at h2
    exact absurd h2 (by decide)
  have hw : w.toNat < 1024 := by
    rw [BitVec.sle_iff_toInt_le] at h1
    rw [BitVec.slt_iff_toInt_lt] at h2
    have hc := BitVec.toInt_eq_toNat_cond w
    have e0 : (0#32).toInt = 0 := by decide
    have e1 : (1024#32).toInt = 1024 := by decide
    rw [e0] at h1
    rw [e1] at h2
    have := w.isLt
    split at hc <;> omega
  exact ⟨⟨w.toNat, hw⟩, by simp⟩

theorem tags_real {p : S_.Idx} (h : tagsDrawn tg p = 1#1) (b : Fin 4) (i : Fin 20) : ∃ r : Fin 1024, tg (ix2 b i) = BitVec.ofNat 32 r.val := by
  have := Host.reduce_andi_all _ _ _ _ _ h (ix2 b i)
  pointwise at this
  exact tag_of_word this

theorem emSlice_apply (i : Fin 20) (b : Fin 4) (j : Fin 1024) : emSlice EM i (ix2 b j) = EM (ix3 b i j) := by
  pointwise [emSlice]

/-- The precondition's forward scores are the reference's. -/
theorem score_row (g : Given EM tg E A k) (b : Fin 4) : ∀ n, row4 (score EM E A n) b = g.fw b n
  | 0 => funext fun j => (emSlice_apply 0 b j).trans (g.hEM b 0 j)
  | n + 1 => by
    have ih := score_row g b n
    show row4 (nextScore (score EM E A n) (emSlice EM (Fin.ofNat 20 (n + 1))) (trans E A) A) b = _
    generalize score EM E A n = x at ih
    rw [nextScore_row x _ _ _ (trans_real g) b (ev := g.es b (n + 1)) (fun j => (emSlice_apply _ b j).trans (g.hEM b _ j)) fun k => ?_, ih]
    · rfl
    · rw [show x (ix2 b k) = row4 x b k from rfl, ih]
      exact fwd_ne_top _ _ _ _ _

theorem beam_of_untied {x : FVec Ideal S4x1024 .f32} {p : S_.Idx} (h : untied x p = 1#1) (b : Fin 4) : Beam (row4 x b) (five (row4 x b)) := by
  refine beam_five fun r => ?_
  have := Host.reduce_andi_all _ _ _ _ _ h (ix2 b r)
  pointwise at this
  have h6 : ∀ q : Fin 6, six x (ix2 b q) = row4 x b (rank (row4 x b) (place (by norm_num) q)) := fun q => topK6_val x b q
  have := ofBool_one this
  rw [h6, h6] at this
  have hr : (⟨1 + r.val, by omega⟩ : Fin 6) = r.succ := Fin.ext (Nat.add_comm _ _)
  rw [hr] at this
  exact this

theorem untied_of_all {x : ℕ → FVec Ideal S4x1024 .f32} {p : S_.Idx} : ∀ n, allUntied x n p = 1#1 → ∀ i ≤ n, untied (x i) p = 1#1
  | 0, h, i, hi => by
    obtain rfl : i = 0 := by omega
    exact h
  | n + 1, h, i, hi => by
    obtain ⟨h1, h2⟩ := IntOp.andi_eq_one.1 (show IntOp.andi (allUntied x n p) (untied (x (n + 1)) p) = 1#1 from h)
    rcases Nat.lt_or_ge n i with hl | hl
    · obtain rfl : i = n + 1 := by omega
      exact h2
    · exact untied_of_all n h1 i hl

/-- What the precondition says. -/
theorem given (h : Cert.Pre_setup_range.Facts) (hp : Cert.Pre_setup_range.fn EM tg E A k = fun _ => 1#1) :
    ∃ g : Given EM tg E A k, ∀ b, ∀ n < 20, Beam (g.fw b n) (five (g.fw b n)) := by
  have hp := congrFun hp ix0
  rw [fn_eq] at hp
  obtain ⟨h1, h2⟩ := IntOp.andi_eq_one.1 hp
  obtain ⟨hu, hf⟩ := IntOp.andi_eq_one.1 h1
  obtain ⟨hf1, hf2⟩ := IntOp.andi_eq_one.1 hf
  obtain ⟨hd, hm⟩ := IntOp.andi_eq_one.1 h2
  obtain ⟨hd1, hd2⟩ := IntOp.andi_eq_one.1 hd
  choose e he using em_real hf1
  choose v hv using roads_real hf2
  choose a ha0 ha using adj_real hd1
  choose tag htag using tags_real hd2
  let g : Given EM tg E A k := ⟨e, v, a, tag, he, hv, ha, ha0, htag, fun b i => Host.reduce_andi_all _ _ _ _ _ hm (ix2 b i)⟩
  refine ⟨g, fun b n hn => ?_⟩
  have := beam_of_untied (untied_of_all 19 hu n (by omega)) b
  rwa [score_row g b n] at this

end Cert.Crf.Pre

end
-- ==== Proof.Path.lean ====
/-
  The kernel's score of the given paths: with the tags as one-hot rows, its two sums over the eighty positions are the
  sums over the sequences of what each position gains.
-/
module

public import proofs.«01_k».proof.Proof.KIdx
public import proofs.«01_k».proof.Proof.Given

@[expose] public section

set_option maxRecDepth 16384

noncomputable section

namespace Cert.Crf

open Idealize.ShloMosaic Cert.KernelIdeal Cert.KernelIdeal.Gen Idealize.ShloMosaic.Pointwise

/-- Eighty positions are four sequences of twenty. -/
theorem sum_eighty (f : Fin 80 → EReal) : ∑ q, f q = ∑ b : Fin 4, ∑ i : Fin 20, f (pos b i) := by
  refine (finProdFinEquiv (m := 4) (n := 20)).sum_comp f |>.symm.trans ?_
  rw [Fintype.sum_prod_type]
  refine Finset.sum_congr rfl fun b _ => Finset.sum_congr rfl fun i _ => congrArg f (Fin.ext ?_)
  exact Nat.add_comm i.val (20 * b.val)

/-- A number as a word tells the tags apart. -/
theorem ofNat_inj (k j : Fin 1024) : BitVec.ofNat 32 k.val = BitVec.ofNat 32 j.val ↔ k = j := by
  constructor
  · intro h
    have := congrArg BitVec.toNat h
    simp only [BitVec.toNat_ofNat] at this
    exact Fin.ext (by omega)
  · rintro rfl; rfl

theorem sum_at (a : Fin 1024) (f : Fin 1024 → EReal) : ∑ k, (if k = a then 1 else 0) * f k = f a := by
  simp only [ite_mul, one_mul, zero_mul, Finset.sum_ite_eq', Finset.mem_univ, if_true]

theorem sum_at' (a : Fin 1024) (f : Fin 1024 → EReal) : ∑ k, f k * (if k = a then 1 else 0) = f a := by
  simp only [mul_comm (f _), sum_at]

section
variable {EM : FVec Ideal ⟨3, ![4, 20, 1024]⟩ .f32} {tg : IVec ⟨2, ![4, 20]⟩ 32} {E : FVec Ideal ⟨2, ![1024, 128]⟩ .f32}
  {A : FVec Ideal ⟨2, ![1024, 1024]⟩ .f32} {k : IVec ⟨2, ![4, 20]⟩ 1} (g : Given EM tg E A k)

/-- The kernel's transition scores. -/
theorem trt_real (k j : Fin 1024) : trt E A (ix2 k j) = (g.t k j : EReal) := by
  rw [trt_apply, g.hA, g.dot_coe, ← EReal.coe_mul, ← EReal.coe_zero, Given.coe_max]
  rfl

variable {X : FVec Ideal S80x1024 .f32} {w : IVec S80x1 32}
  (hX : ∀ (b : Fin 4) (i : Fin 20) (k : Fin 1024), X (ix2 (pos b i) k) = (g.es b i.val k : EReal))
  (hw : ∀ (b : Fin 4) (i : Fin 20), w (ix2 (pos b i) 0) = BitVec.ofNat 32 (g.tags b i.val).val)
include hw

theorem onehot_at (b : Fin 4) (i : Fin 20) (k : Fin 1024) :
    onehot (F := Ideal) w (ix2 (pos b i) k) = if k = g.tags b i.val then 1 else 0 := by
  rw [onehot_apply, hw]
  exact if_congr (ofNat_inj _ _) rfl rfl

/-- The transition into a position from the one before it in its sequence. -/
theorem pathTrans_at (b : Fin 4) (i : Fin 20) (hi : i.val ≠ 0) :
    pathTrans w (trt E A) (ix2 (pos b i) 0) = (g.hop b i.val : EReal) := by
  rw [pathTrans_apply _ _ _ (by show 20 * b.val + i.val ≠ 0; omega)]
  have hp : ∀ x : Fin 1024, onehot (F := Ideal) w (ix2 ⟨(pos b i).val - 1, by show 20 * b.val + i.val - 1 < 80; omega⟩ x) = if x = g.tags b (i.val - 1) then 1 else 0 := fun x => by
    rw [← onehot_at g hw b ⟨i.val - 1, by omega⟩ x]
    exact congrArg (fun q => onehot (F := Ideal) w (ix2 q x)) (Fin.ext (by show 20 * b.val + i.val - 1 = 20 * b.val + (i.val - 1); omega))
  simp only [onehot_at g hw b i, hp, sum_at, sum_at', trt_real g]
  rw [EReal.coe_eq_coe_iff, Given.hop, if_neg hi, Given.t, Given.relu_mul (g.nonneg _ _), Given.dot_comm]

include hX

/-- The kernel's path score. -/
theorem numTotal_eq : numTotal X w (trt E A) = ((∑ b, ∑ i ∈ Finset.range 20, g.gain b i : ℝ) : EReal) := by
  show sum80 _ + sum80 _ = _
  rw [sum80_apply, sum80_apply, sum_eighty, sum_eighty, ← Finset.sum_add_distrib]
  rw [← coe_sum]
  refine Finset.sum_congr rfl fun b _ => ?_
  rw [← Finset.sum_add_distrib, Finset.sum_range, ← coe_sum]
  refine Finset.sum_congr rfl fun i _ => ?_
  rw [rowSum80_apply]
  have h1 : ∑ k, mulf X (onehot w) (ix2 (pos b i) k) = (g.es b i.val (g.tags b i.val) : EReal) := by
    rw [← hX, ← sum_at' (g.tags b i.val) fun k => X (ix2 (pos b i) k)]
    refine Finset.sum_congr rfl fun k _ => ?_
    rw [← onehot_at g hw]
    rfl
  have h2 : select starts (broadcast S80x1 (Scalar.ofBits (F := Ideal) .f32 0x00000000#32)) (pathTrans w (trt E A))
      (ix2 (pos b i) 0) = (g.hop b i.val : EReal) := by
    show Scalar.select (starts _) _ _ = _
    rw [starts_apply, select_ofBool]
    by_cases hi : i.val = 0
    · rw [if_pos (by show (20 * b.val + i.val) % 20 = 0; omega), Given.hop, if_pos hi]
      exact Ideal.ofBits_zero_f32
    · rw [if_neg (by show ¬ (20 * b.val + i.val) % 20 = 0; omega)]
      exact pathTrans_at g hw b i hi
  rw [h1, h2, ← EReal.coe_add, add_comm]
  rfl

end

end Cert.Crf

end
-- ==== Proof.KernelValue.lean ====
/-
  What the kernel's run leaves: its result array holds `res` of the reshaped arguments.
-/
module

public import proofs.«01_k».proof.Proof.KernelRun
public import Idealize.ShloMosaic.Lib.Pipeline.ValueKit
public import Idealize.ShloMosaic.Lib.Claim
public import Idealize.ShloMosaic.Lib.StableHlo.ReadAt

@[expose] public section

set_option maxRecDepth 16384

noncomputable section

namespace Cert.Crf.KernelRun

open Cert.KernelIdeal Cert.KernelIdeal.Gen
open Idealize.ShloMosaic Idealize.ShloMosaic.TcCoe Idealize.ShloMosaic.Tactic Idealize.ShloMosaic.StableHlo
open Idealize.SL Idealize.SL.RA Idealize.SL.BI Idealize.SL.Sem
open Idealize.ShloMosaic.Pipeline (Dat)

variable {F : FTy → Type} [FloatOps F]
variable (m : (ℓ : Loc nD τ sig) → Buf (Elt F) ℓ) (ρ : Dev nD → PrngReg)

/-- The emissions and the tags by position. -/
def em80 (c : Dev nD) : FVec F S80x1024 .f32 := shapeCast S80x1024 (m ((c : Thread nD τ).loc main_arg0) : FVec F S4x20x1024 .f32) shapeCasts_S4x20x1024_S80x1024
def tg80 (c : Dev nD) : IVec S80x1 32 := shapeCast S80x1 (m ((c : Thread nD τ).loc main_arg1) : IVec S4x20 32) shapeCasts_S4x20_S80x1

theorem V_main_v0 (c : Dev nD) : V m c main_v0 = em80 m c := by
  entry_read
  rfl

theorem V_main_v1 (c : Dev nD) : V m c main_v1 = tg80 m c := by
  entry_read
  rfl

/-- Each window's block is its whole array. -/
theorem iblk_0 (c : Dev nD) (t : Fin cfg0.N) : iblk m c 0 t = em80 m c := by
  have h0 : ∀ a, win0_0.index t a = 0 := fun _ => rfl
  refine Eq.trans (funext fun i => ?_) (V_main_v0 m c)
  blk_ext [iblk, h0]

theorem iblk_1 (c : Dev nD) (t : Fin cfg0.N) : iblk m c 1 t = tg80 m c := by
  have h0 : ∀ a, win0_1.index t a = 0 := fun _ => rfl
  refine Eq.trans (funext fun i => ?_) (V_main_v1 m c)
  blk_ext [iblk, h0]

theorem iblk_2 (c : Dev nD) (t : Fin cfg0.N) : iblk m c 2 t = m ((c : Thread nD τ).loc main_arg2) := by
  have h0 : ∀ a, win0_2.index t a = 0 := fun _ => rfl
  refine Eq.trans (funext fun i => ?_) (V_main_arg2 m c)
  blk_ext [iblk, h0]

theorem iblk_3 (c : Dev nD) (t : Fin cfg0.N) : iblk m c 3 t = m ((c : Thread nD τ).loc main_arg3) := by
  have h0 : ∀ a, win0_3.index t a = 0 := fun _ => rfl
  refine Eq.trans (funext fun i => ?_) (V_main_arg3 m c)
  blk_ext [iblk, h0]

/-- What the body stores fills its buffer and is computed from whole buffers. -/
theorem stored_eq (EM : Vec F S80x1024 .f32) (tg : Vec F S80x1 .i32) (E : Vec F S1024x128 .f32) (A : Vec F S1024x1024 .f32) :
    stored EM tg E A = res EM tg E A := by
  unfold stored
  refine (View.canon_cons_unit_lit _ _ _ (by decide)).trans ?_
  rw [View.ld_unit_lit _ _ (by decide), View.ld_unit_lit _ _ (by decide), View.ld_unit_lit _ _ (by decide), View.ld_unit_lit _ _ (by decide)]

/-- The value that the region leaves in its output. -/
def left (c : Dev nD) : FVec F S1x1 .f32 :=
  res (em80 m c) (tg80 m c) (m ((c : Thread nD τ).loc main_arg2)) (m ((c : Thread nD τ).loc main_arg3))

theorem arrAt_4 (c : Dev nD) : (dats m 0 c).arrAt 4 cfg0.N = left m c := by
  refine (dats m 0 c).arrAt_eq_of_after_last 4 t0_0 (by decide +kernel) _ fun j => ?_
  rw [after_4, iblk_0, iblk_1, iblk_2, iblk_3, stored_eq]
  rfl

/-- The run. -/
theorem run : θ_run defs (onTc (τ := τ) (main (F := F))) ⟨m, fun _ => 0, ρ⟩ (fun r => ∀ c : Dev nD,
      r.2.mem ((c.tc : Thread nD τ).loc main_v3) = shapeCast S_ (left m c) shapeCasts_S1x1_S_) := by
  refine (θ_run defs _ _).mono (fun r h c => ?_) (run_quiet m ρ)
  refine (h.1 c).2 main_v3 (by decide) |>.trans ?_
  unfold Pipeline.afterTail₀
  simp only [List.flatten_cons, List.flatten_nil, List.append_nil]
  after_reads_simp
  rw [Pipeline.withArrays_arr spec0 winFacts0.arr_inj c (V0 m c) (fun w => (dats m 0 c).arrAt w cfg0.N) 4]
  rw [arrAt_4]
  rfl

end Cert.Crf.KernelRun

end
-- ==== Proof.Answer.lean ====
/-
  The kernel's number is the reference's: the kernel subtracts the sum of the normalisers from the sum of the path
  scores, the reference sums the differences, and with real values the two are equal.
-/
module

public import proofs.«01_k».proof.Proof.Pass
public import proofs.«01_k».proof.Proof.Path
public import proofs.«01_k».proof.Proof.RefLoop
public import proofs.«01_k».proof.Proof.KernelValue

@[expose] public section

set_option maxRecDepth 16384

noncomputable section

namespace Cert.Crf

open Idealize.ShloMosaic Cert.KernelIdeal Cert.KernelIdeal.Gen Idealize.ShloMosaic.Pointwise

theorem ofBits_eighty : Ideal.ofBits .f32 0x42A00000#32 = ((80 : ℝ) : EReal) := by
  simp [Ideal.ofBits, Ideal.ieee]
  rw [← EReal.coe_mul, EReal.coe_eq_coe_iff]
  norm_num

/-- The constant added to every normaliser is a real number. -/
theorem ofBits_shift : ∃ r : ℝ, Ideal.ofBits .f32 0x40AA4E1A#32 = (r : EReal) := by
  simp [Ideal.ofBits, Ideal.ieee]
  exact ⟨11161114 * (2 ^ 21)⁻¹, by rw [← EReal.coe_mul]⟩

/-- A sum of differences is the difference of the sums. -/
theorem mean_eq (n : Fin 4 → ℝ) (D : Fin 4 → EReal) (hD : ∀ b, ∃ r : ℝ, D b = (r : EReal)) (d : FVec Ideal S4x1 .f32)
    (hd : ∀ b, d (ix2 b 0) = D b) : mean ((∑ b, n b : ℝ) : EReal) d = Ref.value n D := by
  choose r hr using hD
  show Ideal.div (_ - sum4 d) (Ideal.ofBits .f32 0x42A00000#32) = _
  rw [sum4_apply, ofBits_eighty, Ref.value]
  simp only [hd, hr]
  rw [coe_sum, ← EReal.coe_sub]
  simp only [← EReal.coe_sub]
  rw [coe_sum, Finset.sum_sub_distrib]

/-- The kernel's result at its one place. -/
theorem res_apply {F : FTy → Type} [FloatOps F] (X : FVec F S80x1024 .f32) (w : IVec S80x1 32) (E : FVec F S1024x128 .f32)
    (A : FVec F S1024x1024 .f32) (i : S1x1.Idx) :
    res X w E A i = if okBit X E A = 1#1 then fastRes X w E A else exactRes X w E A := by
  unfold res
  rfl

section
variable {EM : FVec Ideal ⟨3, ![4, 20, 1024]⟩ .f32} {tg : IVec ⟨2, ![4, 20]⟩ 32} {E : FVec Ideal ⟨2, ![1024, 128]⟩ .f32}
  {A : FVec Ideal ⟨2, ![1024, 1024]⟩ .f32} {k : IVec ⟨2, ![4, 20]⟩ 1} (g : Given EM tg E A k)
  (hb : ∀ b, ∀ n < 20, Beam (g.fw b n) (five (g.fw b n)))
include hb

/-- The number both programs compute. -/
def answer : EReal :=
  Ref.value (fun b => ∑ i ∈ Finset.range 20, g.gain b i) (fun b => bestLse (g.fw b 19) + Ideal.ofBits .f32 0x40AA4E1A#32)

theorem den_real (b : Fin 4) : ∃ r : ℝ, bestLse (g.fw b 19) + Ideal.ofBits .f32 0x40AA4E1A#32 = (r : EReal) := by
  obtain ⟨r, hr⟩ := ofBits_shift
  obtain ⟨y, hy⟩ := beam_real (hb b 19 (by norm_num)) (fwd_ne_top _ _ _ 19)
  exact ⟨_, by rw [bestLse_real (hb b 19 (by norm_num)) hy, hr, ← EReal.coe_add]⟩

variable {X : FVec Ideal S80x1024 .f32} {w : IVec S80x1 32}
  (hX : ∀ (b : Fin 4) (i : Fin 20) (k : Fin 1024), X (ix2 (pos b i) k) = (g.es b i.val k : EReal))
  (hw : ∀ (b : Fin 4) (i : Fin 20), w (ix2 (pos b i) 0) = BitVec.ofNat 32 (g.tags b i.val).val)
include hX hw

/-- The kernel's number, by either of its two passes. -/
theorem res_eq (i : S1x1.Idx) : res X w E A i = answer g := by
  have hX' : ∀ (b : Fin 4) (i : Fin 20) (k : Fin 1024), emOf X (ix2 (pos b i) k) = (g.es b i.val k : EReal) := fun b i k => by
    rw [← hX]; pointwise [emOf]
  have hw' : ∀ (b : Fin 4) (i : Fin 20), tagOf w (ix2 (pos b i) 0) = BitVec.ofNat 32 (g.tags b i.val).val := fun b i => by
    rw [← hw]; pointwise [tagOf]
  rw [res_apply]
  by_cases hok : okBit X E A = 1#1
  · rw [if_pos hok, fastRes, numTotal_eq g hX' hw']
    exact mean_eq _ _ (den_real g hb) _ fun b => fastDen_apply (trt_real g) hX' b (hb b) hok
  · rw [if_neg hok, exactRes, numTotal_eq g hX' hw']
    exact mean_eq _ _ (den_real g hb) _ fun b => exactDen_apply (trt_real g) hX' b (hb b)

end

/-- The emissions and the tags by position, at an entry. -/
theorem em80_at (m : (ℓ : Loc nD τ sig) → Buf (Elt Ideal) ℓ) (c : Dev nD) (b : Fin 4) (i : Fin 20) (k : Fin 1024) :
    KernelRun.em80 m c (ix2 (pos b i) k) = (m (c.tc.loc main_arg0) : FVec Ideal S4x20x1024 .f32) (ix3 b i k) := by
  refine shapeCast_apply (s := S4x20x1024) _ _ _ _ ?_
  rw [Shape.rowMajor_val_two, Shape.rowMajor_val_three]
  show (b.val * 20 + i.val) * 1024 + k.val = (20 * b.val + i.val) * 1024 + k.val
  omega

theorem tg80_at (m : (ℓ : Loc nD τ sig) → Buf (Elt Ideal) ℓ) (c : Dev nD) (b : Fin 4) (i : Fin 20) :
    KernelRun.tg80 m c (ix2 (pos b i) 0) = (m (c.tc.loc main_arg1) : IVec S4x20 32) (ix2 b i) := by
  refine shapeCast_apply (s := S4x20) _ _ _ _ ?_
  rw [Shape.rowMajor_val_two, Shape.rowMajor_val_two]
  show b.val * 20 + i.val = (20 * b.val + i.val) * 1 + 0
  omega

end Cert.Crf

end
-- ==== Proof.Agree.lean ====
/-
  The algebraic claim: under the precondition the kernel's run and the reference's end with the same number.
-/
module

public import proofs.«01_k».proof.Defs
public import proofs.«01_k».proof.Proof.PreRead
public import proofs.«01_k».proof.Proof.PreFacts
public import proofs.«01_k».proof.Proof.Answer
public import proofs.«01_k».proof.Proof.Gen.ReferenceIdeal.Run

@[expose] public section

set_option maxRecDepth 16384

noncomputable section

namespace Cert.Crf

open Idealize.ShloMosaic Idealize.ShloMosaic.TcCoe Idealize.SL.Sem Idealize.ShloMosaic.Pointwise

/-- The kernel's result is the answer. -/
theorem left_eq (m : (ℓ : Loc KernelIdeal.nD KernelIdeal.τ KernelIdeal.sig) → Buf (Elt Ideal) ℓ) (c : Dev KernelIdeal.nD)
    (g : Given (m (c.tc.loc KernelIdeal.main_arg0)) (m (c.tc.loc KernelIdeal.main_arg1)) (m (c.tc.loc KernelIdeal.main_arg2))
      (m (c.tc.loc KernelIdeal.main_arg3)) (m (c.tc.loc KernelIdeal.main_arg4)))
    (hb : ∀ b, ∀ n < 20, Beam (g.fw b n) (five (g.fw b n))) (i : KernelIdeal.S1x1.Idx) : KernelRun.left m c i = answer g := by
  refine res_eq g hb (fun b i k => ?_) (fun b i => ?_) i
  · rw [em80_at, g.hEM, Given.es, Given.ofNat_val]
  · rw [tg80_at, g.hTag, Given.tags, Given.ofNat_val]

/-- The reference's result is the answer. -/
theorem out_eq (m : (ℓ : Loc ReferenceIdeal.nD ReferenceIdeal.τ ReferenceIdeal.sig) → Buf (Elt Ideal) ℓ) (c : Dev ReferenceIdeal.nD)
    {EM : FVec Ideal ⟨3, ![4, 20, 1024]⟩ .f32} {tg : IVec ⟨2, ![4, 20]⟩ 32} {E : FVec Ideal ⟨2, ![1024, 128]⟩ .f32}
    {A : FVec Ideal ⟨2, ![1024, 1024]⟩ .f32} {k : IVec ⟨2, ![4, 20]⟩ 1} (g : Given EM tg E A k)
    (h0 : m (c.tc.loc ReferenceIdeal.main_arg0) = EM) (h1 : m (c.tc.loc ReferenceIdeal.main_arg1) = tg)
    (h2 : m (c.tc.loc ReferenceIdeal.main_arg2) = E) (h3 : m (c.tc.loc ReferenceIdeal.main_arg3) = A)
    (h4 : m (c.tc.loc ReferenceIdeal.main_arg4) = k) (i : ReferenceIdeal.S_.Idx) :
    (Cert.ReferenceIdeal.Value.out_main_v50 (Crf.Ref.at' m c 19) : FVec Ideal ReferenceIdeal.S_ .f32) i = answer g := by
  subst h0 h1 h2 h3 h4
  exact Crf.Ref.result_at g i

theorem algebraic : Cert.algebraic_KernelIdeal_ReferenceIdeal_pre_setup_range (hKernelIdeal := Cert.KernelIdeal.Gen.facts)
    (hReferenceIdeal := Cert.ReferenceIdeal.Gen.facts) (hPre_setup_range := preFacts) := by
  intro m γ m' γ' hpre hagree
  refine ⟨fun c => shapeCast KernelIdeal.S_ (KernelRun.left m c) KernelIdeal.Gen.facts.shapeCasts_S1x1_S_, ?_, ?_⟩
  · exact (θ_run _ _ _).mono (fun r h c => ⟨h.1 c, h.2 c⟩) (θ_run_and (KernelRun.run m γ) (KernelRun.kept m γ))
  · refine (θ_run _ _ _).mono (fun r h c => ⟨(h c).1.trans ?_, (h c).2⟩) (Cert.ReferenceIdeal.Value.run m' γ')
    obtain ⟨g, hb⟩ := Pre.given _ (hpre c)
    obtain ⟨h0, h1, h2, h3, h4⟩ := hagree c
    funext i
    exact (out_eq m' c g h0 h1 h2 h3 h4 i).trans (left_eq m c g hb _).symm

end Cert.Crf

end
-- ==== Proof.lean ====
/-
  The certificate's claims, assembled.
-/
module

public import proofs.«01_k».proof.Defs
public import proofs.«01_k».proof.Proof.KernelFrame
public import proofs.«01_k».proof.Proof.KernelRun
public import proofs.«01_k».proof.Proof.RefFrame
public import proofs.«01_k».proof.Proof.Agree

@[expose] public section

noncomputable section

namespace Cert.Proof

open Idealize.ShloMosaic Idealize.SL.Sem

/-- The frames of the three programs, with the precondition and without it, and the equation of the two results. -/
theorem claim : Cert.Claim := ⟨Cert.Kernel.Gen.facts, Cert.KernelIdeal.Gen.facts, Cert.ReferenceIdeal.Gen.facts, Cert.Crf.preFacts,
  fun m g _ => Cert.Crf.KernelFrame.frame m g,
  fun m g _ => Cert.Crf.KernelRun.frame m g,
  fun m g _ => Cert.Crf.KernelRun.frame m g,
  fun m g _ => Cert.Crf.RefFrame.frame m g,
  fun m g _ => Cert.Crf.RefFrame.frame m g,
  trivial,
  Cert.Crf.algebraic⟩

end Cert.Proof

end
